-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pages_given_KernelIdeal [hPre_pages_given_KernelIdeal : Cert.Pre_pages_given_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pages_given_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_given_ReferenceIdeal [hPre_pages_given_ReferenceIdeal : Cert.Pre_pages_given_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_given_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pages_given_KernelIdeal [hKernelIdeal : Cert.KernelIdeal.Facts] [hPre_pages_given_KernelIdeal : Cert.Pre_pages_given_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_given_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_given_ReferenceIdeal [hReferenceIdeal : Cert.ReferenceIdeal.Facts] [hPre_pages_given_ReferenceIdeal : Cert.Pre_pages_given_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_given_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_pages_given_KernelIdeal [hKernelIdeal : Cert.KernelIdeal.Facts] [hReferenceIdeal : Cert.ReferenceIdeal.Facts] [hPre_pages_given_KernelIdeal : Cert.Pre_pages_given_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_given_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pages_given_KernelIdeal : Cert.Pre_pages_given_KernelIdeal.Facts) (hPre_pages_given_ReferenceIdeal : Cert.Pre_pages_given_ReferenceIdeal.Facts),
    quiescent_Kernel (hKernel := hKernel)
    ∧ quiescent_KernelIdeal (hKernelIdeal := hKernelIdeal)
    ∧ quiescent_KernelIdeal_pre_pages_given_KernelIdeal (hKernelIdeal := hKernelIdeal) (hPre_pages_given_KernelIdeal := hPre_pages_given_KernelIdeal)
    ∧ quiescent_ReferenceIdeal (hReferenceIdeal := hReferenceIdeal)
    ∧ quiescent_ReferenceIdeal_pre_pages_given_ReferenceIdeal (hReferenceIdeal := hReferenceIdeal) (hPre_pages_given_ReferenceIdeal := hPre_pages_given_ReferenceIdeal)
    ∧ preserves_Kernel_KernelIdeal
    ∧ algebraic_KernelIdeal_ReferenceIdeal_pre_pages_given_KernelIdeal (hKernelIdeal := hKernelIdeal) (hReferenceIdeal := hReferenceIdeal) (hPre_pages_given_KernelIdeal := hPre_pages_given_KernelIdeal)
-- ==== Pre_pages_given_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  bcast_S_S32x1 : S_.BroadcastsInDim S32x1 (![] : Fin 0 → Fin S32x1.rank)
  reducesTo_S32x1_S_d0_1 : S32x1.ReducesTo [0, 1] S_
  reducesTo_S32x256_S_d0_1 : S32x256.ReducesTo [0, 1] S_

variable [Facts]

def fn_part1 {F : FTy → Type} [FloatOps F] (main_arg4 : IVec S32x1 32) (main_v4 : IVec S32x256 1) (main_v9 : IVec S32x256 1) (main_v13 : IVec S_ 1) (main_v17 : IVec S_ 1) : IVec S_ 1 :=
  let main_v18 : IVec S_ 1 := andi main_v13 main_v17
  let main_c_4 : IVec S_ 32 := constantI S_ 32 1#32
  let main_v19 : IVec S32x1 32 := broadcastInDim S32x1 ![] bcast_S_S32x1 main_c_4
  let main_v20 : IVec S32x1 1 := cmpi .sge main_arg4 main_v19
  let main_c_5 : IVec S_ 1 := constantI S_ 1 1#1
  let main_v21 : IVec S_ 1 := (fun x v => Host.reduce IntOp.andi x v reducesTo_S32x1_S_d0_1 h_S_) main_v20 main_c_5
  let main_v22 : IVec S_ 1 := andi main_v18 main_v21
  let main_v23 : IVec S32x256 1 := noti main_v4
  let main_v24 : IVec S32x256 1 := ori main_v9 main_v23
  let main_c_6 : IVec S_ 1 := constantI S_ 1 1#1
  let main_v25 : IVec S_ 1 := (fun x v => Host.reduce IntOp.andi x v reducesTo_S32x256_S_d0_1 h_S_) main_v24 main_c_6
  let main_v26 : IVec S_ 1 := andi main_v22 main_v25
  main_v26

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32x1 32) : IVec S_ 1 :=
  let main_v0 : IVec S256 32 := iotaInDim S256 32 0
  let main_v1 : IVec S1x256 32 := broadcastInDim S1x256 ![1] bcast_S256_S1x256_1 main_v0
  let main_v2 : IVec S32x256 32 := broadcastInDim S32x256 ![0, 1] bcast_S1x256_S32x256_0_1 main_v1
  let main_v3 : IVec S32x256 32 := broadcastInDim S32x256 ![0, 1] bcast_S32x1_S32x256_0_1 main_arg4
  let main_v4 : IVec S32x256 1 := cmpi .slt main_v2 main_v3
  let main_c : IVec S_ 32 := constantI S_ 32 0#32
  let main_v5 : IVec S32x256 32 := broadcastInDim S32x256 ![] bcast_S_S32x256 main_c
  let main_v6 : IVec S32x256 1 := cmpi .sge main_arg3 main_v5
  let main_c_0 : IVec S_ 32 := constantI S_ 32 512#32
  let main_v7 : IVec S32x256 32 := broadcastInDim S32x256 ![] bcast_S_S32x256 main_c_0
  let main_v8 : IVec S32x256 1 := cmpi .slt main_arg3 main_v7
  let main_v9 : IVec S32x256 1 := andi main_v6 main_v8
  let main_v10 : FVec F S32x1x16x128 .f32 := Host.absf main_arg0
  let main_cst : FVec F S_ .f32 := constant S_ .f32 0x7F800000#32
  let main_v11 : FVec F S32x1x16x128 .f32 := broadcastInDim S32x1x16x128 ![] bcast_S_S32x1x16x128 main_cst
  let main_v12 : IVec S32x1x16x128 1 := cmpf .olt main_v10 main_v11
  let main_c_1 : IVec S_ 1 := constantI S_ 1 1#1
  let main_v13 : IVec S_ 1 := (fun x v => Host.reduce IntOp.andi x v reducesTo_S32x1x16x128_S_d0_1_2_3 h_S_) main_v12 main_c_1
  let main_v14 : FVec F S256x32x16x128 .f32 := Host.absf main_arg1
  let main_cst_2 : FVec F S_ .f32 := constant S_ .f32 0x7F800000#32
  let main_v15 : FVec F S256x32x16x128 .f32 := broadcastInDim S256x32x16x128 ![] bcast_S_S256x32x16x128 main_cst_2
  let main_v16 : IVec S256x32x16x128 1 := cmpf .olt main_v14 main_v15
  let main_c_3 : IVec S_ 1 := constantI S_ 1 1#1
  let main_v17 : IVec S_ 1 := (fun x v => Host.reduce IntOp.andi x v reducesTo_S256x32x16x128_S_d0_1_2_3 h_S_) main_v16 main_c_3
  fn_part1 (F := F) main_arg4 main_v4 main_v9 main_v13 main_v17
-- ==== Pre_pages_given_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32x1 : Shape := ⟨2, ![32, 1]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S512x32x16x128 : S_.BroadcastsInDim S512x32x16x128 (![] : Fin 0 → Fin S512x32x16x128.rank)
  reducesTo_S512x32x16x128_S_d0_1_2_3 : S512x32x16x128.ReducesTo [0, 1, 2, 3] S_
  bcast_S_S32x1 : S_.BroadcastsInDim S32x1 (![] : Fin 0 → Fin S32x1.rank)
  reducesTo_S32x1_S_d0_1 : S32x1.ReducesTo [0, 1] S_
  reducesTo_S32x256_S_d0_1 : S32x256.ReducesTo [0, 1] S_

variable [Facts]

def fn_part1 {F : FTy → Type} [FloatOps F] (main_arg4 : IVec S32x1 32) (main_v4 : IVec S32x256 1) (main_v9 : IVec S32x256 1) (main_v13 : IVec S_ 1) (main_v17 : IVec S_ 1) : IVec S_ 1 :=
  let main_v18 : IVec S_ 1 := andi main_v13 main_v17
  let main_c_4 : IVec S_ 32 := constantI S_ 32 1#32
  let main_v19 : IVec S32x1 32 := broadcastInDim S32x1 ![] bcast_S_S32x1 main_c_4
  let main_v20 : IVec S32x1 1 := cmpi .sge main_arg4 main_v19
  let main_c_5 : IVec S_ 1 := constantI S_ 1 1#1
  let main_v21 : IVec S_ 1 := (fun x v => Host.reduce IntOp.andi x v reducesTo_S32x1_S_d0_1 h_S_) main_v20 main_c_5
  let main_v22 : IVec S_ 1 := andi main_v18 main_v21
  let main_v23 : IVec S32x256 1 := noti main_v4
  let main_v24 : IVec S32x256 1 := ori main_v9 main_v23
  let main_c_6 : IVec S_ 1 := constantI S_ 1 1#1
  let main_v25 : IVec S_ 1 := (fun x v => Host.reduce IntOp.andi x v reducesTo_S32x256_S_d0_1 h_S_) main_v24 main_c_6
  let main_v26 : IVec S_ 1 := andi main_v22 main_v25
  main_v26

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32x1 32) : IVec S_ 1 :=
  let main_v0 : IVec S256 32 := iotaInDim S256 32 0
  let main_v1 : IVec S1x256 32 := broadcastInDim S1x256 ![1] bcast_S256_S1x256_1 main_v0
  let main_v2 : IVec S32x256 32 := broadcastInDim S32x256 ![0, 1] bcast_S1x256_S32x256_0_1 main_v1
  let main_v3 : IVec S32x256 32 := broadcastInDim S32x256 ![0, 1] bcast_S32x1_S32x256_0_1 main_arg4
  let main_v4 : IVec S32x256 1 := cmpi .slt main_v2 main_v3
  let main_c : IVec S_ 32 := constantI S_ 32 0#32
  let main_v5 : IVec S32x256 32 := broadcastInDim S32x256 ![] bcast_S_S32x256 main_c
  let main_v6 : IVec S32x256 1 := cmpi .sge main_arg3 main_v5
  let main_c_0 : IVec S_ 32 := constantI S_ 32 512#32
  let main_v7 : IVec S32x256 32 := broadcastInDim S32x256 ![] bcast_S_S32x256 main_c_0
  let main_v8 : IVec S32x256 1 := cmpi .slt main_arg3 main_v7
  let main_v9 : IVec S32x256 1 := andi main_v6 main_v8
  let main_v10 : FVec F S32x1x16x128 .f32 := Host.absf main_arg0
  let main_cst : FVec F S_ .f32 := constant S_ .f32 0x7F800000#32
  let main_v11 : FVec F S32x1x16x128 .f32 := broadcastInDim S32x1x16x128 ![] bcast_S_S32x1x16x128 main_cst
  let main_v12 : IVec S32x1x16x128 1 := cmpf .olt main_v10 main_v11
  let main_c_1 : IVec S_ 1 := constantI S_ 1 1#1
  let main_v13 : IVec S_ 1 := (fun x v => Host.reduce IntOp.andi x v reducesTo_S32x1x16x128_S_d0_1_2_3 h_S_) main_v12 main_c_1
  let main_v14 : FVec F S512x32x16x128 .f32 := Host.absf main_arg1
  let main_cst_2 : FVec F S_ .f32 := constant S_ .f32 0x7F800000#32
  let main_v15 : FVec F S512x32x16x128 .f32 := broadcastInDim S512x32x16x128 ![] bcast_S_S512x32x16x128 main_cst_2
  let main_v16 : IVec S512x32x16x128 1 := cmpf .olt main_v14 main_v15
  let main_c_3 : IVec S_ 1 := constantI S_ 1 1#1
  let main_v17 : IVec S_ 1 := (fun x v => Host.reduce IntOp.andi x v reducesTo_S512x32x16x128_S_d0_1_2_3 h_S_) main_v16 main_c_3
  fn_part1 (F := F) main_arg4 main_v4 main_v9 main_v13 main_v17
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S32x2048 : Shape := ⟨2, ![32, 2048]⟩
abbrev S32x8192 : Shape := ⟨2, ![32, 8192]⟩
abbrev S8x32x128 : Shape := ⟨3, ![8, 32, 128]⟩
abbrev S8x32x1 : Shape := ⟨3, ![8, 32, 1]⟩
abbrev S2x256x32x128 : Shape := ⟨4, ![2, 256, 32, 128]⟩
abbrev S2x4 : Shape := ⟨2, ![2, 4]⟩
abbrev S2x8 : Shape := ⟨2, ![2, 8]⟩
abbrev S2 : Shape := ⟨1, ![2]⟩
abbrev S1x1 : Shape := ⟨2, ![1, 1]⟩
abbrev S_ : Shape := ⟨0, ![]⟩
abbrev S1x64x32x128 : Shape := ⟨4, ![1, 64, 32, 128]⟩
abbrev S64x32x128 : Shape := ⟨3, ![64, 32, 128]⟩
abbrev S64x32x1x128 : Shape := ⟨4, ![64, 32, 1, 128]⟩
abbrev S1x1x256 : Shape := ⟨3, ![1, 1, 256]⟩
abbrev S1x256x1 : Shape := ⟨3, ![1, 256, 1]⟩
abbrev S32x256x1 : Shape := ⟨3, ![32, 256, 1]⟩
abbrev S32x256x256 : Shape := ⟨3, ![32, 256, 256]⟩
abbrev S32x1x1 : Shape := ⟨3, ![32, 1, 1]⟩
abbrev S256x8192 : Shape := ⟨2, ![256, 8192]⟩
abbrev S32x1x1x128 : Shape := ⟨4, ![32, 1, 1, 128]⟩
abbrev S32x128 : Shape := ⟨2, ![32, 128]⟩
abbrev S1x256x32x128 : Shape := ⟨4, ![1, 256, 32, 128]⟩
abbrev S256x32x128 : Shape := ⟨3, ![256, 32, 128]⟩
abbrev S8192x128 : Shape := ⟨2, ![8192, 128]⟩
abbrev S32 : Shape := ⟨1, ![32]⟩
abbrev S1x32x128 : Shape := ⟨3, ![1, 32, 128]⟩
abbrev S1x32x1 : Shape := ⟨3, ![1, 32, 1]⟩
abbrev S1 : Shape := ⟨1, ![1]⟩
abbrev S32x1024 : Shape := ⟨2, ![32, 1024]⟩

abbrev nBuf : Space → Nat
  | .hbm => 6
  | .vmem => 11
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32x1, .i32⟩
  | .hbm, ⟨5, _⟩ => ⟨S32x2048, .f32⟩
  | .local _ .vmem, ⟨0, _⟩ => ⟨S32x1x16x128, .f32⟩
  | .local _ .vmem, ⟨1, _⟩ => ⟨S32x256, .i32⟩
  | .local _ .vmem, ⟨2, _⟩ => ⟨S32x1, .i32⟩
  | .local _ .vmem, ⟨3, _⟩ => ⟨S32x2048, .f32⟩
  | .local _ .vmem, ⟨4, _⟩ => ⟨S32x8192, .f32⟩
  | .local _ .vmem, ⟨5, _⟩ => ⟨S8x32x128, .f32⟩
  | .local _ .vmem, ⟨6, _⟩ => ⟨S8x32x1, .f32⟩
  | .local _ .vmem, ⟨7, _⟩ => ⟨S8x32x128, .f32⟩
  | .local _ .vmem, ⟨8, _⟩ => ⟨S8x32x1, .f32⟩
  | .local _ .vmem, ⟨9, _⟩ => ⟨S2x256x32x128, .f32⟩
  | .local _ .vmem, ⟨10, _⟩ => ⟨S2x256x32x128, .f32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_12 : BitVec 32 := 0#32
  let v26 : BitVec 1 := Scalar.cmpi .eq arg0 c0_i32_12
  let v27 : BitVec 32 := Scalar.extui v26
  let c0_i32_13 : BitVec 32 := 0#32
  let v28 : BitVec 1 := Scalar.cmpi .ne v27 c0_i32_13
  v28

def k0_off1 (i : grid0.Coords) (d0 : Dev nD) : Fin 4 → Nat :=
  let c0_i32_105 : BitVec 32 := 0#32
  let c0_i32_106 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_107 : BitVec 32 := 0#32
  ![0, 0, v4.toNat, 0]
def k0_off2 (i : grid0.Coords) (d0 : Dev nD) : Fin 4 → Nat :=
  let c64_i32_114 : BitVec 32 := 64#32
  let c0_i32_115 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_116 : BitVec 32 := 0#32
  ![64, 0, v4.toNat, 0]
def k0_off3 (i : grid0.Coords) (d0 : Dev nD) : Fin 4 → Nat :=
  let c128_i32_123 : BitVec 32 := 128#32
  let c0_i32_124 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_125 : BitVec 32 := 0#32
  ![128, 0, v4.toNat, 0]
def k0_off4 (i : grid0.Coords) (d0 : Dev nD) : Fin 4 → Nat :=
  let c192_i32_132 : BitVec 32 := 192#32
  let c0_i32_133 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_134 : BitVec 32 := 0#32
  ![192, 0, v4.toNat, 0]
def k0_dev1 (d0 : Dev nD) : Nat :=
  let c0_i32_176 : BitVec 32 := 0#32
  let c1_i32_173 : BitVec 32 := 1#32
  let v180 : BitVec 32 := Dev.word d0
  let c2_i32_172 : BitVec 32 := 2#32
  let v181 : BitVec 32 := Scalar.divsi v180 c2_i32_172
  let c2_i32_171 : BitVec 32 := 2#32
  let v182 : BitVec 32 := Scalar.remsi v181 c2_i32_171
  let v184 : BitVec 32 := Scalar.subi c1_i32_173 v182
  let c2_i32_175 : BitVec 32 := 2#32
  let v185 : BitVec 32 := Scalar.muli v184 c2_i32_175
  let v186 : BitVec 32 := Scalar.addi c0_i32_176 v185
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_177 : BitVec 32 := 1#32
  let v187 : BitVec 32 := Scalar.muli v2 c1_i32_177
  let v188 : BitVec 32 := Scalar.addi v186 v187
  v188.toNat
def k0_dev2 (d0 : Dev nD) : Nat :=
  let c0_i32_181 : BitVec 32 := 0#32
  let v180 : BitVec 32 := Dev.word d0
  let c2_i32_172 : BitVec 32 := 2#32
  let v181 : BitVec 32 := Scalar.divsi v180 c2_i32_172
  let c2_i32_171 : BitVec 32 := 2#32
  let v182 : BitVec 32 := Scalar.remsi v181 c2_i32_171
  let c2_i32_180 : BitVec 32 := 2#32
  let v190 : BitVec 32 := Scalar.muli v182 c2_i32_180
  let v191 : BitVec 32 := Scalar.addi c0_i32_181 v190
  let c1_i32_178 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v189 : BitVec 32 := Scalar.subi c1_i32_178 v2
  let c1_i32_182 : BitVec 32 := 1#32
  let v192 : BitVec 32 := Scalar.muli v189 c1_i32_182
  let v193 : BitVec 32 := Scalar.addi v191 v192
  v193.toNat
def k0_cond2 (i : grid0.Coords) : BitVec 1 :=
  let arg0 : BitVec 32 := BitVec.ofNat 32 (i 0).val
  let c1_i32_14 : BitVec 32 := 1#32
  let v29 : BitVec 32 := Scalar.addi arg0 c1_i32_14
  let c8_i32_15 : BitVec 32 := 8#32
  let v30 : BitVec 1 := Scalar.cmpi .slt v29 c8_i32_15
  let v31 : BitVec 32 := Scalar.extui v30
  let c0_i32_16 : BitVec 32 := 0#32
  let v32 : BitVec 1 := Scalar.cmpi .ne v31 c0_i32_16
  v32

def k0_off5 (i : grid0.Coords) : Fin 2 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_100 : BitVec 32 := 0#32
  ![v25.toNat, 0]
def k0_off6 (i : grid0.Coords) : Fin 4 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_101 : BitVec 32 := 0#32
  let c0_i32_102 : BitVec 32 := 0#32
  let c0_i32_103 : BitVec 32 := 0#32
  ![v25.toNat, 0, 0, 0]
def k0_off7 (i : grid0.Coords) (d0 : Dev nD) : Fin 4 → Nat :=
  let c0_i32_104 : BitVec 32 := 0#32
  let c0_i32_105 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c1_i32_99 : BitVec 32 := 1#32
  let v132 : BitVec 32 := Scalar.addi v4 c1_i32_99
  let c0_i32_106 : BitVec 32 := 0#32
  ![0, 0, v132.toNat, 0]
def k0_off8 (i : grid0.Coords) : Fin 2 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c1_i32_107 : BitVec 32 := 1#32
  ![v25.toNat, 1]
def k0_off9 (i : grid0.Coords) : Fin 4 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c64_i32_108 : BitVec 32 := 64#32
  let c0_i32_109 : BitVec 32 := 0#32
  let c0_i32_110 : BitVec 32 := 0#32
  ![v25.toNat, 64, 0, 0]
def k0_off10 (i : grid0.Coords) (d0 : Dev nD) : Fin 4 → Nat :=
  let c64_i32_111 : BitVec 32 := 64#32
  let c0_i32_112 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c1_i32_99 : BitVec 32 := 1#32
  let v132 : BitVec 32 := Scalar.addi v4 c1_i32_99
  let c0_i32_113 : BitVec 32 := 0#32
  ![64, 0, v132.toNat, 0]
def k0_off11 (i : grid0.Coords) : Fin 2 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c2_i32_114 : BitVec 32 := 2#32
  ![v25.toNat, 2]
def k0_off12 (i : grid0.Coords) : Fin 4 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c128_i32_115 : BitVec 32 := 128#32
  let c0_i32_116 : BitVec 32 := 0#32
  let c0_i32_117 : BitVec 32 := 0#32
  ![v25.toNat, 128, 0, 0]
def k0_off13 (i : grid0.Coords) (d0 : Dev nD) : Fin 4 → Nat :=
  let c128_i32_118 : BitVec 32 := 128#32
  let c0_i32_119 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c1_i32_99 : BitVec 32 := 1#32
  let v132 : BitVec 32 := Scalar.addi v4 c1_i32_99
  let c0_i32_120 : BitVec 32 := 0#32
  ![128, 0, v132.toNat, 0]
def k0_off14 (i : grid0.Coords) : Fin 2 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c3_i32_121 : BitVec 32 := 3#32
  ![v25.toNat, 3]
def k0_off15 (i : grid0.Coords) : Fin 4 → Nat :=
  let arg0 : BitVec 32 := BitVec.ofNat 32 (i 0).val
  let c1_i32_5 : BitVec 32 := 1#32
  let v15 : BitVec 32 := Scalar.addi arg0 c1_i32_5
  let c2_i32_6 : BitVec 32 := 2#32
  let c0_i32_7 : BitVec 32 := 0#32
  let v16 : BitVec 1 := Scalar.cmpi .eq c2_i32_6 c0_i32_7
  let c1_i32_8 : BitVec 32 := 1#32
  let v17 : BitVec 32 := Scalar.select v16 c1_i32_8 c2_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c192_i32_122 : BitVec 32 := 192#32
  let c0_i32_123 : BitVec 32 := 0#32
  let c0_i32_124 : BitVec 32 := 0#32
  ![v25.toNat, 192, 0, 0]
def k0_off16 (i : grid0.Coords) (d0 : Dev nD) : Fin 4 → Nat :=
  let c192_i32_125 : BitVec 32 := 192#32
  let c0_i32_126 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c1_i32_99 : BitVec 32 := 1#32
  let v132 : BitVec 32 := Scalar.addi v4 c1_i32_99
  let c0_i32_127 : BitVec 32 := 0#32
  ![192, 0, v132.toNat, 0]
def k0_off17 (i : grid0.Coords) : Fin 2 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_17 : BitVec 32 := 0#32
  ![v14.toNat, 0]
def k0_off18 (i : grid0.Coords) : Fin 4 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c0_i32_18 : BitVec 32 := 0#32
  let c0_i32_19 : BitVec 32 := 0#32
  let c0_i32_20 : BitVec 32 := 0#32
  ![v14.toNat, 0, 0, 0]
def k0_off19 (i : grid0.Coords) (d0 : Dev nD) : Fin 4 → Nat :=
  let c0_i32_21 : BitVec 32 := 0#32
  let c0_i32_22 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_23 : BitVec 32 := 0#32
  ![0, 0, v4.toNat, 0]
def k0_off20 (i : grid0.Coords) : Fin 2 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_24 : BitVec 32 := 1#32
  ![v14.toNat, 1]
def k0_off21 (i : grid0.Coords) : Fin 4 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c64_i32 : BitVec 32 := 64#32
  let c0_i32_25 : BitVec 32 := 0#32
  let c0_i32_26 : BitVec 32 := 0#32
  ![v14.toNat, 64, 0, 0]
def k0_off22 (i : grid0.Coords) (d0 : Dev nD) : Fin 4 → Nat :=
  let c64_i32_27 : BitVec 32 := 64#32
  let c0_i32_28 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_29 : BitVec 32 := 0#32
  ![64, 0, v4.toNat, 0]
def k0_off23 (i : grid0.Coords) : Fin 2 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c2_i32_30 : BitVec 32 := 2#32
  ![v14.toNat, 2]
def k0_off24 (i : grid0.Coords) : Fin 4 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c128_i32 : BitVec 32 := 128#32
  let c0_i32_31 : BitVec 32 := 0#32
  let c0_i32_32 : BitVec 32 := 0#32
  ![v14.toNat, 128, 0, 0]
def k0_off25 (i : grid0.Coords) (d0 : Dev nD) : Fin 4 → Nat :=
  let c128_i32_33 : BitVec 32 := 128#32
  let c0_i32_34 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_35 : BitVec 32 := 0#32
  ![128, 0, v4.toNat, 0]
def k0_off26 (i : grid0.Coords) : Fin 2 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c3_i32 : BitVec 32 := 3#32
  ![v14.toNat, 3]
def k0_off27 (i : grid0.Coords) : Fin 4 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c192_i32 : BitVec 32 := 192#32
  let c0_i32_36 : BitVec 32 := 0#32
  let c0_i32_37 : BitVec 32 := 0#32
  ![v14.toNat, 192, 0, 0]
def k0_off28 (i : grid0.Coords) (d0 : Dev nD) : Fin 4 → Nat :=
  let c192_i32_38 : BitVec 32 := 192#32
  let c0_i32_39 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let c0_i32_40 : BitVec 32 := 0#32
  ![192, 0, v4.toNat, 0]
def k0_off29 (i : grid0.Coords) (d0 : Dev nD) : Fin 4 → Nat :=
  let c0 : Index := 0#32
  let c0_72 : Index := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c8_i32 : BitVec 32 := 8#32
  let v3 : BitVec 32 := Scalar.muli v2 c8_i32
  let arg0 : BitVec 32 := BitVec.ofNat 32 (i 0).val
  let v4 : BitVec 32 := Scalar.addi v3 arg0
  let v85 : Index := Scalar.indexCast v4
  let c0_73 : Index := 0#32
  ![0, 0, v85.toNat, 0]
def k0_off30 (i : grid0.Coords) : Fin 4 → Nat :=
  let arg0 : BitVec 32 := BitVec.ofNat 32 (i 0).val
  let c2_i32_0 : BitVec 32 := 2#32
  let c0_i32 : BitVec 32 := 0#32
  let v5 : BitVec 1 := Scalar.cmpi .eq c2_i32_0 c0_i32
  let c1_i32_1 : BitVec 32 := 1#32
  let v6 : BitVec 32 := Scalar.select v5 c1_i32_1 c2_i32_0
  let v7 : BitVec 32 := Scalar.remsi arg0 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let v91 : Index := Scalar.indexCast v14
  let c0_74 : Index := 0#32
  let c0_75 : Index := 0#32
  let c0_76 : Index := 0#32
  ![v91.toNat, 0, 0, 0]
def k0_off31 (i : grid0.Coords) : Fin 3 → Nat :=
  let arg0 : BitVec 32 := BitVec.ofNat 32 (i 0).val
  let v109 : Index := Scalar.indexCast arg0
  let c0_85 : Index := 0#32
  let c0_86 : Index := 0#32
  ![v109.toNat, 0, 0]
def k0_off32 (i : grid0.Coords) : Fin 3 → Nat :=
  let arg0 : BitVec 32 := BitVec.ofNat 32 (i 0).val
  let v113 : Index := Scalar.indexCast arg0
  let c0_87 : Index := 0#32
  let c0_88 : Index := 0#32
  ![v113.toNat, 0, 0]
def k0_off33 (i : grid0.Coords) : Fin 2 → Nat :=
  let c0_i32_90 : BitVec 32 := 0#32
  let arg0 : BitVec 32 := BitVec.ofNat 32 (i 0).val
  ![0, arg0.toNat]
def k0_off34 (i : grid0.Coords) : Fin 2 → Nat :=
  let c1_i32_89 : BitVec 32 := 1#32
  let arg0 : BitVec 32 := BitVec.ofNat 32 (i 0).val
  ![1, arg0.toNat]
def k0_off35 (i : grid0.Coords) : Fin 3 → Nat :=
  let arg0 : BitVec 32 := BitVec.ofNat 32 (i 0).val
  let c0_i32_94 : BitVec 32 := 0#32
  let c0_i32_95 : BitVec 32 := 0#32
  ![arg0.toNat, 0, 0]
def k0_dev3 (d0 : Dev nD) : Nat :=
  let c0_i32_92 : BitVec 32 := 0#32
  let c1_i32_71 : BitVec 32 := 1#32
  let v81 : BitVec 32 := Dev.word d0
  let c2_i32_70 : BitVec 32 := 2#32
  let v82 : BitVec 32 := Scalar.divsi v81 c2_i32_70
  let c2_i32_69 : BitVec 32 := 2#32
  let v83 : BitVec 32 := Scalar.remsi v82 c2_i32_69
  let v84 : BitVec 32 := Scalar.subi c1_i32_71 v83
  let c2_i32_91 : BitVec 32 := 2#32
  let v117 : BitVec 32 := Scalar.muli v84 c2_i32_91
  let v118 : BitVec 32 := Scalar.addi c0_i32_92 v117
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_93 : BitVec 32 := 1#32
  let v119 : BitVec 32 := Scalar.muli v2 c1_i32_93
  let v120 : BitVec 32 := Scalar.addi v118 v119
  v120.toNat
def k0_cond3 (i : grid0.Coords) : BitVec 1 :=
  let arg0 : BitVec 32 := BitVec.ofNat 32 (i 0).val
  let c7_i32 : BitVec 32 := 7#32
  let v129 : BitVec 1 := Scalar.cmpi .eq arg0 c7_i32
  let v130 : BitVec 32 := Scalar.extui v129
  let c0_i32_98 : BitVec 32 := 0#32
  let v131 : BitVec 1 := Scalar.cmpi .ne v130 c0_i32_98
  v131

def k0_dev4 (d0 : Dev nD) : Nat :=
  let c0_i32_102 : BitVec 32 := 0#32
  let c1_i32_71 : BitVec 32 := 1#32
  let v81 : BitVec 32 := Dev.word d0
  let c2_i32_70 : BitVec 32 := 2#32
  let v82 : BitVec 32 := Scalar.divsi v81 c2_i32_70
  let c2_i32_69 : BitVec 32 := 2#32
  let v83 : BitVec 32 := Scalar.remsi v82 c2_i32_69
  let v84 : BitVec 32 := Scalar.subi c1_i32_71 v83
  let c2_i32_101 : BitVec 32 := 2#32
  let v132 : BitVec 32 := Scalar.muli v84 c2_i32_101
  let v133 : BitVec 32 := Scalar.addi c0_i32_102 v132
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_103 : BitVec 32 := 1#32
  let v134 : BitVec 32 := Scalar.muli v2 c1_i32_103
  let v135 : BitVec 32 := Scalar.addi v133 v134
  v135.toNat
def k0_off36 (d0 : Dev nD) (c0_i32_314 : BitVec 32) : Fin 2 → Nat :=
  let c0_315 : Index := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v284 : BitVec 32 := Scalar.muli v2 c1024_i32
  let v291 : BitVec 32 := Scalar.addi v284 c0_i32_314
  let v292 : Index := Scalar.indexCast v291
  ![0, v292.toNat]
def k0_off37 (d0 : Dev nD) : Fin 2 → Nat :=
  let c0_i32_330 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v284 : BitVec 32 := Scalar.muli v2 c1024_i32
  ![0, v284.toNat]
def k0_dev5 (d0 : Dev nD) : Nat :=
  let c0_i32_328 : BitVec 32 := 0#32
  let v81 : BitVec 32 := Dev.word d0
  let c2_i32_70 : BitVec 32 := 2#32
  let v82 : BitVec 32 := Scalar.divsi v81 c2_i32_70
  let c2_i32_69 : BitVec 32 := 2#32
  let v83 : BitVec 32 := Scalar.remsi v82 c2_i32_69
  let c2_i32_327 : BitVec 32 := 2#32
  let v358 : BitVec 32 := Scalar.muli v83 c2_i32_327
  let v359 : BitVec 32 := Scalar.addi c0_i32_328 v358
  let c1_i32_324 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v357 : BitVec 32 := Scalar.subi c1_i32_324 v2
  let c1_i32_329 : BitVec 32 := 1#32
  let v360 : BitVec 32 := Scalar.muli v357 c1_i32_329
  let v361 : BitVec 32 := Scalar.addi v359 v360
  v361.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32x1 : Shape := ⟨2, ![32, 1]⟩
abbrev S32x256x1 : Shape := ⟨3, ![32, 256, 1]⟩
abbrev S32x256x32x16x128 : Shape := ⟨5, ![32, 256, 32, 16, 128]⟩
abbrev S32x16x128 : Shape := ⟨3, ![32, 16, 128]⟩
abbrev S32x16x256x32 : Shape := ⟨4, ![32, 16, 256, 32]⟩
abbrev S_ : Shape := ⟨0, ![]⟩
abbrev S256 : Shape := ⟨1, ![256]⟩
abbrev S1x256 : Shape := ⟨2, ![1, 256]⟩
abbrev S32x1x256x1 : Shape := ⟨4, ![32, 1, 256, 1]⟩
abbrev S32x16 : Shape := ⟨2, ![32, 16]⟩
abbrev S32x16x1x1 : Shape := ⟨4, ![32, 16, 1, 1]⟩
abbrev S32x2048 : Shape := ⟨2, ![32, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32x1, .i32⟩
  | .hbm, ⟨5, _⟩ => ⟨S32x256x1, .i32⟩
  | .hbm, ⟨6, _⟩ => ⟨S32x256x32x16x128, .f32⟩
  | .hbm, ⟨7, _⟩ => ⟨S32x256x1, .i32⟩
  | .hbm, ⟨8, _⟩ => ⟨S32x256x32x16x128, .f32⟩
  | .hbm, ⟨9, _⟩ => ⟨S32x16x128, .f32⟩
  | .hbm, ⟨10, _⟩ => ⟨S32x16x256x32, .f32⟩
  | .hbm, ⟨11, _⟩ => ⟨S_, .f32⟩
  | .hbm, ⟨12, _⟩ => ⟨S32x16x256x32, .f32⟩
  | .hbm, ⟨13, _⟩ => ⟨S32x16x256x32, .f32⟩
  | .hbm, ⟨14, _⟩ => ⟨S256, .i32⟩
  | .hbm, ⟨15, _⟩ => ⟨S1x256, .i32⟩
  | .hbm, ⟨16, _⟩ => ⟨S32x256, .i32⟩
  | .hbm, ⟨17, _⟩ => ⟨S32x256, .i32⟩
  | .hbm, ⟨18, _⟩ => ⟨S32x256, .i1⟩
  | .hbm, ⟨19, _⟩ => ⟨S32x1x256x1, .i1⟩
  | .hbm, ⟨20, _⟩ => ⟨S_, .f32⟩
  | .hbm, ⟨21, _⟩ => ⟨S_, .f32⟩
  | .hbm, ⟨22, _⟩ => ⟨S32x16x256x32, .i1⟩
  | .hbm, ⟨23, _⟩ => ⟨S32x16x256x32, .f32⟩
  | .hbm, ⟨24, _⟩ => ⟨S32x16x256x32, .f32⟩
  | .hbm, ⟨25, _⟩ => ⟨S_, .f32⟩
  | .hbm, ⟨26, _⟩ => ⟨S32x16, .f32⟩
  | .hbm, ⟨27, _⟩ => ⟨S32x16x1x1, .f32⟩
  | .hbm, ⟨28, _⟩ => ⟨S32x16x256x32, .f32⟩
  | .hbm, ⟨29, _⟩ => ⟨S32x16x256x32, .f32⟩
  | .hbm, ⟨30, _⟩ => ⟨S32x16x256x32, .f32⟩
  | .hbm, ⟨31, _⟩ => ⟨S_, .f32⟩
  | .hbm, ⟨32, _⟩ => ⟨S32x16, .f32⟩
  | .hbm, ⟨33, _⟩ => ⟨S32x16x1x1, .f32⟩
  | .hbm, ⟨34, _⟩ => ⟨S32x16x256x32, .f32⟩
  | .hbm, ⟨35, _⟩ => ⟨S32x16x256x32, .f32⟩
  | .hbm, ⟨36, _⟩ => ⟨S32x16x128, .f32⟩
  | .hbm, ⟨37, _⟩ => ⟨S32x2048, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Geo.lean ====
/-
  The mesh, the offsets that the kernel computes, and the elements that its copies touch.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.ValueLayout
public import Idealize.ShloMosaic.Lib.Tactic

@[expose] public section

set_option maxRecDepth 16384

noncomputable section

namespace Cert.Paged

open Cert.KernelIdeal Cert.KernelIdeal.Gen
open Idealize.ShloMosaic
open Idealize.ShloMosaic.TcCoe

/-! ## The mesh -/

/-- The device across the first axis. -/
def peerX (c : Dev nD) : Dev nD := ⟨(c.val + 2) % 4, Nat.mod_lt _ (by decide)⟩
/-- The device across the second axis. -/
def peerY (c : Dev nD) : Dev nD := ⟨2 * (c.val / 2) + (c.val + 1) % 2, by have := c.isLt; revert this; generalize c.val = v; decide +revert⟩

theorem peerX_peerX (c : Dev nD) : peerX (peerX c) = c := by revert c; decide
theorem peerY_peerY (c : Dev nD) : peerY (peerY c) = c := by revert c; decide
theorem peerX_ne (c : Dev nD) : peerX c ≠ c := by revert c; decide
theorem peerY_ne (c : Dev nD) : peerY c ≠ c := by revert c; decide
theorem peerX_ne_peerY (c : Dev nD) : peerX c ≠ peerY c := by revert c; decide
theorem peerX_mod (c : Dev nD) : (peerX c).val % 2 = c.val % 2 := by revert c; decide
theorem peerY_mod (c : Dev nD) : (peerY c).val % 2 = 1 - c.val % 2 := by revert c; decide

/-- Crossing an axis, as a permutation of the devices. -/
def swapX : Dev nD ≃ Dev nD := ⟨peerX, peerX, peerX_peerX, peerX_peerX⟩
def swapY : Dev nD ≃ Dev nD := ⟨peerY, peerY, peerY_peerY, peerY_peerY⟩

theorem dev1_eq (c : Dev nD) : k0_dev1 c = (peerX c).val := by revert c; decide
theorem dev2_eq (c : Dev nD) : k0_dev2 c = (peerY c).val := by revert c; decide
theorem dev3_eq (c : Dev nD) : k0_dev3 c = (peerX c).val := by revert c; decide
theorem dev4_eq (c : Dev nD) : k0_dev4 c = (peerX c).val := by revert c; decide
theorem dev5_eq (c : Dev nD) : k0_dev5 c = (peerY c).val := by revert c; decide

/-! ## The grid's point and the offsets -/

/-- The head step of a grid point. -/
abbrev hd (i : grid0.Coords) : ℕ := (i 0).val

theorem hd_lt (i : grid0.Coords) : hd i < 8 := (i 0).isLt

theorem cond1_iff : ∀ i : grid0.Coords, k0_cond1 i = 1#1 ↔ hd i = 0 := by decide +kernel
theorem cond2_iff : ∀ i : grid0.Coords, k0_cond2 i = 1#1 ↔ hd i + 1 < 8 := by decide +kernel
theorem cond3_iff : ∀ i : grid0.Coords, k0_cond3 i = 1#1 ↔ hd i = 7 := by decide +kernel

/-- Device `c`'s head at step `h`. -/
abbrev head (c : Dev nD) (h : ℕ) : ℕ := 8 * (c.val % 2) + h

theorem off1_eq : ∀ (i : grid0.Coords) (c : Dev nD), k0_off1 i c = ![0, 0, head c (hd i), 0] := by decide +kernel
theorem off2_eq : ∀ (i : grid0.Coords) (c : Dev nD), k0_off2 i c = ![64, 0, head c (hd i), 0] := by decide +kernel
theorem off3_eq : ∀ (i : grid0.Coords) (c : Dev nD), k0_off3 i c = ![128, 0, head c (hd i), 0] := by decide +kernel
theorem off4_eq : ∀ (i : grid0.Coords) (c : Dev nD), k0_off4 i c = ![192, 0, head c (hd i), 0] := by decide +kernel
theorem off5_eq : ∀ i : grid0.Coords, k0_off5 i = ![(hd i + 1) % 2, 0] := by decide +kernel
theorem off8_eq : ∀ i : grid0.Coords, k0_off8 i = ![(hd i + 1) % 2, 1] := by decide +kernel
theorem off11_eq : ∀ i : grid0.Coords, k0_off11 i = ![(hd i + 1) % 2, 2] := by decide +kernel
theorem off14_eq : ∀ i : grid0.Coords, k0_off14 i = ![(hd i + 1) % 2, 3] := by decide +kernel
theorem off6_eq : ∀ i : grid0.Coords, k0_off6 i = ![(hd i + 1) % 2, 0, 0, 0] := by decide +kernel
theorem off9_eq : ∀ i : grid0.Coords, k0_off9 i = ![(hd i + 1) % 2, 64, 0, 0] := by decide +kernel
theorem off12_eq : ∀ i : grid0.Coords, k0_off12 i = ![(hd i + 1) % 2, 128, 0, 0] := by decide +kernel
theorem off15_eq : ∀ i : grid0.Coords, k0_off15 i = ![(hd i + 1) % 2, 192, 0, 0] := by decide +kernel
theorem off7_eq : ∀ (i : grid0.Coords) (c : Dev nD), k0_off7 i c = ![0, 0, head c (hd i + 1), 0] := by decide +kernel
theorem off10_eq : ∀ (i : grid0.Coords) (c : Dev nD), k0_off10 i c = ![64, 0, head c (hd i + 1), 0] := by decide +kernel
theorem off13_eq : ∀ (i : grid0.Coords) (c : Dev nD), k0_off13 i c = ![128, 0, head c (hd i + 1), 0] := by decide +kernel
theorem off16_eq : ∀ (i : grid0.Coords) (c : Dev nD), k0_off16 i c = ![192, 0, head c (hd i + 1), 0] := by decide +kernel
theorem off17_eq : ∀ i : grid0.Coords, k0_off17 i = ![hd i % 2, 0] := by decide +kernel
theorem off20_eq : ∀ i : grid0.Coords, k0_off20 i = ![hd i % 2, 1] := by decide +kernel
theorem off23_eq : ∀ i : grid0.Coords, k0_off23 i = ![hd i % 2, 2] := by decide +kernel
theorem off26_eq : ∀ i : grid0.Coords, k0_off26 i = ![hd i % 2, 3] := by decide +kernel
theorem off29_eq : ∀ (i : grid0.Coords) (c : Dev nD), k0_off29 i c = ![0, 0, head c (hd i), 0] := by decide +kernel
theorem off30_eq : ∀ i : grid0.Coords, k0_off30 i = ![hd i % 2, 0, 0, 0] := by decide +kernel
theorem off31_eq : ∀ i : grid0.Coords, k0_off31 i = ![hd i, 0, 0] := by decide +kernel
theorem off32_eq : ∀ i : grid0.Coords, k0_off32 i = ![hd i, 0, 0] := by decide +kernel
theorem off33_eq : ∀ i : grid0.Coords, k0_off33 i = ![0, hd i] := by decide +kernel
theorem off34_eq : ∀ i : grid0.Coords, k0_off34 i = ![1, hd i] := by decide +kernel
theorem off35_eq : ∀ i : grid0.Coords, k0_off35 i = ![hd i, 0, 0] := by decide +kernel
theorem off36_eq : ∀ (c : Dev nD) (k : Fin 8), k0_off36 c (BitVec.ofNat 32 (128 * k.val)) = ![0, 1024 * (c.val % 2) + 128 * k.val] := by decide +kernel
theorem off37_eq : ∀ c : Dev nD, k0_off37 c = ![0, 1024 * (c.val % 2)] := by decide +kernel

/-- The point numbered `t` is step `t`. -/
theorem hd_coords : ∀ t : Fin grid0.N, hd (grid0.coords t) = t.val := by decide +kernel

/-! ## The semaphores -/

/-- Semaphore `(s, j)` of a group of `2 × 4` that starts at number `b`. -/
abbrev dsem (n : ℕ) (h : n < 40 := by omega) : DmaSem sig := ⟨n, h⟩

theorem ksem_eq (s : Fin 2) (j : Fin 4) (off : Fin 2 → ℕ) (h : off = ![s.val, j.val]) (hb : ∀ a, off a + S1x1.size a ≤ S2x4.size a) :
    ((cc0_scratch7.slice (Rect.unit (s := S2x4) off S1x1.size hb)).squeeze S_ squeezes_S1x1_S_).sem = dsem (4 + 4 * s.val + j.val) := by
  subst h; revert s j; decide +kernel
theorem vsem_eq (s : Fin 2) (j : Fin 4) (off : Fin 2 → ℕ) (h : off = ![s.val, j.val]) (hb : ∀ a, off a + S1x1.size a ≤ S2x4.size a) :
    ((cc0_scratch8.slice (Rect.unit (s := S2x4) off S1x1.size hb)).squeeze S_ squeezes_S1x1_S_).sem = dsem (12 + 4 * s.val + j.val) := by
  subst h; revert s j; decide +kernel
theorem osem_eq (s : Fin 2) (j : Fin 8) (off : Fin 2 → ℕ) (h : off = ![s.val, j.val]) (hb : ∀ a, off a + S1x1.size a ≤ S2x8.size a) :
    ((cc0_scratch9.slice (Rect.unit (s := S2x8) off S1x1.size hb)).squeeze S_ squeezes_S1x1_S_).sem = dsem (20 + 8 * s.val + j.val) := by
  subst h; revert s j; decide +kernel
theorem ssem_eq (s : Fin 2) (off : Fin 1 → ℕ) (h : off = ![s.val]) (hb : ∀ a, off a + S1.size a ≤ S2.size a) :
    ((cc0_scratch10.slice (Rect.unit (s := S2) off S1.size hb)).squeeze S_ squeezes_S1_S_).sem = dsem (36 + s.val) := by
  subst h; revert s; decide +kernel
theorem rsem_eq (s : Fin 2) (off : Fin 1 → ℕ) (h : off = ![s.val]) (hb : ∀ a, off a + S1.size a ≤ S2.size a) :
    ((cc0_scratch11.slice (Rect.unit (s := S2) off S1.size hb)).squeeze S_ squeezes_S1_S_).sem = dsem (38 + s.val) := by
  subst h; revert s; decide +kernel

end Cert.Paged
-- ==== Proof.Copy.lean ====
/-
  The kernel's copies of one head's keys and values into its two slots: four chunks for the keys, four for the values,
  each with a semaphore of its own, which its device holds at zero between copies.
-/
module

public import proofs.«01_k».proof.Proof.Geo
public import Idealize.ShloMosaic.Lib.Transfers
public import Idealize.ShloMosaic.Lib.ShareLeaves

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

/-- The rounds of the semaphores that several devices credit, beside the counters of a device's own copies. -/
abbrev UU : Type := URounds (GSem nD τ sig) Bool × Counters

local notation "𝕄" => MT nD τ sig Unit (Elt F) ℕ UU ℕ

abbrev ER : Emb (URounds (GSem nD τ sig) Bool) (MT nD τ sig Unit (Elt F) ℕ UU ℕ) := embL
abbrev EC : UEmb Counters (MT nD τ sig Unit (Elt F) ℕ UU ℕ) := countersEmb

abbrev 𝒱₀ : Variants := Variants.none

variable (m : (ℓ : Loc nD τ sig) → Buf (Elt F) ℓ)

/-- What a copy keeps out of its transfer comes back with what the transfer delivers. -/
theorem flight_frame {c : Thread nD τ} {sm : SemLoc sig} {N : ℕ} {D R : sProp 𝕄} :
    iprop(Flight EC c sm () N D ∗ R) ⊢ (Flight EC c sm () N iprop(D ∗ R) : sProp 𝕄) := by
  unfold Flight
  iintro ⟨⟨⟨%T, HT, %hcap, %hpeek⟩, Hcred⟩, HR⟩
  isplitl [HT HR]
  · iexists iprop(T ∗ R)
    isplitl [HT HR]
    · isplitl [HT]; · iexact HT
      iexact HR
    isplit
    · ipureintro
      intro K
      refine BIBase.Entails.trans ?_ (hcap K)
      iintro ⟨⟨HT, HR⟩, HK⟩
      isplitl [HT]; · iexact HT
      iintro ⟨Hv, HD⟩
      iapply HK
      isplitl [Hv]; · iexact Hv
      isplitl [HD]; · iexact HD
      iexact HR
    · ipureintro
      intro K
      refine BIBase.Entails.trans ?_ (hpeek K)
      iintro ⟨⟨HT, HR⟩, HK⟩
      isplitl [HT]; · iexact HT
      iintro HT
      iapply HK
      isplitl [HT]; · iexact HT
      iexact HR
  · iexact Hcred

/-! ## The chunks -/

/-- Chunk `j` of slot `s`. -/
def pieceS (s j : ℕ) : Finset S2x256x32x128.Idx := Finset.univ.filter fun x => (x 0).val = s ∧ (x 1).val / 64 = j
/-- Slot `s`. -/
def slotS (s : ℕ) : Finset S2x256x32x128.Idx := Finset.univ.filter fun x => (x 0).val = s

theorem mem_pieceS {s j : ℕ} {x : S2x256x32x128.Idx} : x ∈ pieceS s j ↔ (x 0).val = s ∧ (x 1).val / 64 = j := by
  unfold pieceS; simp
theorem mem_slotS {s : ℕ} {x : S2x256x32x128.Idx} : x ∈ slotS s ↔ (x 0).val = s := by
  unfold slotS; simp

/-- Head `h` of a device's pages, laid out by pages in either slot. -/
def slotOf (X : S256x32x16x128.Idx → Elt F .f32) (h : ℕ) : S2x256x32x128.Idx → Elt F .f32 :=
  fun x => X (ix4 (x 1) (x 2) (⟨h % 16, Nat.mod_lt _ (by decide)⟩ : Fin 16) (x 3))

theorem piece_rect (s j : ℕ) (off : Fin 4 → ℕ) (h : off = ![s, 64 * j, 0, 0]) (hb : ∀ a, off a + S1x64x32x128.size a ≤ S2x256x32x128.size a) :
    (Rect.unit (s := S2x256x32x128) off S1x64x32x128.size hb).set = pieceS s j := by
  subst h
  ext x
  rw [Rect.mem_set_unit, mem_pieceS]
  have h2 : (x 2).val < 32 := (x 2).isLt
  have h3 : (x 3).val < 128 := (x 3).isLt
  constructor
  · intro h
    have a0 := h 0; have a1 := h 1
    simp [S1x64x32x128] at a0 a1
    omega
  · rintro ⟨e0, e1⟩ a
    have hj : (x 1).val < 256 := (x 1).isLt
    fin_cases a <;> simp [S1x64x32x128] <;> omega

theorem slot_rect (s : ℕ) (off : Fin 4 → ℕ) (h : off = ![s, 0, 0, 0]) (hb : ∀ a, off a + S1x256x32x128.size a ≤ S2x256x32x128.size a) :
    (Rect.unit (s := S2x256x32x128) off S1x256x32x128.size hb).set = slotS s := by
  subst h
  ext x
  rw [Rect.mem_set_unit, mem_slotS]
  have h1 : (x 1).val < 256 := (x 1).isLt
  have h2 : (x 2).val < 32 := (x 2).isLt
  have h3 : (x 3).val < 128 := (x 3).isLt
  constructor
  · intro h
    have a0 := h 0
    simp [S1x256x32x128] at a0
    omega
  · rintro e0 a
    fin_cases a <;> simp [S1x256x32x128] <;> omega

theorem squeeze_mid (h : S64x32x128.numel = S64x32x1x128.numel) (x : S64x32x128.Idx) :
    Shape.reshapeEquiv h x = ix4 (x 0 : Fin 64) (x 1 : Fin 32) (0 : Fin 1) (x 2 : Fin 128) := by
  refine Shape.reshapeEquiv_eq_of_rowMajor h ?_
  refine (Shape.rowMajor_val_four _).trans (Eq.trans ?_ (Shape.rowMajor_val_three _).symm)
  show (((x 0).val * 32 + (x 1).val) * 1 + 0) * 128 + (x 2).val = ((x 0).val * 32 + (x 1).val) * 128 + (x 2).val
  omega
theorem squeeze_lead (h : S64x32x128.numel = S1x64x32x128.numel) (x : S64x32x128.Idx) :
    Shape.reshapeEquiv h x = ix4 (0 : Fin 1) (x 0 : Fin 64) (x 1 : Fin 32) (x 2 : Fin 128) := by
  refine Shape.reshapeEquiv_eq_of_rowMajor h ?_
  refine (Shape.rowMajor_val_four _).trans (Eq.trans ?_ (Shape.rowMajor_val_three _).symm)
  show (((0 * 64 + (x 0).val) * 32 + (x 1).val) * 128 + (x 2).val) = ((x 0).val * 32 + (x 1).val) * 128 + (x 2).val
  omega

/-- The share of a device's pages that the copy on semaphore `(s, j)` reads. -/
abbrev kvq (s : Fin 2) (j : Fin 4) : PosShare TreeShare := ShareLeaves.leaf 3 fullShare ⟨4 * s.val + j.val, by have := s.isLt; have := j.isLt; omega⟩

/-! ## The keys -/

abbrev kB : Memref sig .tc .vmem S2x256x32x128 .f32 := Memref.whole cc0_scratch5
abbrev kM : Memref sig .tc .hbm S256x32x16x128 .f32 := Memref.whole main_arg1
abbrev kDst (off : Fin 4 → ℕ) (hb : ∀ a, off a + S1x64x32x128.size a ≤ S2x256x32x128.size a) : Memref sig .tc .vmem S64x32x128 .f32 :=
  (kB.slice (Rect.unit (s := S2x256x32x128) off S1x64x32x128.size hb) (fun _ => rfl)).squeeze S64x32x128 squeezes_S1x64x32x128_S64x32x128
abbrev kSrc (off : Fin 4 → ℕ) (hb : ∀ a, off a + S64x32x1x128.size a ≤ S256x32x16x128.size a) : Memref sig .tc .hbm S64x32x128 .f32 :=
  (kM.slice (Rect.unit (s := S256x32x16x128) off S64x32x1x128.size hb) (fun _ => rfl)).squeeze S64x32x128 squeezes_S64x32x1x128_S64x32x128

/-- A device's keys, and the semaphore of a chunk. -/
def kArg (c : Dev nD) : S256x32x16x128.Idx → Elt F .f32 := m ((c : Thread nD τ).loc main_arg1)
abbrev kSem (s : Fin 2) (j : Fin 4) : DmaSem sig := dsem (4 + 4 * s.val + j.val) (by have := s.isLt; have := j.isLt; omega)
/-- A device's slot contents for its head at step `h`. -/
abbrev kAt (c : Dev nD) (h : ℕ) : S2x256x32x128.Idx → Elt F .f32 := slotOf (kArg m c) (head c h)

abbrev kLoc (c : Dev nD) : Loc nD τ sig := (c : Thread nD τ).loc cc0_scratch5
abbrev kHbm (c : Dev nD) : Loc nD τ sig := (c : Thread nD τ).loc main_arg1

theorem k_set (s j : ℕ) (off : Fin 4 → ℕ) (h : off = ![s, 64 * j, 0, 0]) (hb : ∀ a, off a + S1x64x32x128.size a ≤ S2x256x32x128.size a) :
    (kDst off hb).view.set = pieceS s j := by
  refine Eq.trans (View.set_reshape ((View.whole cc0_scratch5).slice (Rect.unit (s := S2x256x32x128) off S1x64x32x128.size hb)) _) ?_
  exact (View.set_slice_whole _ _).trans (piece_rect s j off h hb)

theorem k_val (c : Dev nD) (s j h : ℕ) (hh : h < 8) (off offk : Fin 4 → ℕ) (ho : off = ![s, 64 * j, 0, 0]) (hk : offk = ![64 * j, 0, head c h, 0])
    (hb : ∀ a, off a + S1x64x32x128.size a ≤ S2x256x32x128.size a) (hbk : ∀ a, offk a + S64x32x1x128.size a ≤ S256x32x16x128.size a)
    (fd : S2x256x32x128.Idx → Elt F .f32) (x : S2x256x32x128.Idx) (hx : x ∈ pieceS s j) :
    (kDst off hb).view.write (Elt F) fd ((kSrc offk hbk).view.read (Elt F) (kArg m c)) Finset.univ x = kAt m c h x := by
  subst ho hk
  rw [mem_pieceS] at hx
  have h1 : (x 1).val < 256 := (x 1).isLt
  let y : S64x32x128.Idx := ix3 (⟨(x 1).val % 64, by omega⟩ : Fin 64) (x 2) (x 3)
  have hy : (kDst ![s, 64 * j, 0, 0] hb).view.emb y = x := by
    show (Rect.unit (s := S2x256x32x128) _ S1x64x32x128.size hb).emb (Shape.reshapeEquiv _ y) = x
    rw [squeeze_lead]
    funext a
    refine Fin.ext ?_
    fin_cases a
    · show s + 1 * 0 = (x 0).val; omega
    · show 64 * j + 1 * ((x 1).val % 64) = (x 1).val; omega
    · show 0 + 1 * (x 2).val = (x 2).val; omega
    · show 0 + 1 * (x 3).val = (x 3).val; omega
  rw [← hy, View.write_emb_of_mem _ _ (Finset.mem_univ _), hy]
  show kArg m c ((Rect.unit (s := S256x32x16x128) _ S64x32x1x128.size hbk).emb (Shape.reshapeEquiv _ y)) = kArg m c _
  rw [squeeze_mid]
  congr 1
  funext a
  refine Fin.ext ?_
  fin_cases a
  · show 64 * j + 1 * ((x 1).val % 64) = (x 1).val; omega
  · show 0 + 1 * (x 2).val = (x 2).val; omega
  · show head c h + 1 * 0 = head c h % 16; have := c.isLt; unfold head; omega
  · show 0 + 1 * (x 3).val = (x 3).val; omega

/-- The units that a chunk's copy credits. -/
def kN : ℕ := (kDst ![0, 0, 0, 0] inb_S2x256x32x128_S1x64x32x128_0_0_0_0).view.dmaCredit
theorem kN_pos : 0 < kN := View.dmaCredit_pos _ (by decide)
theorem kN_eq (off : Fin 4 → ℕ) (hb : ∀ a, off a + S1x64x32x128.size a ≤ S2x256x32x128.size a) : (kDst off hb).view.dmaCredit = kN := rfl

/-- A chunk between copies: its semaphore at zero, its elements with whatever they hold, and its share of the pages. -/
def kIdle (c : Dev nD) (s : Fin 2) (j : Fin 4) : sProp 𝕄 :=
  iprop(semVal ((c : Thread nD τ), .dma (kSem s j)) 0 ∗ (∃ f : Buf (Elt F) (kLoc c), (kLoc c) ↦[pieceS s.val j.val]{fullShare} f)
    ∗ ((kHbm c) ↦{kvq s j} (kArg m c)))
/-- A chunk that holds step `h`'s head. -/
def kFull (c : Dev nD) (s : Fin 2) (j : Fin 4) (h : ℕ) : sProp 𝕄 :=
  iprop(semVal ((c : Thread nD τ), .dma (kSem s j)) 0 ∗ ((kLoc c) ↦[pieceS s.val j.val]{fullShare} (kAt m c h))
    ∗ ((kHbm c) ↦{kvq s j} (kArg m c)))
/-- A chunk that a copy of step `h`'s head is on its way to. -/
def kFly (c : Dev nD) (s : Fin 2) (j : Fin 4) (h : ℕ) : sProp 𝕄 :=
  Flight EC (c : Thread nD τ) (.dma (kSem s j)) () kN
    iprop(((kLoc c) ↦[pieceS s.val j.val]{fullShare} (kAt m c h)) ∗ ((kHbm c) ↦{kvq s j} (kArg m c)))

theorem wp_k_start (c : Dev nD) (s : Fin 2) (j : Fin 4) (h : ℕ) (hh : h < 8) (sm : DmaSem sig) (hsm : sm = kSem s j)
    (off offk : Fin 4 → ℕ) (ho : off = ![s.val, 64 * j.val, 0, 0]) (hk : offk = ![64 * j.val, 0, head c h, 0])
    (hb : ∀ a, off a + S1x64x32x128.size a ≤ S2x256x32x128.size a) (hbk : ∀ a, offk a + S64x32x1x128.size a ≤ S256x32x16x128.size a)
    {hsrc : (kSrc offk hbk).view.WordExact} {hdst : (kDst off hb).view.WordExact}
    {hsem : DmaTarget.Typed (nD := nD) .hbm (.dma sm) (.here (kDst off hb) : DmaTarget nD τ sig .tc .vmem S64x32x128 .f32)}
    {α : Type} {Q : α → sProp 𝕄} {k : PUnit → Prog (TpuEff nD τ sig (Elt F) Λ₀ .tc) α} :
    kIdle m c s j ⊢ iprop((kFly m c s j h -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (kSrc offk hbk) (.here (kDst off hb)) (.dma sm) hsrc hdst hsem) k) Q) := by
  subst hsm
  unfold kIdle kFly
  iintro ⟨Hv, ⟨%fd, Hd⟩, Hs⟩ Hk
  ihave Hs2 := (pointsTo_split_subset (Finset.subset_univ (kSrc offk hbk).view.set)).1 $$ Hs
  icases Hs2 with ⟨Hs1, Hs2⟩
  iapply (wp_dmaLocal EC 𝒱₀ (c : Thread nD τ) none (src := kSrc offk hbk) (via := .same) (dst := kDst off hb) (sm := .dma (kSem s j)) (fs := kArg m c) (fd := fd) () kN
    (kN_eq off hb) kN_pos (by rw [k_set _ _ off ho hb])) $$ [Hs1 Hd Hv]
  · isplitl [Hs1]; · iexact Hs1
    isplitl [Hd]; · iexact Hd
    iexact Hv
  iintro Hf
  iapply Hk
  ihave Hf2 := flight_frame $$ [Hf Hs2]
  · isplitl [Hf]; · iexact Hf
    iexact Hs2
  iapply (Flight_mono EC (c : Thread nD τ) ?_) $$ Hf2
  iintro ⟨⟨Hd, Hs1⟩, Hs2⟩
  isplitl [Hd]
  · iapply (Entails.of_eq (pointsTo_congr fun x hx => k_val m c s.val j.val h hh off offk ho hk hb hbk fd x hx)) $$ Hd
  iapply (pointsTo_split_subset (Finset.subset_univ (kSrc offk hbk).view.set)).2
  isplitl [Hs1]; · iexact Hs1
  iexact Hs2

theorem wp_k_wait (c : Dev nD) (s : Fin 2) (j : Fin 4) (h : ℕ) (sm : DmaSem sig) (hsm : sm = kSem s j)
    (off offk : Fin 4 → ℕ)
    (hb : ∀ a, off a + S1x64x32x128.size a ≤ S2x256x32x128.size a) (hbk : ∀ a, offk a + S64x32x1x128.size a ≤ S256x32x16x128.size a)
    {hsrc : (kSrc offk hbk).view.WordExact} {hdst : (kDst off hb).view.WordExact} {O : CellTallies nD τ sig Unit} {W : Waits sig Unit}
    {α : Type} {Q : α → sProp 𝕄} {k : PUnit → Prog (TpuEff nD τ sig (Elt F) Λ₀ .tc) α} :
    iprop(kFly m c s j h ∗ owes (c : Thread nD τ) O W ∗ MayWait (c : Thread nD τ) (.dma sm) () O)
      ⊢ iprop(((kFull m c s j h ∗ owes (c : Thread nD τ) O (insert (SemLoc.dma sm, ()) W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm (kSrc offk hbk) (kDst off hb) hsrc hdst) k) Q) := by
  subst hsm
  unfold kFly kFull
  iintro H Hk
  iapply (wp_waitLocalO EC 𝒱₀ (c : Thread nD τ) none (srcw := kSrc offk hbk) (dstw := kDst off hb) () (kN_eq off hb)) $$ H
  iintro ⟨⟨Hd, Hs⟩, Hv, HO⟩
  iapply Hk
  isplitr [HO]
  · isplitl [Hv]; · iexact Hv
    isplitl [Hd]; · iexact Hd
    iexact Hs
  iexact HO

/-! ## The values -/

abbrev vB : Memref sig .tc .vmem S2x256x32x128 .f32 := Memref.whole cc0_scratch6
abbrev vM : Memref sig .tc .hbm S256x32x16x128 .f32 := Memref.whole main_arg2
abbrev vDst (off : Fin 4 → ℕ) (hb : ∀ a, off a + S1x64x32x128.size a ≤ S2x256x32x128.size a) : Memref sig .tc .vmem S64x32x128 .f32 :=
  (vB.slice (Rect.unit (s := S2x256x32x128) off S1x64x32x128.size hb) (fun _ => rfl)).squeeze S64x32x128 squeezes_S1x64x32x128_S64x32x128
abbrev vSrc (off : Fin 4 → ℕ) (hb : ∀ a, off a + S64x32x1x128.size a ≤ S256x32x16x128.size a) : Memref sig .tc .hbm S64x32x128 .f32 :=
  (vM.slice (Rect.unit (s := S256x32x16x128) off S64x32x1x128.size hb) (fun _ => rfl)).squeeze S64x32x128 squeezes_S64x32x1x128_S64x32x128

/-- A device's values, and the semaphore of a chunk. -/
def vArg (c : Dev nD) : S256x32x16x128.Idx → Elt F .f32 := m ((c : Thread nD τ).loc main_arg2)
abbrev vSem (s : Fin 2) (j : Fin 4) : DmaSem sig := dsem (12 + 4 * s.val + j.val) (by have := s.isLt; have := j.isLt; omega)
/-- A device's slot contents for its head at step `h`. -/
abbrev vAt (c : Dev nD) (h : ℕ) : S2x256x32x128.Idx → Elt F .f32 := slotOf (vArg m c) (head c h)

abbrev vLoc (c : Dev nD) : Loc nD τ sig := (c : Thread nD τ).loc cc0_scratch6
abbrev vHbm (c : Dev nD) : Loc nD τ sig := (c : Thread nD τ).loc main_arg2

theorem v_set (s j : ℕ) (off : Fin 4 → ℕ) (h : off = ![s, 64 * j, 0, 0]) (hb : ∀ a, off a + S1x64x32x128.size a ≤ S2x256x32x128.size a) :
    (vDst off hb).view.set = pieceS s j := by
  refine Eq.trans (View.set_reshape ((View.whole cc0_scratch6).slice (Rect.unit (s := S2x256x32x128) off S1x64x32x128.size hb)) _) ?_
  exact (View.set_slice_whole _ _).trans (piece_rect s j off h hb)

theorem v_val (c : Dev nD) (s j h : ℕ) (hh : h < 8) (off offk : Fin 4 → ℕ) (ho : off = ![s, 64 * j, 0, 0]) (hk : offk = ![64 * j, 0, head c h, 0])
    (hb : ∀ a, off a + S1x64x32x128.size a ≤ S2x256x32x128.size a) (hbk : ∀ a, offk a + S64x32x1x128.size a ≤ S256x32x16x128.size a)
    (fd : S2x256x32x128.Idx → Elt F .f32) (x : S2x256x32x128.Idx) (hx : x ∈ pieceS s j) :
    (vDst off hb).view.write (Elt F) fd ((vSrc offk hbk).view.read (Elt F) (vArg m c)) Finset.univ x = vAt m c h x := by
  subst ho hk
  rw [mem_pieceS] at hx
  have h1 : (x 1).val < 256 := (x 1).isLt
  let y : S64x32x128.Idx := ix3 (⟨(x 1).val % 64, by omega⟩ : Fin 64) (x 2) (x 3)
  have hy : (vDst ![s, 64 * j, 0, 0] hb).view.emb y = x := by
    show (Rect.unit (s := S2x256x32x128) _ S1x64x32x128.size hb).emb (Shape.reshapeEquiv _ y) = x
    rw [squeeze_lead]
    funext a
    refine Fin.ext ?_
    fin_cases a
    · show s + 1 * 0 = (x 0).val; omega
    · show 64 * j + 1 * ((x 1).val % 64) = (x 1).val; omega
    · show 0 + 1 * (x 2).val = (x 2).val; omega
    · show 0 + 1 * (x 3).val = (x 3).val; omega
  rw [← hy, View.write_emb_of_mem _ _ (Finset.mem_univ _), hy]
  show vArg m c ((Rect.unit (s := S256x32x16x128) _ S64x32x1x128.size hbk).emb (Shape.reshapeEquiv _ y)) = vArg m c _
  rw [squeeze_mid]
  congr 1
  funext a
  refine Fin.ext ?_
  fin_cases a
  · show 64 * j + 1 * ((x 1).val % 64) = (x 1).val; omega
  · show 0 + 1 * (x 2).val = (x 2).val; omega
  · show head c h + 1 * 0 = head c h % 16; have := c.isLt; unfold head; omega
  · show 0 + 1 * (x 3).val = (x 3).val; omega

/-- The units that a chunk's copy credits. -/
def vN : ℕ := (vDst ![0, 0, 0, 0] inb_S2x256x32x128_S1x64x32x128_0_0_0_0).view.dmaCredit
theorem vN_pos : 0 < vN := View.dmaCredit_pos _ (by decide)
theorem vN_eq (off : Fin 4 → ℕ) (hb : ∀ a, off a + S1x64x32x128.size a ≤ S2x256x32x128.size a) : (vDst off hb).view.dmaCredit = vN := rfl

/-- A chunk between copies: its semaphore at zero, its elements with whatever they hold, and its share of the pages. -/
def vIdle (c : Dev nD) (s : Fin 2) (j : Fin 4) : sProp 𝕄 :=
  iprop(semVal ((c : Thread nD τ), .dma (vSem s j)) 0 ∗ (∃ f : Buf (Elt F) (vLoc c), (vLoc c) ↦[pieceS s.val j.val]{fullShare} f)
    ∗ ((vHbm c) ↦{kvq s j} (vArg m c)))
/-- A chunk that holds step `h`'s head. -/
def vFull (c : Dev nD) (s : Fin 2) (j : Fin 4) (h : ℕ) : sProp 𝕄 :=
  iprop(semVal ((c : Thread nD τ), .dma (vSem s j)) 0 ∗ ((vLoc c) ↦[pieceS s.val j.val]{fullShare} (vAt m c h))
    ∗ ((vHbm c) ↦{kvq s j} (vArg m c)))
/-- A chunk that a copy of step `h`'s head is on its way to. -/
def vFly (c : Dev nD) (s : Fin 2) (j : Fin 4) (h : ℕ) : sProp 𝕄 :=
  Flight EC (c : Thread nD τ) (.dma (vSem s j)) () vN
    iprop(((vLoc c) ↦[pieceS s.val j.val]{fullShare} (vAt m c h)) ∗ ((vHbm c) ↦{kvq s j} (vArg m c)))

theorem wp_v_start (c : Dev nD) (s : Fin 2) (j : Fin 4) (h : ℕ) (hh : h < 8) (sm : DmaSem sig) (hsm : sm = vSem s j)
    (off offk : Fin 4 → ℕ) (ho : off = ![s.val, 64 * j.val, 0, 0]) (hk : offk = ![64 * j.val, 0, head c h, 0])
    (hb : ∀ a, off a + S1x64x32x128.size a ≤ S2x256x32x128.size a) (hbk : ∀ a, offk a + S64x32x1x128.size a ≤ S256x32x16x128.size a)
    {hsrc : (vSrc offk hbk).view.WordExact} {hdst : (vDst off hb).view.WordExact}
    {hsem : DmaTarget.Typed (nD := nD) .hbm (.dma sm) (.here (vDst off hb) : DmaTarget nD τ sig .tc .vmem S64x32x128 .f32)}
    {α : Type} {Q : α → sProp 𝕄} {k : PUnit → Prog (TpuEff nD τ sig (Elt F) Λ₀ .tc) α} :
    vIdle m c s j ⊢ iprop((vFly m c s j h -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (vSrc offk hbk) (.here (vDst off hb)) (.dma sm) hsrc hdst hsem) k) Q) := by
  subst hsm
  unfold vIdle vFly
  iintro ⟨Hv, ⟨%fd, Hd⟩, Hs⟩ Hk
  ihave Hs2 := (pointsTo_split_subset (Finset.subset_univ (vSrc offk hbk).view.set)).1 $$ Hs
  icases Hs2 with ⟨Hs1, Hs2⟩
  iapply (wp_dmaLocal EC 𝒱₀ (c : Thread nD τ) none (src := vSrc offk hbk) (via := .same) (dst := vDst off hb) (sm := .dma (vSem s j)) (fs := vArg m c) (fd := fd) () vN
    (vN_eq off hb) vN_pos (by rw [v_set _ _ off ho hb])) $$ [Hs1 Hd Hv]
  · isplitl [Hs1]; · iexact Hs1
    isplitl [Hd]; · iexact Hd
    iexact Hv
  iintro Hf
  iapply Hk
  ihave Hf2 := flight_frame $$ [Hf Hs2]
  · isplitl [Hf]; · iexact Hf
    iexact Hs2
  iapply (Flight_mono EC (c : Thread nD τ) ?_) $$ Hf2
  iintro ⟨⟨Hd, Hs1⟩, Hs2⟩
  isplitl [Hd]
  · iapply (Entails.of_eq (pointsTo_congr fun x hx => v_val m c s.val j.val h hh off offk ho hk hb hbk fd x hx)) $$ Hd
  iapply (pointsTo_split_subset (Finset.subset_univ (vSrc offk hbk).view.set)).2
  isplitl [Hs1]; · iexact Hs1
  iexact Hs2

theorem wp_v_wait (c : Dev nD) (s : Fin 2) (j : Fin 4) (h : ℕ) (sm : DmaSem sig) (hsm : sm = vSem s j)
    (off offk : Fin 4 → ℕ)
    (hb : ∀ a, off a + S1x64x32x128.size a ≤ S2x256x32x128.size a) (hbk : ∀ a, offk a + S64x32x1x128.size a ≤ S256x32x16x128.size a)
    {hsrc : (vSrc offk hbk).view.WordExact} {hdst : (vDst off hb).view.WordExact} {O : CellTallies nD τ sig Unit} {W : Waits sig Unit}
    {α : Type} {Q : α → sProp 𝕄} {k : PUnit → Prog (TpuEff nD τ sig (Elt F) Λ₀ .tc) α} :
    iprop(vFly m c s j h ∗ owes (c : Thread nD τ) O W ∗ MayWait (c : Thread nD τ) (.dma sm) () O)
      ⊢ iprop(((vFull m c s j h ∗ owes (c : Thread nD τ) O (insert (SemLoc.dma sm, ()) W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm (vSrc offk hbk) (vDst off hb) hsrc hdst) k) Q) := by
  subst hsm
  unfold vFly vFull
  iintro H Hk
  iapply (wp_waitLocalO EC 𝒱₀ (c : Thread nD τ) none (srcw := vSrc offk hbk) (dstw := vDst off hb) () (vN_eq off hb)) $$ H
  iintro ⟨⟨Hd, Hs⟩, Hv, HO⟩
  iapply Hk
  isplitr [HO]
  · isplitl [Hv]; · iexact Hv
    isplitl [Hd]; · iexact Hd
    iexact Hs
  iexact HO

end Cert.Paged
-- ==== Proof.Proto.lean ====
/-
  The contents that the kernel computes, and the protocol of the semaphores that several devices credit: the barrier,
  the eight exchanges of partial outputs and the exchange of partial sums across the first axis, and the exchange of
  the result's halves across the second.
-/
module

public import proofs.«01_k».proof.Proof.Copy

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

/-! ## Contents -/

abbrev qM : Memref sig .tc .vmem S32x1x16x128 .f32 := Memref.whole cc0_stg0_0
abbrev btM : Memref sig .tc .vmem S32x256 .i32 := Memref.whole cc0_stg1_0
abbrev lnM : Memref sig .tc .vmem S32x1 .i32 := Memref.whole cc0_stg2_0
abbrev ouM : Memref sig .tc .vmem S32x2048 .f32 := Memref.whole cc0_stg3_0
abbrev lwM : Memref sig .tc .vmem S32x8192 .f32 := Memref.whole cc0_scratch0
abbrev oaM : Memref sig .tc .vmem S8x32x128 .f32 := Memref.whole cc0_scratch1
abbrev laM : Memref sig .tc .vmem S8x32x1 .f32 := Memref.whole cc0_scratch2
abbrev orM : Memref sig .tc .vmem S8x32x128 .f32 := Memref.whole cc0_scratch3
abbrev lrM : Memref sig .tc .vmem S8x32x1 .f32 := Memref.whole cc0_scratch4

abbrev qL (c : Dev nD) : Loc nD τ sig := (c : Thread nD τ).loc cc0_stg0_0
abbrev btL (c : Dev nD) : Loc nD τ sig := (c : Thread nD τ).loc cc0_stg1_0
abbrev lnL (c : Dev nD) : Loc nD τ sig := (c : Thread nD τ).loc cc0_stg2_0
abbrev ouL (c : Dev nD) : Loc nD τ sig := (c : Thread nD τ).loc cc0_stg3_0
abbrev lwL (c : Dev nD) : Loc nD τ sig := (c : Thread nD τ).loc cc0_scratch0
abbrev oaL (c : Dev nD) : Loc nD τ sig := (c : Thread nD τ).loc cc0_scratch1
abbrev laL (c : Dev nD) : Loc nD τ sig := (c : Thread nD τ).loc cc0_scratch2
abbrev orL (c : Dev nD) : Loc nD τ sig := (c : Thread nD τ).loc cc0_scratch3
abbrev lrL (c : Dev nD) : Loc nD τ sig := (c : Thread nD τ).loc cc0_scratch4

/-- A device's queries, page table and lengths. -/
def qC (c : Dev nD) : S32x1x16x128.Idx → Elt F .f32 := m ((c : Thread nD τ).loc main_arg0)
def btC (c : Dev nD) : S32x256.Idx → Elt F .i32 := m ((c : Thread nD τ).loc main_arg3)
def lnC (c : Dev nD) : S32x1.Idx → Elt F .i32 := m ((c : Thread nD τ).loc main_arg4)

/-- The grid's point of step `h`. -/
def ci (h : Fin 8) : grid0.Coords := grid0.coords ⟨h.val, by rw [N_0]; exact h.isLt⟩
theorem hd_ci : ∀ h : Fin 8, hd (ci h) = h.val := by decide +kernel
theorem eq_ci : ∀ i : grid0.Coords, i = ci ⟨hd i, hd_lt i⟩ := by decide +kernel
theorem ci_coords (t : Fin grid0.N) (h : Fin 8) (e : h.val = t.val) : grid0.coords t = ci h := by
  unfold ci; congr 1; exact Fin.ext e.symm

/-- The weights of a device's pages, in logarithms. -/
def LW (c : Dev nD) : S32x8192.Idx → Elt F .f32 := k0_pay19 (k0_pay4 (F := F) (k0_pay1 (F := F) c (btC m c)) k0_pay2 (k0_pay3 (F := F) (lnC m c)))
def vQ (c : Dev nD) (i : grid0.Coords) : Vec F S32x1x1x128 .f32 :=
  (qM : Memref sig .tc .vmem S32x1x16x128 .f32).view.readAt (Elt F) (Rect.unit (s := S32x1x16x128) (k0_off29 i c) S32x1x1x128.size (k0_off29_inb i c)).toLoadRect (qC m c)
def vK (c : Dev nD) (i : grid0.Coords) : Vec F S1x256x32x128 .f32 :=
  (kB : Memref sig .tc .vmem S2x256x32x128 .f32).view.readAt (Elt F) (Rect.unit (s := S2x256x32x128) (k0_off30 i) S1x256x32x128.size (k0_off30_inb i)).toLoadRect (kAt m c (hd i))
def vV (c : Dev nD) (i : grid0.Coords) : Vec F S1x256x32x128 .f32 :=
  (vB : Memref sig .tc .vmem S2x256x32x128 .f32).view.readAt (Elt F) (Rect.unit (s := S2x256x32x128) (k0_off30 i) S1x256x32x128.size (k0_off30_inb i)).toLoadRect (vAt m c (hd i))
/-- What a step computes: its head's partial output and its partial sum. -/
def OAt (c : Dev nD) (i : grid0.Coords) : FVec F S1x32x128 .f32 := k0_pay21 (vQ m c i) (vK m c i) (vV m c i) (LW m c)
def LAt (c : Dev nD) (i : grid0.Coords) : FVec F S1x32x1 .f32 := k0_pay22 (vQ m c i) (vK m c i) (LW m c)
/-- The partial outputs and the partial sums, by steps. -/
def OA (c : Dev nD) : S8x32x128.Idx → Elt F .f32 := fun x => OAt m c (ci (x 0)) (ix3 (0 : Fin 1) (x 1) (x 2))
def LA (c : Dev nD) : S8x32x1.Idx → Elt F .f32 := fun x => LAt m c (ci (x 0)) (ix3 (0 : Fin 1) (x 1) (x 2))

/-- What the last step stores for head `k`. -/
def finPay (c : Dev nD) (k : Fin 8) : FVec F S32x128 .f32 :=
  match k with
  | 0 => k0_pay7 (LA m c) (LA m (peerX c)) (OA m c) (OA m (peerX c))
  | 1 => k0_pay8 (LA m c) (LA m (peerX c)) (OA m c) (OA m (peerX c))
  | 2 => k0_pay11 (k0_pay9 (OA m c) (OA m (peerX c))) (k0_pay10 (LA m c) (LA m (peerX c)))
  | 3 => k0_pay12 (k0_pay5 (OA m c) (OA m (peerX c))) (k0_pay6 (LA m c) (LA m (peerX c)))
  | 4 => k0_pay13 (k0_pay5 (OA m c) (OA m (peerX c))) (k0_pay6 (LA m c) (LA m (peerX c)))
  | 5 => k0_pay14 (k0_pay5 (OA m c) (OA m (peerX c))) (k0_pay6 (LA m c) (LA m (peerX c)))
  | 6 => k0_pay15 (k0_pay5 (OA m c) (OA m (peerX c))) (k0_pay6 (LA m c) (LA m (peerX c)))
  | 7 => k0_pay18 (k0_pay16 (k0_pay5 (OA m c) (OA m (peerX c)))) (k0_pay17 (k0_pay6 (LA m c) (LA m (peerX c))))

/-- The half of the result that device `c` computes. -/
def OUT (c : Dev nD) : S32x2048.Idx → Elt F .f32 := fun x =>
  finPay m c ⟨(x 1).val % 1024 / 128, by omega⟩ (ix2 (x 0) (⟨(x 1).val % 128, Nat.mod_lt _ (by decide)⟩ : Fin 128))
/-- The result on device `c`: its own half, and the other from across the second axis. -/
def RES (c : Dev nD) : S32x2048.Idx → Elt F .f32 := fun x =>
  if (x 1).val / 1024 = c.val % 2 then OUT m c x else OUT m (peerY c) x

theorem RES_peerY (c : Dev nD) : RES m (peerY c) = RES m c := by
  funext x
  unfold RES
  rw [peerY_mod, peerY_peerY]
  have h1 : (x 1).val < 2048 := (x 1).isLt
  by_cases h : (x 1).val / 1024 = c.val % 2
  · rw [if_pos h, if_neg (by omega)]
  · rw [if_neg h, if_pos (by omega)]

/-! ## Rows and halves -/

def rowS (h : ℕ) : Finset S8x32x128.Idx := Finset.univ.filter fun x => (x 0).val = h
def halfS (y : ℕ) : Finset S32x2048.Idx := Finset.univ.filter fun x => (x 1).val / 1024 = y
theorem mem_rowS {h : ℕ} {x : S8x32x128.Idx} : x ∈ rowS h ↔ (x 0).val = h := by unfold rowS; simp
theorem mem_halfS {y : ℕ} {x : S32x2048.Idx} : x ∈ halfS y ↔ (x 1).val / 1024 = y := by unfold halfS; simp

theorem row_rect (h : ℕ) (off : Fin 3 → ℕ) (e : off = ![h, 0, 0]) (hb : ∀ a, off a + S1x32x128.size a ≤ S8x32x128.size a) :
    (Rect.unit (s := S8x32x128) off S1x32x128.size hb).set = rowS h := by
  subst e
  ext x
  rw [Rect.mem_set_unit, mem_rowS]
  have h1 : (x 1).val < 32 := (x 1).isLt
  have h2 : (x 2).val < 128 := (x 2).isLt
  constructor
  · intro h
    have a0 := h 0
    simp [S1x32x128] at a0
    omega
  · rintro e0 a
    fin_cases a <;> simp [S1x32x128] <;> omega

theorem half_rect (y : ℕ) (off : Fin 2 → ℕ) (e : off = ![0, 1024 * y]) (hb : ∀ a, off a + S32x1024.size a ≤ S32x2048.size a) :
    (Rect.unit (s := S32x2048) off S32x1024.size hb).set = halfS y := by
  subst e
  ext x
  rw [Rect.mem_set_unit, mem_halfS]
  have h0 : (x 0).val < 32 := (x 0).isLt
  constructor
  · intro h
    have a1 := h 1
    simp [S32x1024] at a1
    omega
  · rintro e0 a
    fin_cases a <;> simp [S32x1024] <;> omega

/-! ## The cells -/

/-- The copy semaphore numbered `n`. -/
abbrev dS (n : ℕ) : DmaSem sig := ⟨n % 40, Nat.mod_lt _ (by decide)⟩
theorem dsem_eq (n : ℕ) (h : n < 40) : dsem n h = dS n := Fin.ext (Nat.mod_eq_of_lt h).symm

abbrev barCell (c : Dev nD) : GSem nD τ sig := ((c : Thread nD τ), .reg barrier0)
abbrev dcell (c : Dev nD) (n : ℕ) : GSem nD τ sig := ((c : Thread nD τ), .dma (dS n))

abbrev orow (M : Memref sig .tc .vmem S8x32x128 .f32) (off : Fin 3 → ℕ) (hb : ∀ a, off a + S1x32x128.size a ≤ S8x32x128.size a) : Memref sig .tc .vmem S32x128 .f32 :=
  (M.slice (Rect.unit (s := S8x32x128) off S1x32x128.size hb) (fun _ => rfl)).squeeze S32x128 squeezes_S1x32x128_S32x128
abbrev ohalf (off : Fin 2 → ℕ) (hb : ∀ a, off a + S32x1024.size a ≤ S32x2048.size a) : Memref sig .tc .vmem S32x1024 .f32 :=
  ouM.slice (Rect.unit (s := S32x2048) off S32x1024.size hb) (fun _ => rfl)

/-- The units that a row's, the sums' and a half's transfer credit. -/
def oN : ℕ := (orow orM ![0, 0, 0] inb_S8x32x128_S1x32x128_0_0_0).view.dmaCredit
def lN : ℕ := (lrM : Memref sig .tc .vmem S8x32x1 .f32).view.dmaCredit
def yN : ℕ := (ohalf (k0_off37 0) (k0_off37_inb (ci 7) 0 (by decide +kernel))).view.dmaCredit
theorem oN_pos : 0 < oN := View.dmaCredit_pos _ (by decide)
theorem lN_pos : 0 < lN := View.dmaCredit_pos _ (by decide)
theorem yN_pos : 0 < yN := View.dmaCredit_pos _ (by decide)
def amt (n : ℕ) : ℕ := if n < 36 then oN else if n % 2 = 0 then lN else yN
theorem amt_pos (n : ℕ) : 0 < amt n := by
  unfold amt; split; · exact oN_pos
  split; · exact lN_pos
  exact yN_pos

/-! ## The schedule -/

/-- What the barrier's credit from across the first axis hands over: the landing buffers there. -/
def barPayX (c : Dev nD) : sProp 𝕄 :=
  iprop((∃ f : Buf (Elt F) (orL (peerX c)), (orL (peerX c)) ↦{fullShare} f) ∗ ∃ f : Buf (Elt F) (lrL (peerX c)), (lrL (peerX c)) ↦{fullShare} f)
/-- What the barrier's credit from across the second axis hands over: the half of the result there that `c` computes. -/
def barPayY (c : Dev nD) : sProp 𝕄 :=
  iprop(∃ f : Buf (Elt F) (ouL (peerY c)), (ouL (peerY c)) ↦[halfS (c.val % 2)]{fullShare} f)

def dpay (c : Dev nD) (n : ℕ) : sProp 𝕄 :=
  if n < 28 then ((oaL c) ↦[rowS (n - 20)]{fullShare} (OA m c))
  else if n < 36 then ((orL c) ↦[rowS (n - 28)]{fullShare} (OA m (peerX c)))
  else if n = 36 then ((laL c) ↦{fullShare} (LA m c))
  else if n = 37 then ((ouL c) ↦[halfS (c.val % 2)]{fullShare} (RES m c))
  else if n = 38 then ((lrL c) ↦{fullShare} (LA m (peerX c)))
  else ((ouL c) ↦[halfS (1 - c.val % 2)]{fullShare} (RES m c))

instance dpay_storable (c : Dev nD) (n : ℕ) : BI.Storable (upEmb : UEmb _ 𝕄) (dpay m c n) := by
  unfold dpay
  (repeat' split) <;> infer_instance

def sched : Rounds.Schedule (GSem nD τ sig) Bool 𝕄 where
  duties g r := if r = 0 ∧ g.1.2 = .tc then (match g.2 with | .reg _ => {false, true} | .dma n => if 20 ≤ n.val then {false} else ∅) else ∅
  unitless _ := False
  amount g _ _ := match g.2 with | .reg _ => 1 | .dma n => amt n.val
  payload g _ d := match g.2 with | .reg _ => (if d then barPayY g.1.1 else barPayX g.1.1) | .dma n => dpay m g.1.1 n.val
  amount_pos g _ _ _ := by
    rcases g with ⟨c, sm⟩
    cases sm
    · exact Nat.one_pos
    · exact amt_pos _

instance sched_storable (g : GSem nD τ sig) (r : ℕ) (d : Bool) : BI.Storable (upEmb : UEmb _ 𝕄) ((sched (F := F) m).payload g r d) := by
  rcases g with ⟨c, sm⟩
  cases sm
  · show BI.Storable upEmb (if d then barPayY c.1 else barPayX c.1)
    unfold barPayY barPayX
    split <;> infer_instance
  · exact dpay_storable m _ _

theorem duties_bar (c : Dev nD) : (sched (F := F) m).duties (barCell c) 0 = {false, true} := by dsimp only [sched]; exact if_pos ⟨rfl, rfl⟩
theorem duties_dma (c : Dev nD) (n : ℕ) (h : 20 ≤ n) (h' : n < 40) : (sched (F := F) m).duties (dcell c n) 0 = {false} := by
  dsimp only [sched]
  rw [if_pos ⟨rfl, rfl⟩]
  exact if_pos (by show 20 ≤ n % 40; omega)
theorem duties_later (g : GSem nD τ sig) : ∀ r, 1 ≤ r → (sched (F := F) m).duties g r = ∅ :=
  fun r hr => by dsimp only [sched]; exact if_neg fun h => by omega
theorem amount_bar (c : Dev nD) (d : Bool) : (sched (F := F) m).amount (barCell c) 0 d = 1 := rfl
theorem amount_dma (c : Dev nD) (n : ℕ) (h' : n < 40) (d : Bool) : (sched (F := F) m).amount (dcell c n) 0 d = amt n := by
  show amt (n % 40) = _; rw [Nat.mod_eq_of_lt h']
theorem expect_bar (c : Dev nD) : (sched (F := F) m).expect (barCell c) 0 = 2 := by
  unfold Schedule.expect Schedule.amountOf; rw [duties_bar]; rfl
theorem expect_dma (c : Dev nD) (n : ℕ) (h : 20 ≤ n) (h' : n < 40) : (sched (F := F) m).expect (dcell c n) 0 = amt n := by
  unfold Schedule.expect Schedule.amountOf; rw [duties_dma m c n h h', Finset.sum_singleton, amount_dma m c n h']
theorem payload_dma (c : Dev nD) (n : ℕ) (h' : n < 40) (d : Bool) : (sched (F := F) m).payload (dcell c n) 0 d = dpay m c n := by
  show dpay m c (n % 40) = _; rw [Nat.mod_eq_of_lt h']
theorem rest_bar (c : Dev nD) : bigSep ((sched (F := F) m).duties (barCell c) 0 \ ∅) (fun d => (sched (F := F) m).payload (barCell c) 0 d)
    = iprop(barPayX c ∗ barPayY c) := by
  rw [Finset.sdiff_empty, duties_bar, bigSep_insert (by decide), bigSep_singleton]; rfl
theorem rest_dma (c : Dev nD) (n : ℕ) (h : 20 ≤ n) (h' : n < 40) :
    bigSep ((sched (F := F) m).duties (dcell c n) 0 \ ∅) (fun d => (sched (F := F) m).payload (dcell c n) 0 d) = dpay m c n := by
  rw [Finset.sdiff_empty, duties_dma m c n h h', bigSep_singleton, payload_dma m c n h']

/-! ## Levels and what is owed -/

def L (g : GSem nD τ sig) : Finset Unit := if g.1.2 = .tc then {()} else ∅
def lv (g : GSem nD τ sig) (_ : Unit) : ℕ :=
  match g.2 with
  | .reg _ => 1
  | .dma n => if n.val < 28 then 0 else if n.val < 36 then 2 else if n.val < 38 then 0 else if n.val = 38 then 2 else 3
theorem L_of_ne (g : GSem nD τ sig) (h : g.1.2 ≠ .tc) : L g = ∅ := if_neg h
theorem L_tc (c : Dev nD) (sm : SemLoc sig) : L ((c : Thread nD τ), sm) = {()} := if_pos rfl

/-- All that is owed lies above level `b`. -/
def Above (b : ℕ) (O : CellTallies nD τ sig Unit) : Prop := ∀ g u, 0 < O g u → g.1.2 = .tc ∧ b < lv g u

theorem Above.zero (b : ℕ) : Above b 0 := fun g u h => absurd h (Nat.lt_irrefl 0)
theorem Above.add {b : ℕ} {O O' : CellTallies nD τ sig Unit} (h : Above b O) (h' : Above b O') : Above b (O + O') := fun g u hg => by
  rw [Pi.add_apply, Finsupp.add_apply] at hg
  by_cases h0 : 0 < O g u
  · exact h g u h0
  · exact h' g u (by omega)
theorem Above.tally {b : ℕ} (c : Dev nD) (sm : SemLoc sig) (k : ℕ) (hb : b < lv ((c : Thread nD τ), sm) ()) : Above b (tallyAt ((c : Thread nD τ), sm) () k) := fun g u hg => by
  rw [tallyAt_apply] at hg
  by_cases h : g = ((c : Thread nD τ), sm) ∧ u = ()
  · rw [h.1]; exact ⟨rfl, hb⟩
  · rw [if_neg h] at hg; exact absurd hg (Nat.lt_irrefl 0)
theorem Above.sum {b : ℕ} {I : Type} [DecidableEq I] (s : Finset I) (f : I → CellTallies nD τ sig Unit) (h : ∀ i ∈ s, Above b (f i)) : Above b (∑ i ∈ s, f i) := by
  induction s using Finset.induction_on with
  | empty => rw [Finset.sum_empty]; exact Above.zero b
  | insert i s hi ih =>
    rw [Finset.sum_insert hi]
    exact (h i (Finset.mem_insert_self _ _)).add (ih fun j hj => h j (Finset.mem_insert_of_mem hj))

theorem mayWait_above (c : Dev nD) (sm : SemLoc sig) (b : ℕ) (hb : lv ((c : Thread nD τ), sm) () ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-- Steps `t` and later, and steps before `t`. -/
def geS (t : ℕ) : Finset (Fin 8) := Finset.univ.filter fun h => t ≤ h.val
def ltS (t : ℕ) : Finset (Fin 8) := Finset.univ.filter fun h => h.val < t
theorem geS_step (t : Fin 8) : geS t.val = insert t (geS (t.val + 1)) ∧ t ∉ geS (t.val + 1) := by revert t; decide
theorem ltS_step (t : Fin 8) : ltS (t.val + 1) = insert t (ltS t.val) ∧ t ∉ ltS t.val := by revert t; decide
theorem geS_zero : geS 0 = Finset.univ := by decide
theorem geS_last : geS 8 = ∅ := by decide
theorem ltS_zero : ltS 0 = ∅ := by decide
theorem ltS_last : ltS 8 = Finset.univ := by decide

/-- The credits of the partial outputs' transfers from step `t` on. -/
def owedO (c : Dev nD) (t : ℕ) : CellTallies nD τ sig Unit := ∑ h ∈ geS t, tallyAt (dcell (peerX c) (28 + h.val)) () oN
/-- What `c` owes before step `t`'s transfer, past the barrier. -/
def owedAt (c : Dev nD) (t : ℕ) : CellTallies nD τ sig Unit :=
  (tallyAt (dcell (peerY c) 39) () yN + tallyAt (dcell (peerX c) 38) () lN) + owedO c t
/-- What `c` owes at launch. -/
def O₀ (c : Dev nD) : CellTallies nD τ sig Unit := (owedAt c 0 + tallyAt (barCell (peerY c)) () 1) + tallyAt (barCell (peerX c)) () 1

theorem owedAt_step (c : Dev nD) (t : Fin 8) : owedAt c t.val = owedAt c (t.val + 1) + tallyAt (dcell (peerX c) (28 + t.val)) () oN := by
  unfold owedAt owedO
  rw [(geS_step t).1, Finset.sum_insert (geS_step t).2, add_comm (tallyAt (dcell (peerX c) (28 + t.val)) () oN), ← add_assoc]
theorem owedAt_last (c : Dev nD) : owedAt c 8 = tallyAt (dcell (peerY c) 39) () yN + tallyAt (dcell (peerX c) 38) () lN := by
  unfold owedAt owedO; rw [geS_last, Finset.sum_empty, add_zero]

theorem lv_dma (c : Dev nD) (n : ℕ) (h : n < 40) : lv (dcell c n) () = if n < 28 then 0 else if n < 36 then 2 else if n < 38 then 0 else if n = 38 then 2 else 3 := by
  show (if n % 40 < 28 then 0 else if n % 40 < 36 then 2 else if n % 40 < 38 then 0 else if n % 40 = 38 then 2 else 3) = _
  simp only [Nat.mod_eq_of_lt h]

theorem above_at (c : Dev nD) (t : ℕ) : Above 1 (owedAt c t) := by
  refine Above.add (Above.add (Above.tally _ _ _ ?_) (Above.tally _ _ _ ?_)) (Above.sum _ _ fun h _ => Above.tally _ _ _ ?_)
  · rw [lv_dma _ _ (by omega)]; decide
  · rw [lv_dma _ _ (by omega)]; decide
  · have := h.isLt; rw [lv_dma _ _ (by omega)]; split; · omega
    split; · decide
    omega
theorem Above.mono {b b' : ℕ} (h : b ≤ b') {O : CellTallies nD τ sig Unit} (hO : Above b' O) : Above b O := fun g u hg => ⟨(hO g u hg).1, lt_of_le_of_lt h (hO g u hg).2⟩
theorem above_launch (c : Dev nD) : Above 0 (O₀ c) := by
  refine Above.add (Above.add ((above_at c 0).mono (by decide)) (Above.tally _ _ _ ?_)) (Above.tally _ _ _ ?_) <;> exact Nat.one_pos
theorem above_y (c : Dev nD) : Above 2 (tallyAt (dcell (peerY c) 39) () yN) := Above.tally _ _ _ (by rw [lv_dma _ _ (by omega)]; decide)

/-! ## The records -/

abbrev osm : Fin 21 → SemLoc sig := fun k => if k.val = 0 then .reg barrier0 else .dma (dS (19 + k.val))
abbrev kcell (ck : Dev nD × Fin 21) : GSem nD τ sig := ((ck.1 : Thread nD τ), osm ck.2)

theorem kcell_dma (c : Dev nD) (n : ℕ) (h : 20 ≤ n) (h' : n < 40) : kcell (c, ⟨n - 19, by omega⟩) = dcell c n := by
  unfold kcell osm; dsimp only; rw [if_neg (by omega), show 19 + (n - 19) = n by omega]
theorem kcell_bar (c : Dev nD) : kcell (c, 0) = barCell c := rfl

def records (K : Dev nD × Fin 21 → ℕ) : sProp 𝕄 :=
  iprop((bigSep Finset.univ fun ck : Dev nD × Fin 21 => cellInv ER (sched m) (K ck) (kcell ck))
    ∗ bigSep Finset.univ fun ck : Dev nD × Fin 21 => reached ER (kcell ck) 0)
instance records_persistent (K : Dev nD × Fin 21 → ℕ) : BI.Persistent (records m K) := by unfold records; infer_instance

theorem records_at (K : Dev nD × Fin 21 → ℕ) (ck : Dev nD × Fin 21) :
    records m K ⊢ iprop(cellInv ER (sched m) (K ck) (kcell ck) ∗ reached ER (kcell ck) 0) :=
  BI.sep_mono (bigSep_elim (Finset.mem_univ ck)) (bigSep_elim (Finset.mem_univ ck))

abbrev nm (K : Dev nD × Fin 21 → ℕ) (c : Dev nD) (n : ℕ) : ℕ := K (c, ⟨(n - 19) % 21, Nat.mod_lt _ (by decide)⟩)

theorem records_dma (K : Dev nD × Fin 21 → ℕ) (c : Dev nD) (n : ℕ) (h : 20 ≤ n) (h' : n < 40) :
    records m K ⊢ iprop(cellInv ER (sched m) (nm K c n) (dcell c n) ∗ reached ER (dcell c n) 0) := by
  have e : (⟨(n - 19) % 21, Nat.mod_lt _ (by decide)⟩ : Fin 21) = ⟨n - 19, by omega⟩ := Fin.ext (Nat.mod_eq_of_lt (by omega))
  unfold nm
  rw [e, ← kcell_dma c n h h']
  exact records_at m K _
theorem records_bar (K : Dev nD × Fin 21 → ℕ) (c : Dev nD) :
    records m K ⊢ iprop(cellInv ER (sched m) (K (c, 0)) (barCell c) ∗ reached ER (barCell c) 0) := records_at m K (c, 0)

end Cert.Paged
-- ==== Proof.Steps.lean ====
/-
  The steps of the protocol as rules: the transfers across the axes, the waits for them, and the barrier.
-/
module

public import proofs.«01_k».proof.Proof.Proto

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ) (K : Dev nD × Fin 21 → ℕ)

theorem orow_set (h : ℕ) (off : Fin 3 → ℕ) (e : off = ![h, 0, 0]) (hb : ∀ a, off a + S1x32x128.size a ≤ S8x32x128.size a) :
    (orow oaM off hb).view.set = rowS h ∧ (orow orM off hb).view.set = rowS h := by
  constructor
  · refine Eq.trans (View.set_reshape ((View.whole cc0_scratch1).slice (Rect.unit (s := S8x32x128) off S1x32x128.size hb)) _) ?_
    exact (View.set_slice_whole _ _).trans (row_rect h off e hb)
  · refine Eq.trans (View.set_reshape ((View.whole cc0_scratch3).slice (Rect.unit (s := S8x32x128) off S1x32x128.size hb)) _) ?_
    exact (View.set_slice_whole _ _).trans (row_rect h off e hb)
theorem oa_set (h : ℕ) (off : Fin 3 → ℕ) (e : off = ![h, 0, 0]) (hb : ∀ a, off a + S1x32x128.size a ≤ S8x32x128.size a) :
    (orow oaM off hb).view.set = rowS h := (orow_set h off e hb).1
theorem or_set (h : ℕ) (off : Fin 3 → ℕ) (e : off = ![h, 0, 0]) (hb : ∀ a, off a + S1x32x128.size a ≤ S8x32x128.size a) :
    (orow orM off hb).view.set = rowS h := (orow_set h off e hb).2
theorem ohalf_set (y : ℕ) (off : Fin 2 → ℕ) (e : off = ![0, 1024 * y]) (hb : ∀ a, off a + S32x1024.size a ≤ S32x2048.size a) :
    (ohalf off hb).view.set = halfS y := (View.set_slice_whole _ _).trans (half_rect y off e hb)

theorem or_val (h : ℕ) (off : Fin 3 → ℕ) (e : off = ![h, 0, 0]) (hb : ∀ a, off a + S1x32x128.size a ≤ S8x32x128.size a)
    (fd fs : S8x32x128.Idx → Elt F .f32) (x : S8x32x128.Idx) (hx : x ∈ rowS h) :
    (orow orM off hb).view.write (Elt F) fd ((orow oaM off hb).view.read (Elt F) fs) Finset.univ x = fs x := by
  rw [← or_set h off e hb] at hx
  obtain ⟨y, -, hy⟩ := Finset.mem_map.mp hx
  rw [← hy, View.write_emb_of_mem _ _ (Finset.mem_univ _)]
  rfl
theorem ohalf_val (y : ℕ) (off : Fin 2 → ℕ) (e : off = ![0, 1024 * y]) (hb : ∀ a, off a + S32x1024.size a ≤ S32x2048.size a)
    (fd fs : S32x2048.Idx → Elt F .f32) (x : S32x2048.Idx) (hx : x ∈ halfS y) :
    (ohalf off hb).view.write (Elt F) fd ((ohalf off hb).view.read (Elt F) fs) Finset.univ x = fs x := by
  rw [← ohalf_set y off e hb] at hx
  obtain ⟨z, -, hz⟩ := Finset.mem_map.mp hx
  rw [← hz, View.write_emb_of_mem _ _ (Finset.mem_univ _)]
  rfl
theorem lr_val (fd fs : S8x32x1.Idx → Elt F .f32) (x : S8x32x1.Idx) :
    (lrM : Memref sig .tc .vmem S8x32x1 .f32).view.write (Elt F) fd ((laM : Memref sig .tc .vmem S8x32x1 .f32).view.read (Elt F) fs) Finset.univ x = fs x := by
  have hy : (lrM : Memref sig .tc .vmem S8x32x1 .f32).view.emb x = x := rfl
  conv_lhs => rw [← hy]
  rw [View.write_emb_of_mem _ _ (Finset.mem_univ _)]
  rfl

theorem dpay_os (c : Dev nD) (h : ℕ) (hh : h < 8) : dpay m c (20 + h) = ((oaL c) ↦[rowS h]{fullShare} (OA m c)) := by
  unfold dpay; rw [if_pos (by omega), show 20 + h - 20 = h by omega]
theorem dpay_or (c : Dev nD) (h : ℕ) (hh : h < 8) : dpay m c (28 + h) = ((orL c) ↦[rowS h]{fullShare} (OA m (peerX c))) := by
  unfold dpay; rw [if_neg (by omega), if_pos (by omega), show 28 + h - 28 = h by omega]
theorem dpay_ls (c : Dev nD) : dpay m c 36 = ((laL c) ↦{fullShare} (LA m c)) := rfl
theorem dpay_ys (c : Dev nD) : dpay m c 37 = ((ouL c) ↦[halfS (c.val % 2)]{fullShare} (RES m c)) := rfl
theorem dpay_lr (c : Dev nD) : dpay m c 38 = ((lrL c) ↦{fullShare} (LA m (peerX c))) := rfl
theorem dpay_yr (c : Dev nD) : dpay m c 39 = ((ouL c) ↦[halfS (1 - c.val % 2)]{fullShare} (RES m c)) := rfl

theorem wp_o_send (c n : Dev nD) (hn : n = peerX c) (h : ℕ) (hh : h < 8) (sS sR : DmaSem sig) (hS : sS = dS (20 + h)) (hR : sR = dS (28 + h))
    (off : Fin 3 → ℕ) (e : off = ![h, 0, 0]) (hb : ∀ a, off a + S1x32x128.size a ≤ S8x32x128.size a)
    {hsc : (orow orM off hb : Memref sig (Dev.tc n : Thread nD τ).2.kind .vmem S32x128 .f32).view.ref.isScScratch = false}
    {hsrc : (orow oaM off hb).view.WordExact} {hdst : (orow orM off hb).view.WordExact}
    {hsem : DmaTarget.Typed .vmem (.dma sR) (.remote (Dev.tc n : Thread nD τ) (orow orM off hb) (.dma sS) hsc)}
    {α : Type} {Q : α → sProp 𝕄} {k : PUnit → Prog (TpuEff nD τ sig (Elt F) Λ₀ .tc) α} (O : CellTallies nD τ sig Unit) (W : Waits sig Unit) :
    iprop(records m K ∗ ((oaL c) ↦[rowS h]{fullShare} (OA m c)) ∗ (∃ f : Buf (Elt F) (orL (peerX c)), (orL (peerX c)) ↦[rowS h]{fullShare} f)
        ∗ owes (c : Thread nD τ) (O + tallyAt (dcell (peerX c) (28 + h)) () oN) W ∗ dutyTok ER (dcell c (20 + h)) 0 false ∗ dutyTok ER (dcell (peerX c) (28 + h)) 0 false)
      ⊢ iprop(((cred (tallyAt (dcell c (20 + h)) () oN) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (orow oaM off hb) (.remote (Dev.tc n : Thread nD τ) (orow orM off hb) (.dma sS) hsc) (.dma sR) hsrc hdst hsem) k) Q) := by
  subst hn hS hR
  iintro ⟨#HR, Hs, ⟨%fd, Hd⟩, HO, Ht, Ht'⟩
  ihave H1 := (records_dma m K c (20 + h) (by omega) (by omega)) $$ HR
  icases H1 with ⟨HI, Hr⟩
  ihave H2 := (records_dma m K (peerX c) (28 + h) (by omega) (by omega)) $$ HR
  icases H2 with ⟨HI', Hr'⟩
  iapply (Rounds.wp_send_pointsTo 𝒱₀ ER (sched m) (c : Thread nD τ) none (c' := (peerX c : Thread nD τ)) (src := orow oaM off hb) (dst := orow orM off hb) (κ₁ := nm K c (20 + h)) (κ₂ := nm K (peerX c) (28 + h))
    (r₁ := 0) (r₂ := 0) (d₁ := false) (d₂ := false) (fs := OA m c) (fd := fd) (q := fullShare) (sS := .dma (dS (20 + h))) (sem := .dma (dS (28 + h)))
    (by rw [duties_dma m c _ (by omega) (by omega)]; exact Finset.mem_singleton_self _) (by rw [duties_dma m (peerX c) _ (by omega) (by omega)]; exact Finset.mem_singleton_self _)
    () () oN rfl ((amount_dma m c _ (by omega) _).trans (if_pos (by omega))) ((amount_dma m (peerX c) _ (by omega) _).trans (if_pos (by omega))) O rfl (W := W)
    (by rw [payload_dma m c _ (by omega), dpay_os m c h hh, oa_set h off e hb])
    (by
      rw [payload_dma m (peerX c) _ (by omega), dpay_or m _ h hh, peerX_peerX, or_set h off e hb]
      exact Entails.of_eq (pointsTo_congr fun x hx => or_val h off e hb fd (OA m c) x hx))) $$ [Hs Hd HO Ht Ht' HI Hr HI' Hr']
  isplitl [HI]; · iexact HI
  isplitl [HI']; · iexact HI'
  isplitl [Hs]; · rw [oa_set h off e hb]; iexact Hs
  isplitl [Hd]; · rw [or_set h off e hb]; iexact Hd
  isplitl [HO]; · iexact HO
  isplitl [Ht]; · iexact Ht
  isplitl [Hr]; · iexact Hr
  isplitl [Ht']; · iexact Ht'
  iexact Hr'

theorem wp_l_send (c n : Dev nD) (hn : n = peerX c) (sS sR : DmaSem sig) (hS : sS = dS 36) (hR : sR = dS 38)
    {hsc : (lrM : Memref sig (Dev.tc n : Thread nD τ).2.kind .vmem S8x32x1 .f32).view.ref.isScScratch = false}
    {hsrc : (laM : Memref sig .tc .vmem S8x32x1 .f32).view.WordExact} {hdst : (lrM : Memref sig .tc .vmem S8x32x1 .f32).view.WordExact}
    {hsem : DmaTarget.Typed .vmem (.dma sR) (.remote (Dev.tc n : Thread nD τ) (lrM : Memref sig .tc .vmem S8x32x1 .f32) (.dma sS) hsc)}
    {α : Type} {Q : α → sProp 𝕄} {k : PUnit → Prog (TpuEff nD τ sig (Elt F) Λ₀ .tc) α} (O : CellTallies nD τ sig Unit) (W : Waits sig Unit) :
    iprop(records m K ∗ ((laL c) ↦{fullShare} (LA m c)) ∗ (∃ f : Buf (Elt F) (lrL (peerX c)), (lrL (peerX c)) ↦{fullShare} f)
        ∗ owes (c : Thread nD τ) (O + tallyAt (dcell (peerX c) 38) () lN) W ∗ dutyTok ER (dcell c 36) 0 false ∗ dutyTok ER (dcell (peerX c) 38) 0 false)
      ⊢ iprop(((cred (tallyAt (dcell c 36) () lN) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma laM (.remote (Dev.tc n : Thread nD τ) lrM (.dma sS) hsc) (.dma sR) hsrc hdst hsem) k) Q) := by
  subst hn hS hR
  iintro ⟨#HR, Hs, ⟨%fd, Hd⟩, HO, Ht, Ht'⟩
  ihave H1 := (records_dma m K c 36 (by omega) (by omega)) $$ HR
  icases H1 with ⟨HI, Hr⟩
  ihave H2 := (records_dma m K (peerX c) 38 (by omega) (by omega)) $$ HR
  icases H2 with ⟨HI', Hr'⟩
  iapply (Rounds.wp_send_pointsTo 𝒱₀ ER (sched m) (c : Thread nD τ) none (c' := (peerX c : Thread nD τ)) (src := laM) (dst := lrM) (κ₁ := nm K c 36) (κ₂ := nm K (peerX c) 38)
    (r₁ := 0) (r₂ := 0) (d₁ := false) (d₂ := false) (fs := LA m c) (fd := fd) (q := fullShare) (sS := .dma (dS 36)) (sem := .dma (dS 38))
    (by rw [duties_dma m c _ (by omega) (by omega)]; exact Finset.mem_singleton_self _) (by rw [duties_dma m (peerX c) _ (by omega) (by omega)]; exact Finset.mem_singleton_self _)
    () () lN rfl ((amount_dma m c _ (by omega) _).trans rfl) ((amount_dma m (peerX c) _ (by omega) _).trans rfl) O rfl (W := W)
    (by rw [payload_dma m c _ (by omega), dpay_ls m c, View.set_whole])
    (by
      rw [payload_dma m (peerX c) _ (by omega), dpay_lr m _, peerX_peerX, View.set_whole]
      exact Entails.of_eq (pointsTo_congr fun x hx => lr_val fd (LA m c) x))) $$ [Hs Hd HO Ht Ht' HI Hr HI' Hr']
  isplitl [HI]; · iexact HI
  isplitl [HI']; · iexact HI'
  isplitl [Hs]; · rw [View.set_whole]; iexact Hs
  isplitl [Hd]; · rw [View.set_whole]; iexact Hd
  isplitl [HO]; · iexact HO
  isplitl [Ht]; · iexact Ht
  isplitl [Hr]; · iexact Hr
  isplitl [Ht']; · iexact Ht'
  iexact Hr'

theorem wp_y_send (c n : Dev nD) (hn : n = peerY c) (sS sR : DmaSem sig) (hS : sS = dS 37) (hR : sR = dS 39)
    (off : Fin 2 → ℕ) (e : off = ![0, 1024 * (c.val % 2)]) (hb : ∀ a, off a + S32x1024.size a ≤ S32x2048.size a)
    {hsc : (ohalf off hb : Memref sig (Dev.tc n : Thread nD τ).2.kind .vmem S32x1024 .f32).view.ref.isScScratch = false}
    {hsrc : (ohalf off hb).view.WordExact} {hdst : (ohalf off hb).view.WordExact}
    {hsem : DmaTarget.Typed .vmem (.dma sR) (.remote (Dev.tc n : Thread nD τ) (ohalf off hb) (.dma sS) hsc)}
    {α : Type} {Q : α → sProp 𝕄} {k : PUnit → Prog (TpuEff nD τ sig (Elt F) Λ₀ .tc) α} (O : CellTallies nD τ sig Unit) (W : Waits sig Unit) :
    iprop(records m K ∗ ((ouL c) ↦[halfS (c.val % 2)]{fullShare} (RES m c)) ∗ (∃ f : Buf (Elt F) (ouL (peerY c)), (ouL (peerY c)) ↦[halfS (c.val % 2)]{fullShare} f)
        ∗ owes (c : Thread nD τ) (O + tallyAt (dcell (peerY c) 39) () yN) W ∗ dutyTok ER (dcell c 37) 0 false ∗ dutyTok ER (dcell (peerY c) 39) 0 false)
      ⊢ iprop(((cred (tallyAt (dcell c 37) () yN) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (ohalf off hb) (.remote (Dev.tc n : Thread nD τ) (ohalf off hb) (.dma sS) hsc) (.dma sR) hsrc hdst hsem) k) Q) := by
  subst hn hS hR
  iintro ⟨#HR, Hs, ⟨%fd, Hd⟩, HO, Ht, Ht'⟩
  ihave H1 := (records_dma m K c 37 (by omega) (by omega)) $$ HR
  icases H1 with ⟨HI, Hr⟩
  ihave H2 := (records_dma m K (peerY c) 39 (by omega) (by omega)) $$ HR
  icases H2 with ⟨HI', Hr'⟩
  iapply (Rounds.wp_send_pointsTo 𝒱₀ ER (sched m) (c : Thread nD τ) none (c' := (peerY c : Thread nD τ)) (src := ohalf off hb) (dst := ohalf off hb) (κ₁ := nm K c 37) (κ₂ := nm K (peerY c) 39)
    (r₁ := 0) (r₂ := 0) (d₁ := false) (d₂ := false) (fs := RES m c) (fd := fd) (q := fullShare) (sS := .dma (dS 37)) (sem := .dma (dS 39))
    (by rw [duties_dma m c _ (by omega) (by omega)]; exact Finset.mem_singleton_self _) (by rw [duties_dma m (peerY c) _ (by omega) (by omega)]; exact Finset.mem_singleton_self _)
    () () yN rfl ((amount_dma m c _ (by omega) _).trans rfl) ((amount_dma m (peerY c) _ (by omega) _).trans rfl) O rfl (W := W)
    (by rw [payload_dma m c _ (by omega), dpay_ys m c, ohalf_set _ off e hb])
    (by
      rw [payload_dma m (peerY c) _ (by omega), dpay_yr m _, RES_peerY, peerY_mod, ohalf_set _ off e hb,
        show 1 - (1 - c.val % 2) = c.val % 2 by omega]
      exact Entails.of_eq (pointsTo_congr fun x hx => ohalf_val _ off e hb fd (RES m c) x hx))) $$ [Hs Hd HO Ht Ht' HI Hr HI' Hr']
  isplitl [HI]; · iexact HI
  isplitl [HI']; · iexact HI'
  isplitl [Hs]; · rw [ohalf_set _ off e hb]; iexact Hs
  isplitl [Hd]; · rw [ohalf_set _ off e hb]; iexact Hd
  isplitl [HO]; · iexact HO
  isplitl [Ht]; · iexact Ht
  isplitl [Hr]; · iexact Hr
  isplitl [Ht']; · iexact Ht'
  iexact Hr'

/-- The wait for a transfer's credit, on either side. -/
theorem wp_pay_wait (c : Dev nD) (n : ℕ) (h : 20 ≤ n) (h' : n < 40) (sm : DmaSem sig) (hsm : sm = dS n)
    {sp sp' : Space} {s : Shape} {src : Memref sig .tc sp s .f32} {dst : Memref sig .tc sp' s .f32} (hN : dst.view.dmaCredit = amt n)
    {hsrc : src.view.WordExact} {hdst : dst.view.WordExact} {O : CellTallies nD τ sig Unit} {W : Waits sig Unit}
    {α : Type} {Q : α → sProp 𝕄} {k : PUnit → Prog (TpuEff nD τ sig (Elt F) Λ₀ .tc) α} :
    iprop(records m K ∗ cred (tallyAt (dcell c n) () (amt n)) ∗ owes (c : Thread nD τ) O W ∗ MayWait (c : Thread nD τ) (.dma (dS n)) () O ∗ atPos ER (dcell c n) 0 ∅ 0)
      ⊢ iprop(((dpay m c n ∗ atPos ER (dcell c n) 1 ∅ 0 ∗ owes (c : Thread nD τ) O (insert (SemLoc.dma (dS n), ()) W)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨#HR, Hc, HO, Hm, Ha⟩ Hk
  ihave H1 := (records_dma m K c n h h') $$ HR
  icases H1 with ⟨HI, Hr⟩
  iapply (Rounds.wp_wait_rest_token 𝒱₀ ER (sched m) (c : Thread nD τ) none (κ := nm K c n)
      (wpE_waitDma2_eq 𝒱₀ (c : Thread nD τ) none Set.univ) (Set.mem_univ _) () (O := O) (W := W) (R := 0) (m := 0) (T := ∅)
      (by rw [Nat.zero_add, expect_dma m c n h h']; exact hN)) $$ [HI Hc HO Hm Ha]
  · isplitl [HI]; · iexact HI
    isplitl [Hc]; · rw [hN]; iexact Hc
    isplitl [HO]; · iexact HO
    isplitl [Hm]; · iexact Hm
    iexact Ha
  iintro ⟨HO, Ha, -, Hp⟩
  iapply Hk
  isplitl [Hp]; · rw [← rest_dma m c n h h']; iexact Hp
  isplitl [Ha]; · iexact Ha
  iexact HO

theorem wp_bar_signal (c n p : Dev nD) (hn : n = p) (d : Bool) (P : sProp 𝕄) (hP : P = (sched m).payload (barCell p) 0 d) {sm : Sem sig} (hsm : sm = barrier0)
    (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (barCell p) () 1) W ∗ dutyTok ER (barCell p) 0 d ∗ P)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm 1) k) Q) := by
  subst hn hsm hP
  iintro ⟨#HR, HO, Ht, Hp⟩
  ihave H1 := (records_bar m K n) $$ HR
  icases H1 with ⟨HI, Hr⟩
  iapply (Rounds.wp_signal 𝒱₀ ER (sched m) (c : Thread nD τ) none (dst := (n : Thread nD τ)) (κ := K (n, 0)) (r := 0) (d := d)
    (by rw [duties_bar]; cases d <;> decide) (amount_bar m n d) () O rfl) $$ [HI Hr HO Ht Hp]
  isplitl [HI]; · iexact HI
  isplitl [HO]; · iexact HO
  isplitl [Ht]; · iexact Ht
  isplitl [Hp]; · iexact Hp
  iexact Hr

theorem wp_bar_wait (c : Dev nD) {sm : Sem sig} (hsm : sm = barrier0) {O : CellTallies nD τ sig Unit} {W : Waits sig Unit}
    {α : Type} {Q : α → sProp 𝕄} {k : PUnit → Prog (TpuEff nD τ sig (Elt F) Λ₀ .tc) α} :
    iprop(records m K ∗ cred (tallyAt (barCell c) () 2) ∗ owes (c : Thread nD τ) O W ∗ MayWait (c : Thread nD τ) (.reg barrier0) () O ∗ atPos ER (barCell c) 0 ∅ 0)
      ⊢ iprop(((barPayX c ∗ barPayY c ∗ atPos ER (barCell c) 1 ∅ 0 ∗ owes (c : Thread nD τ) O (insert (SemLoc.reg barrier0, ()) W)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm 2) k) Q) := by
  subst hsm
  iintro ⟨#HR, Hc, HO, Hm, Ha⟩ Hk
  ihave H1 := (records_bar m K c) $$ HR
  icases H1 with ⟨HI, Hr⟩
  iapply (Rounds.wp_wait_rest_token 𝒱₀ ER (sched m) (c : Thread nD τ) none (κ := K (c, 0))
      (wpE_semWait_eq 𝒱₀ (c : Thread nD τ) none Set.univ) (Set.mem_univ _) () (O := O) (W := W) (R := 0) (m := 0) (T := ∅)
      (by rw [Nat.zero_add, expect_bar m c])) $$ [HI Hc HO Hm Ha]
  · isplitl [HI]; · iexact HI
    isplitl [Hc]; · iexact Hc
    isplitl [HO]; · iexact HO
    isplitl [Hm]; · iexact Hm
    iexact Ha
  iintro ⟨HO, Ha, -, Hp⟩
  ihave Hp := (Entails.of_eq (rest_bar m c)) $$ Hp
  icases Hp with ⟨Hx, Hy⟩
  iapply Hk
  isplitl [Hx]; · iexact Hx
  isplitl [Hy]; · iexact Hy
  isplitl [Ha]; · iexact Ha
  iexact HO

end Cert.Paged
-- ==== Proof.Parts1.lean ====
/-
  The body's local copies: the first chunks, the next step's chunks, and the waits for a step's chunks.
-/
module

public import proofs.«01_k».proof.Proof.Steps

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

abbrev sl (h : ℕ) : Fin 2 := ⟨h % 2, Nat.mod_lt _ (by decide)⟩

/-- The eight chunks of a slot: idle, on their way, and landed. -/
def chanIdle (c : Dev nD) (s : Fin 2) : sProp 𝕄 :=
  iprop(kIdle m c s 0 ∗ kIdle m c s 1 ∗ kIdle m c s 2 ∗ kIdle m c s 3 ∗ vIdle m c s 0 ∗ vIdle m c s 1 ∗ vIdle m c s 2 ∗ vIdle m c s 3)
def chanFly (c : Dev nD) (s : Fin 2) (h : ℕ) : sProp 𝕄 :=
  iprop(kFly m c s 0 h ∗ kFly m c s 1 h ∗ kFly m c s 2 h ∗ kFly m c s 3 h ∗ vFly m c s 0 h ∗ vFly m c s 1 h ∗ vFly m c s 2 h ∗ vFly m c s 3 h)
def kChanFull (c : Dev nD) (s : Fin 2) (h : ℕ) : sProp 𝕄 := iprop(kFull m c s 0 h ∗ kFull m c s 1 h ∗ kFull m c s 2 h ∗ kFull m c s 3 h)
def vChanFull (c : Dev nD) (s : Fin 2) (h : ℕ) : sProp 𝕄 := iprop(vFull m c s 0 h ∗ vFull m c s 1 h ∗ vFull m c s 2 h ∗ vFull m c s 3 h)

theorem part1_spec (c : Dev nD) (i : grid0.Coords) (hz : hd i = 0) (h1 : k0_cond1 i = 1#1) (Kt : PUnit → sProp 𝕄) :
    iprop(kIdle m c 0 0 ∗ kIdle m c 0 1 ∗ kIdle m c 0 2 ∗ ((kFly m c 0 0 0 ∗ kFly m c 0 1 0 ∗ kFly m c 0 2 0) -∗ Kt ⟨⟩))
      ⊢ wp frame (wpE (defs₀ (F := F)) 𝒱₀ (c : Thread nD τ) none) Set.univ (k0_part1 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c h1) Kt := by
  simp only [k0_part1_eq_skeleton]; unfold k0_part1_skel
  simp only [semSignalWord, semWaitWord, Prog.lift, Prog.bind_op, Prog.bind_ret, Prog.pure_eq_ret]
  iintro ⟨Hk0, Hk1, Hk2, Hk⟩
  iapply (wp_k_start m c 0 0 0 (by decide) _ (ksem_eq 0 0 _ rfl _) _ _ rfl ((off1_eq i c).trans (by rw [hz]; rfl)) _ _) $$ Hk0; iintro Hk0
  iapply (wp_k_start m c 0 1 0 (by decide) _ (ksem_eq 0 1 _ rfl _) _ _ rfl ((off2_eq i c).trans (by rw [hz]; rfl)) _ _) $$ Hk1; iintro Hk1
  iapply (wp_k_start m c 0 2 0 (by decide) _ (ksem_eq 0 2 _ rfl _) _ _ rfl ((off3_eq i c).trans (by rw [hz]; rfl)) _ _) $$ Hk2; iintro Hk2
  rw [wp_ret]; imodintro; iapply Hk
  isplitl [Hk0]; · iexact Hk0
  isplitl [Hk1]; · iexact Hk1
  iexact Hk2

theorem part2_spec (c : Dev nD) (i : grid0.Coords) (hz : hd i = 0) (h1 : k0_cond1 i = 1#1) (Kt : PUnit → sProp 𝕄) :
    iprop(kIdle m c 0 3 ∗ vIdle m c 0 0 ∗ vIdle m c 0 1 ∗ vIdle m c 0 2 ∗ ((kFly m c 0 3 0 ∗ vFly m c 0 0 0 ∗ vFly m c 0 1 0 ∗ vFly m c 0 2 0) -∗ Kt ⟨⟩))
      ⊢ wp frame (wpE (defs₀ (F := F)) 𝒱₀ (c : Thread nD τ) none) Set.univ (k0_part2 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c h1) Kt := by
  simp only [k0_part2_eq_skeleton]; unfold k0_part2_skel
  simp only [semSignalWord, semWaitWord, Prog.lift, Prog.bind_op, Prog.bind_ret, Prog.pure_eq_ret]
  iintro ⟨Hk3, Hv0, Hv1, Hv2, Hk⟩
  iapply (wp_k_start m c 0 3 0 (by decide) _ (ksem_eq 0 3 _ rfl _) _ _ rfl ((off4_eq i c).trans (by rw [hz]; rfl)) _ _) $$ Hk3; iintro Hk3
  iapply (wp_v_start m c 0 0 0 (by decide) _ (vsem_eq 0 0 _ rfl _) _ _ rfl ((off1_eq i c).trans (by rw [hz]; rfl)) _ _) $$ Hv0; iintro Hv0
  iapply (wp_v_start m c 0 1 0 (by decide) _ (vsem_eq 0 1 _ rfl _) _ _ rfl ((off2_eq i c).trans (by rw [hz]; rfl)) _ _) $$ Hv1; iintro Hv1
  iapply (wp_v_start m c 0 2 0 (by decide) _ (vsem_eq 0 2 _ rfl _) _ _ rfl ((off3_eq i c).trans (by rw [hz]; rfl)) _ _) $$ Hv2; iintro Hv2
  rw [wp_ret]; imodintro; iapply Hk
  isplitl [Hk3]; · iexact Hk3
  isplitl [Hv0]; · iexact Hv0
  isplitl [Hv1]; · iexact Hv1
  iexact Hv2

theorem mayWait_bar (c : Dev nD) : (levAts L lv : sProp 𝕄) ⊢ MayWait (c : Thread nD τ) (.reg barrier0) () (owedAt c 0) :=
  mayWait_above c (.reg barrier0) 1 (le_refl 1) (above_at c 0)

theorem hz2 : (![0, 0] : Fin 2 → ℕ) = fun _ => 0 := by decide
theorem read_bt (f : S32x256.Idx → Elt F .i32) :
    (btM : Memref sig .tc .vmem S32x256 .i32).view.readAt (Elt F) (Rect.unit (s := S32x256) ![0, 0] S32x256.size inb_S32x256_S32x256_0_0).toLoadRect f = f :=
  Memref.readAt_unit_zero (Elt F) cc0_stg1_0 hz2 _ f
theorem read_ln (f : S32x1.Idx → Elt F .i32) :
    (lnM : Memref sig .tc .vmem S32x1 .i32).view.readAt (Elt F) (Rect.unit (s := S32x1) ![0, 0] S32x1.size inb_S32x1_S32x1_0_0).toLoadRect f = f :=
  Memref.readAt_unit_zero (Elt F) cc0_stg2_0 hz2 _ f

theorem part3_spec (K : Dev nD × Fin 21 → ℕ) (c : Dev nD) (i : grid0.Coords) (hz : hd i = 0) (h1 : k0_cond1 i = 1#1) (v2 : BitVec 32) (W : Waits sig Unit)
    (Kt : (Σ' (v204 : IVec S32x256x256 1) (v208 : IVec S32x256x1 32), IVec S32x256x1 32) → sProp 𝕄) :
    iprop(records m K ∗ levAts L lv ∗ vIdle m c 0 3 ∗ owes (c : Thread nD τ) (O₀ c) W ∗ dutyTok ER (barCell (peerX c)) 0 false ∗ dutyTok ER (barCell (peerY c)) 0 true
        ∗ (barPayX (peerX c) : sProp 𝕄) ∗ (barPayY (peerY c) : sProp 𝕄) ∗ cred (tallyAt (barCell c) () 2) ∗ atPos ER (barCell c) 0 ∅ 0
        ∗ ((btL c) ↦{fullShare} (btC m c)) ∗ ((lnL c) ↦{fullShare} (lnC m c))
        ∗ ((vFly m c 0 3 0 ∗ barPayX c ∗ barPayY c ∗ atPos ER (barCell c) 1 ∅ 0 ∗ (∃ W', owes (c : Thread nD τ) (owedAt c 0) W')
            ∗ ((btL c) ↦{fullShare} (btC m c)) ∗ ((lnL c) ↦{fullShare} (lnC m c))) -∗ Kt ⟨k0_pay1 (F := F) c (btC m c), k0_pay2, k0_pay3 (F := F) (lnC m c)⟩))
      ⊢ wp frame (wpE (defs₀ (F := F)) 𝒱₀ (c : Thread nD τ) none) Set.univ (k0_part3 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c v2 h1) Kt := by
  simp only [k0_part3_eq_skeleton]; unfold k0_part3_skel
  simp only [semSignalWord, semWaitWord, Prog.lift, Prog.bind_op, Prog.bind_ret, Prog.pure_eq_ret]
  iintro ⟨#HR, #Hlev, Hv, HO, Ht1, Ht2, Hb1, Hb2, Hc, Ha, Hbt, Hln, Hk⟩
  iapply (wp_v_start m c 0 3 0 (by decide) _ (vsem_eq 0 3 _ rfl _) _ _ rfl ((off4_eq i c).trans (by rw [hz]; rfl)) _ _) $$ Hv; iintro Hv
  iapply (wp_bar_signal m K c _ (peerX c) (Fin.ext (dev1_eq c)) false (barPayX (peerX c)) rfl rfl (owedAt c 0 + tallyAt (barCell (peerY c)) () 1) W) $$ [HO Ht1 Hb1]
  · isplitr; · iexact HR
    isplitl [HO]; · iexact HO
    isplitl [Ht1]; · iexact Ht1
    iexact Hb1
  iintro HO
  iapply (wp_bar_signal m K c _ (peerY c) (Fin.ext (dev2_eq c)) true (barPayY (peerY c)) rfl rfl (owedAt c 0) W) $$ [HO Ht2 Hb2]
  · isplitr; · iexact HR
    isplitl [HO]; · iexact HO
    isplitl [Ht2]; · iexact Ht2
    iexact Hb2
  iintro HO
  iapply (wp_bar_wait m K c rfl) $$ [Hc HO Ha]
  · isplitr; · iexact HR
    isplitl [Hc]; · iexact Hc
    isplitl [HO]; · iexact HO
    isplitr; · iapply (mayWait_bar c) $$ Hlev
    iexact Ha
  iintro ⟨Hx, Hy, Ha, HO⟩
  iapply (wp_load 𝒱₀ (c : Thread nD τ) none Set.univ (m := btM) (Finset.subset_univ _)) $$ Hbt; iintro Hbt
  iapply (wp_load 𝒱₀ (c : Thread nD τ) none Set.univ (m := lnM) (Finset.subset_univ _)) $$ Hln; iintro Hln
  rw [read_bt, read_ln]
  rw [wp_ret]; imodintro; iapply Hk
  isplitl [Hv]; · iexact Hv
  isplitl [Hx]; · iexact Hx
  isplitl [Hy]; · iexact Hy
  isplitl [Ha]; · iexact Ha
  isplitl [HO]; · iexists _; iexact HO
  isplitl [Hbt]; · iexact Hbt
  iexact Hln

theorem part4_spec (c : Dev nD) (i : grid0.Coords) (a : IVec S32x256x256 1) (b d : IVec S32x256x1 32)
    (Kt : (Σ' (v254 : FVec F S32x8192 .f32), Vec F S32x8192 .f32) → sProp 𝕄) :
    iprop((∃ f : Buf (Elt F) (lwL c), (lwL c) ↦{fullShare} f) ∗ (∀ w, (∃ f : Buf (Elt F) (lwL c), (lwL c) ↦{fullShare} f) -∗ Kt ⟨k0_pay4 (F := F) a b d, w⟩))
      ⊢ wp frame (wpE (defs₀ (F := F)) 𝒱₀ (c : Thread nD τ) none) Set.univ (k0_part4 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 a b d) Kt := by
  simp only [k0_part4_eq_skeleton]; unfold k0_part4_skel
  simp only [semSignalWord, semWaitWord, Prog.lift, Prog.bind_op, Prog.bind_ret, Prog.pure_eq_ret]
  iintro ⟨⟨%f, Hf⟩, Hk⟩
  iapply (wp_load 𝒱₀ (c : Thread nD τ) none Set.univ (m := lwM) (Finset.subset_univ _)) $$ Hf; iintro Hf
  rw [wp_ret]; imodintro; iapply Hk
  iexists f; iexact Hf

theorem part5_spec (c : Dev nD) (i : grid0.Coords) (hh : hd i + 1 < 8) (h2 : k0_cond2 i = 1#1) (v4 : BitVec 32) (Kt : PUnit → sProp 𝕄) :
    iprop(kIdle m c (sl (hd i + 1)) 0 ∗ kIdle m c (sl (hd i + 1)) 1 ∗ kIdle m c (sl (hd i + 1)) 2 ∗ kIdle m c (sl (hd i + 1)) 3 ∗ ((kFly m c (sl (hd i + 1)) 0 (hd i + 1) ∗ kFly m c (sl (hd i + 1)) 1 (hd i + 1) ∗ kFly m c (sl (hd i + 1)) 2 (hd i + 1) ∗ kFly m c (sl (hd i + 1)) 3 (hd i + 1)) -∗ Kt ⟨⟩))
      ⊢ wp frame (wpE (defs₀ (F := F)) 𝒱₀ (c : Thread nD τ) none) Set.univ (k0_part5 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c v4 h2) Kt := by
  simp only [k0_part5_eq_skeleton]; unfold k0_part5_skel
  simp only [semSignalWord, semWaitWord, Prog.lift, Prog.bind_op, Prog.bind_ret, Prog.pure_eq_ret]
  iintro ⟨Hk0, Hk1, Hk2, Hk3, Hk⟩
  iapply (wp_k_start m c (sl (hd i + 1)) 0 (hd i + 1) hh _ (ksem_eq (sl (hd i + 1)) 0 _ (off5_eq i) _) _ _ (off6_eq i) (off7_eq i c) _ _) $$ Hk0; iintro Hk0
  iapply (wp_k_start m c (sl (hd i + 1)) 1 (hd i + 1) hh _ (ksem_eq (sl (hd i + 1)) 1 _ (off8_eq i) _) _ _ (off9_eq i) (off10_eq i c) _ _) $$ Hk1; iintro Hk1
  iapply (wp_k_start m c (sl (hd i + 1)) 2 (hd i + 1) hh _ (ksem_eq (sl (hd i + 1)) 2 _ (off11_eq i) _) _ _ (off12_eq i) (off13_eq i c) _ _) $$ Hk2; iintro Hk2
  iapply (wp_k_start m c (sl (hd i + 1)) 3 (hd i + 1) hh _ (ksem_eq (sl (hd i + 1)) 3 _ (off14_eq i) _) _ _ (off15_eq i) (off16_eq i c) _ _) $$ Hk3; iintro Hk3
  rw [wp_ret]; imodintro; iapply Hk
  isplitl [Hk0]; · iexact Hk0
  isplitl [Hk1]; · iexact Hk1
  isplitl [Hk2]; · iexact Hk2
  iexact Hk3

theorem mayWait_low (c : Dev nD) (t n : ℕ) (h : n < 28) : (levAts L lv : sProp 𝕄) ⊢ MayWait (c : Thread nD τ) (.dma (dsem n)) () (owedAt c t) :=
  mayWait_above c _ 0 (by unfold lv; dsimp only; rw [if_pos h]) ((above_at c t).mono (by decide))

theorem part16_spec (c : Dev nD) (i : grid0.Coords) (t : ℕ) (ht : hd i = t) (Kt : PUnit → sProp 𝕄) :
    iprop(levAts L lv ∗ (∃ W, owes (c : Thread nD τ) (owedAt c t) W) ∗ kFly m c (sl t) 0 t ∗ kFly m c (sl t) 1 t ∗ kFly m c (sl t) 2 t ∗ kFly m c (sl t) 3 t
        ∗ (((∃ W, owes (c : Thread nD τ) (owedAt c t) W) ∗ kChanFull m c (sl t) t) -∗ Kt ⟨⟩))
      ⊢ wp frame (wpE (defs₀ (F := F)) 𝒱₀ (c : Thread nD τ) none) Set.univ (k0_part16 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c) Kt := by
  subst ht
  simp only [k0_part16_eq_skeleton]; unfold k0_part16_skel
  simp only [semSignalWord, semWaitWord, Prog.lift, Prog.bind_op, Prog.bind_ret, Prog.pure_eq_ret]
  iintro ⟨#Hlev, ⟨%W, HO⟩, H0, H1, H2, H3, Hk⟩
  iapply (wp_k_wait m c (sl (hd i)) 0 (hd i) _ (ksem_eq (sl (hd i)) 0 _ (off17_eq i) _) _ _ _ _) $$ [H0 HO]
  · isplitl [H0]; · iexact H0
    isplitl [HO]; · iexact HO
    rw [ksem_eq (sl (hd i)) 0 _ (off17_eq i) _]
    iapply (mayWait_low c (hd i) _ (by have := (sl (hd i)).isLt; show 4 + 4 * (sl (hd i)).val + 0 < 28; omega)) $$ Hlev
  iintro ⟨H0, HO⟩
  iapply (wp_k_wait m c (sl (hd i)) 1 (hd i) _ (ksem_eq (sl (hd i)) 1 _ (off20_eq i) _) _ _ _ _) $$ [H1 HO]
  · isplitl [H1]; · iexact H1
    isplitl [HO]; · iexact HO
    rw [ksem_eq (sl (hd i)) 1 _ (off20_eq i) _]
    iapply (mayWait_low c (hd i) _ (by have := (sl (hd i)).isLt; show 4 + 4 * (sl (hd i)).val + 1 < 28; omega)) $$ Hlev
  iintro ⟨H1, HO⟩
  iapply (wp_k_wait m c (sl (hd i)) 2 (hd i) _ (ksem_eq (sl (hd i)) 2 _ (off23_eq i) _) _ _ _ _) $$ [H2 HO]
  · isplitl [H2]; · iexact H2
    isplitl [HO]; · iexact HO
    rw [ksem_eq (sl (hd i)) 2 _ (off23_eq i) _]
    iapply (mayWait_low c (hd i) _ (by have := (sl (hd i)).isLt; show 4 + 4 * (sl (hd i)).val + 2 < 28; omega)) $$ Hlev
  iintro ⟨H2, HO⟩
  iapply (wp_k_wait m c (sl (hd i)) 3 (hd i) _ (ksem_eq (sl (hd i)) 3 _ (off26_eq i) _) _ _ _ _) $$ [H3 HO]
  · isplitl [H3]; · iexact H3
    isplitl [HO]; · iexact HO
    rw [ksem_eq (sl (hd i)) 3 _ (off26_eq i) _]
    iapply (mayWait_low c (hd i) _ (by have := (sl (hd i)).isLt; show 4 + 4 * (sl (hd i)).val + 3 < 28; omega)) $$ Hlev
  iintro ⟨H3, HO⟩
  rw [wp_ret]; imodintro; iapply Hk
  isplitl [HO]; · iexists _; iexact HO
  unfold kChanFull
  isplitl [H0]; · iexact H0
  isplitl [H1]; · iexact H1
  isplitl [H2]; · iexact H2
  iexact H3

theorem part17_spec (c : Dev nD) (i : grid0.Coords) (t : ℕ) (ht : hd i = t) (v4 : BitVec 32) (Kt : (Σ' (v83 : BitVec 32), BitVec 32) → sProp 𝕄) :
    iprop(levAts L lv ∗ (∃ W, owes (c : Thread nD τ) (owedAt c t) W) ∗ vFly m c (sl t) 0 t ∗ vFly m c (sl t) 1 t ∗ vFly m c (sl t) 2 t ∗ vFly m c (sl t) 3 t
        ∗ (∀ r, ((∃ W, owes (c : Thread nD τ) (owedAt c t) W) ∗ vChanFull m c (sl t) t) -∗ Kt r))
      ⊢ wp frame (wpE (defs₀ (F := F)) 𝒱₀ (c : Thread nD τ) none) Set.univ (k0_part17 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c v4) Kt := by
  subst ht
  simp only [k0_part17_eq_skeleton]; unfold k0_part17_skel
  simp only [semSignalWord, semWaitWord, Prog.lift, Prog.bind_op, Prog.bind_ret, Prog.pure_eq_ret]
  iintro ⟨#Hlev, ⟨%W, HO⟩, H0, H1, H2, H3, Hk⟩
  iapply (wp_v_wait m c (sl (hd i)) 0 (hd i) _ (vsem_eq (sl (hd i)) 0 _ (off17_eq i) _) _ _ _ _) $$ [H0 HO]
  · isplitl [H0]; · iexact H0
    isplitl [HO]; · iexact HO
    rw [vsem_eq (sl (hd i)) 0 _ (off17_eq i) _]
    iapply (mayWait_low c (hd i) _ (by have := (sl (hd i)).isLt; show 12 + 4 * (sl (hd i)).val + 0 < 28; omega)) $$ Hlev
  iintro ⟨H0, HO⟩
  iapply (wp_v_wait m c (sl (hd i)) 1 (hd i) _ (vsem_eq (sl (hd i)) 1 _ (off20_eq i) _) _ _ _ _) $$ [H1 HO]
  · isplitl [H1]; · iexact H1
    isplitl [HO]; · iexact HO
    rw [vsem_eq (sl (hd i)) 1 _ (off20_eq i) _]
    iapply (mayWait_low c (hd i) _ (by have := (sl (hd i)).isLt; show 12 + 4 * (sl (hd i)).val + 1 < 28; omega)) $$ Hlev
  iintro ⟨H1, HO⟩
  iapply (wp_v_wait m c (sl (hd i)) 2 (hd i) _ (vsem_eq (sl (hd i)) 2 _ (off23_eq i) _) _ _ _ _) $$ [H2 HO]
  · isplitl [H2]; · iexact H2
    isplitl [HO]; · iexact HO
    rw [vsem_eq (sl (hd i)) 2 _ (off23_eq i) _]
    iapply (mayWait_low c (hd i) _ (by have := (sl (hd i)).isLt; show 12 + 4 * (sl (hd i)).val + 2 < 28; omega)) $$ Hlev
  iintro ⟨H2, HO⟩
  iapply (wp_v_wait m c (sl (hd i)) 3 (hd i) _ (vsem_eq (sl (hd i)) 3 _ (off26_eq i) _) _ _ _ _) $$ [H3 HO]
  · isplitl [H3]; · iexact H3
    isplitl [HO]; · iexact HO
    rw [vsem_eq (sl (hd i)) 3 _ (off26_eq i) _]
    iapply (mayWait_low c (hd i) _ (by have := (sl (hd i)).isLt; show 12 + 4 * (sl (hd i)).val + 3 < 28; omega)) $$ Hlev
  iintro ⟨H3, HO⟩
  rw [wp_ret]; imodintro; iapply Hk
  isplitl [HO]; · iexists _; iexact HO
  unfold vChanFull
  isplitl [H0]; · iexact H0
  isplitl [H1]; · iexact H1
  isplitl [H2]; · iexact H2
  iexact H3

end Cert.Paged
-- ==== Proof.Parts2.lean ====
/-
  A step's computation and the transfer of its partial output.
-/
module

public import proofs.«01_k».proof.Proof.Parts1

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_fin8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem slotS_pieces (s : ℕ) : slotS s = Finset.univ.biUnion fun j : Fin 4 => pieceS s j.val := by
  ext x
  rw [mem_slotS, Finset.mem_biUnion]
  have h1 : (x 1).val < 256 := (x 1).isLt
  constructor
  · intro h
    exact ⟨⟨(x 1).val / 64, by omega⟩, Finset.mem_univ _, mem_pieceS.mpr ⟨h, rfl⟩⟩
  · rintro ⟨j, -, hj⟩
    exact (mem_pieceS.mp hj).1
theorem pieceS_disjoint (s : ℕ) : ∀ j ∈ (Finset.univ : Finset (Fin 4)), ∀ j' ∈ (Finset.univ : Finset (Fin 4)), j ≠ j' → Disjoint (pieceS s j.val) (pieceS s j'.val) := by
  intro j _ j' _ h
  refine Finset.disjoint_left.mpr fun x hx hx' => h (Fin.ext ?_)
  exact (mem_pieceS.mp hx).2.symm.trans (mem_pieceS.mp hx').2

/-- A landed slot as one piece, and what else its chunks hold. -/
def kRest (c : Dev nD) (s : Fin 2) : sProp 𝕄 :=
  iprop((semVal ((c : Thread nD τ), .dma (kSem s 0)) 0 ∗ ((kHbm c) ↦{kvq s 0} (kArg m c)))
    ∗ (semVal ((c : Thread nD τ), .dma (kSem s 1)) 0 ∗ ((kHbm c) ↦{kvq s 1} (kArg m c)))
    ∗ (semVal ((c : Thread nD τ), .dma (kSem s 2)) 0 ∗ ((kHbm c) ↦{kvq s 2} (kArg m c)))
    ∗ (semVal ((c : Thread nD τ), .dma (kSem s 3)) 0 ∗ ((kHbm c) ↦{kvq s 3} (kArg m c))))

/-- A landed slot as one piece, and what else its chunks hold. -/
def vRest (c : Dev nD) (s : Fin 2) : sProp 𝕄 :=
  iprop((semVal ((c : Thread nD τ), .dma (vSem s 0)) 0 ∗ ((vHbm c) ↦{kvq s 0} (vArg m c)))
    ∗ (semVal ((c : Thread nD τ), .dma (vSem s 1)) 0 ∗ ((vHbm c) ↦{kvq s 1} (vArg m c)))
    ∗ (semVal ((c : Thread nD τ), .dma (vSem s 2)) 0 ∗ ((vHbm c) ↦{kvq s 2} (vArg m c)))
    ∗ (semVal ((c : Thread nD τ), .dma (vSem s 3)) 0 ∗ ((vHbm c) ↦{kvq s 3} (vArg m c))))

theorem k_pieces (c : Dev nD) (s : Fin 2) (f : Buf (Elt F) (kLoc c)) :
    ((kLoc c) ↦[slotS s.val]{fullShare} f : sProp 𝕄) = iprop(((kLoc c) ↦[pieceS s.val 0]{fullShare} f) ∗ ((kLoc c) ↦[pieceS s.val 1]{fullShare} f)
      ∗ ((kLoc c) ↦[pieceS s.val 2]{fullShare} f) ∗ ((kLoc c) ↦[pieceS s.val 3]{fullShare} f)) := by
  rw [slotS_pieces, pointsTo_biUnion _ _ (pieceS_disjoint s.val), bigSep_fin4]
  rfl
theorem k_join (c : Dev nD) (s : Fin 2) (h : ℕ) : kChanFull m c s h ⊢ iprop(((kLoc c) ↦[slotS s.val]{fullShare} (kAt m c h)) ∗ kRest m c s) := by
  rw [k_pieces]
  unfold kChanFull kFull kRest
  iintro ⟨⟨Hs0, Hp0, Hh0⟩, ⟨Hs1, Hp1, Hh1⟩, ⟨Hs2, Hp2, Hh2⟩, ⟨Hs3, Hp3, Hh3⟩⟩
  isplitl [Hp0 Hp1 Hp2 Hp3]
  · isplitl [Hp0]; · iexact Hp0
    isplitl [Hp1]; · iexact Hp1
    isplitl [Hp2]; · iexact Hp2
    iexact Hp3
  isplitl [Hs0 Hh0]; · isplitl [Hs0] <;> iassumption
  isplitl [Hs1 Hh1]; · isplitl [Hs1] <;> iassumption
  isplitl [Hs2 Hh2]; · isplitl [Hs2] <;> iassumption
  isplitl [Hs3] <;> iassumption
theorem k_split (c : Dev nD) (s : Fin 2) (f : Buf (Elt F) (kLoc c)) : iprop(((kLoc c) ↦[slotS s.val]{fullShare} f) ∗ kRest m c s)
    ⊢ iprop(kIdle m c s 0 ∗ kIdle m c s 1 ∗ kIdle m c s 2 ∗ kIdle m c s 3) := by
  rw [k_pieces]
  unfold kIdle kRest
  iintro ⟨⟨Hp0, Hp1, Hp2, Hp3⟩, ⟨Hs0, Hh0⟩, ⟨Hs1, Hh1⟩, ⟨Hs2, Hh2⟩, ⟨Hs3, Hh3⟩⟩
  isplitl [Hs0 Hp0 Hh0]
  · isplitl [Hs0]; · iexact Hs0
    isplitl [Hp0]; · iexists f; iexact Hp0
    iexact Hh0
  isplitl [Hs1 Hp1 Hh1]
  · isplitl [Hs1]; · iexact Hs1
    isplitl [Hp1]; · iexists f; iexact Hp1
    iexact Hh1
  isplitl [Hs2 Hp2 Hh2]
  · isplitl [Hs2]; · iexact Hs2
    isplitl [Hp2]; · iexists f; iexact Hp2
    iexact Hh2
  isplitl [Hs3]; · iexact Hs3
  isplitl [Hp3]; · iexists f; iexact Hp3
  iexact Hh3

theorem v_pieces (c : Dev nD) (s : Fin 2) (f : Buf (Elt F) (vLoc c)) :
    ((vLoc c) ↦[slotS s.val]{fullShare} f : sProp 𝕄) = iprop(((vLoc c) ↦[pieceS s.val 0]{fullShare} f) ∗ ((vLoc c) ↦[pieceS s.val 1]{fullShare} f)
      ∗ ((vLoc c) ↦[pieceS s.val 2]{fullShare} f) ∗ ((vLoc c) ↦[pieceS s.val 3]{fullShare} f)) := by
  rw [slotS_pieces, pointsTo_biUnion _ _ (pieceS_disjoint s.val), bigSep_fin4]
  rfl
theorem v_join (c : Dev nD) (s : Fin 2) (h : ℕ) : vChanFull m c s h ⊢ iprop(((vLoc c) ↦[slotS s.val]{fullShare} (vAt m c h)) ∗ vRest m c s) := by
  rw [v_pieces]
  unfold vChanFull vFull vRest
  iintro ⟨⟨Hs0, Hp0, Hh0⟩, ⟨Hs1, Hp1, Hh1⟩, ⟨Hs2, Hp2, Hh2⟩, ⟨Hs3, Hp3, Hh3⟩⟩
  isplitl [Hp0 Hp1 Hp2 Hp3]
  · isplitl [Hp0]; · iexact Hp0
    isplitl [Hp1]; · iexact Hp1
    isplitl [Hp2]; · iexact Hp2
    iexact Hp3
  isplitl [Hs0 Hh0]; · isplitl [Hs0] <;> iassumption
  isplitl [Hs1 Hh1]; · isplitl [Hs1] <;> iassumption
  isplitl [Hs2 Hh2]; · isplitl [Hs2] <;> iassumption
  isplitl [Hs3] <;> iassumption
theorem v_split (c : Dev nD) (s : Fin 2) (f : Buf (Elt F) (vLoc c)) : iprop(((vLoc c) ↦[slotS s.val]{fullShare} f) ∗ vRest m c s)
    ⊢ iprop(vIdle m c s 0 ∗ vIdle m c s 1 ∗ vIdle m c s 2 ∗ vIdle m c s 3) := by
  rw [v_pieces]
  unfold vIdle vRest
  iintro ⟨⟨Hp0, Hp1, Hp2, Hp3⟩, ⟨Hs0, Hh0⟩, ⟨Hs1, Hh1⟩, ⟨Hs2, Hh2⟩, ⟨Hs3, Hh3⟩⟩
  isplitl [Hs0 Hp0 Hh0]
  · isplitl [Hs0]; · iexact Hs0
    isplitl [Hp0]; · iexists f; iexact Hp0
    iexact Hh0
  isplitl [Hs1 Hp1 Hh1]
  · isplitl [Hs1]; · iexact Hs1
    isplitl [Hp1]; · iexists f; iexact Hp1
    iexact Hh1
  isplitl [Hs2 Hp2 Hh2]
  · isplitl [Hs2]; · iexact Hs2
    isplitl [Hp2]; · iexists f; iexact Hp2
    iexact Hh2
  isplitl [Hs3]; · iexact Hs3
  isplitl [Hp3]; · iexists f; iexact Hp3
  iexact Hh3

theorem slot_load (h : ℕ) (off : Fin 4 → ℕ) (e : off = ![h, 0, 0, 0]) (hb : ∀ a, off a + S1x256x32x128.size a ≤ S2x256x32x128.size a) :
    (kB : Memref sig .tc .vmem S2x256x32x128 .f32).view.setOn (Rect.unit (s := S2x256x32x128) off S1x256x32x128.size hb).toLoadRect.set ⊆ slotS h
      ∧ (vB : Memref sig .tc .vmem S2x256x32x128 .f32).view.setOn (Rect.unit (s := S2x256x32x128) off S1x256x32x128.size hb).toLoadRect.set ⊆ slotS h := by
  constructor
  · have h1 : ((kB : Memref sig .tc .vmem S2x256x32x128 .f32).access (Rect.unit (s := S2x256x32x128) off S1x256x32x128.size hb)).set ⊆ slotS h :=
      ((View.set_slice_whole _ _).trans (slot_rect h off e hb)).subset
    rwa [View.set_slice] at h1
  · have h1 : ((vB : Memref sig .tc .vmem S2x256x32x128 .f32).access (Rect.unit (s := S2x256x32x128) off S1x256x32x128.size hb)).set ⊆ slotS h :=
      ((View.set_slice_whole _ _).trans (slot_rect h off e hb)).subset
    rwa [View.set_slice] at h1
theorem row_access (h : ℕ) (off : Fin 3 → ℕ) (e : off = ![h, 0, 0]) (hb : ∀ a, off a + S1x32x128.size a ≤ S8x32x128.size a) :
    ((oaM : Memref sig .tc .vmem S8x32x128 .f32).access (Rect.unit (s := S8x32x128) off S1x32x128.size hb)).set = rowS h :=
  (View.set_slice_whole _ _).trans (row_rect h off e hb)
theorem row_load (h : ℕ) (off : Fin 3 → ℕ) (e : off = ![h, 0, 0]) (hb : ∀ a, off a + S1x32x128.size a ≤ S8x32x128.size a) :
    (oaM : Memref sig .tc .vmem S8x32x128 .f32).view.setOn (Rect.unit (s := S8x32x128) off S1x32x128.size hb).toLoadRect.set ⊆ rowS h := by
  have h1 := (row_access h off e hb).subset
  rwa [View.set_slice] at h1
theorem read_lw (f : S32x8192.Idx → Elt F .f32) :
    (lwM : Memref sig .tc .vmem S32x8192 .f32).view.readAt (Elt F) (Rect.unit (s := S32x8192) ![0, 0] S32x8192.size inb_S32x8192_S32x8192_0_0).toLoadRect f = f :=
  Memref.readAt_unit_zero (Elt F) cc0_scratch0 hz2 _ f
theorem write_lw (f w : S32x8192.Idx → Elt F .f32) :
    ((lwM : Memref sig .tc .vmem S32x8192 .f32).access (Rect.unit (s := S32x8192) ![0, 0] S32x8192.size inb_S32x8192_S32x8192_0_0)).write (Elt F) f w Finset.univ = w :=
  Memref.write_access_unit_zero_univ (Elt F) cc0_scratch0 hz2 _ f w

theorem coords_of (i : grid0.Coords) (h : Fin 8) (e : h.val = hd i) : ci h = i := by
  rw [eq_ci i]; congr 1; exact Fin.ext e

theorem oa_store (c : Dev nD) (i : grid0.Coords) (off : Fin 3 → ℕ) (e : off = ![hd i, 0, 0]) (hb : ∀ a, off a + S1x32x128.size a ≤ S8x32x128.size a)
    (f : S8x32x128.Idx → Elt F .f32) (x : S8x32x128.Idx) (hx : x ∈ rowS (hd i)) :
    ((oaM : Memref sig .tc .vmem S8x32x128 .f32).access (Rect.unit (s := S8x32x128) off S1x32x128.size hb)).write (Elt F) f (OAt m c i) Finset.univ x = OA m c x := by
  subst e
  rw [mem_rowS] at hx
  have hy : ((oaM : Memref sig .tc .vmem S8x32x128 .f32).access (Rect.unit (s := S8x32x128) ![hd i, 0, 0] S1x32x128.size hb)).emb (ix3 (0 : Fin 1) (x 1) (x 2)) = x := by
    funext a
    refine Fin.ext ?_
    fin_cases a
    · show hd i + 1 * 0 = (x 0).val; omega
    · show 0 + 1 * (x 1).val = (x 1).val; omega
    · show 0 + 1 * (x 2).val = (x 2).val; omega
  conv_lhs => rw [← hy]
  rw [View.write_emb_of_mem _ _ (Finset.mem_univ _)]
  unfold OA
  rw [coords_of i (x 0) hx]
  rfl

theorem la_store (c : Dev nD) (i : grid0.Coords) (off : Fin 3 → ℕ) (e : off = ![hd i, 0, 0]) (hb : ∀ a, off a + S1x32x1.size a ≤ S8x32x1.size a)
    (f : S8x32x1.Idx → Elt F .f32) (hf : ∀ x : S8x32x1.Idx, (x 0).val < hd i → f x = LA m c x) (x : S8x32x1.Idx) (hx : (x 0).val < hd i + 1) :
    ((laM : Memref sig .tc .vmem S8x32x1 .f32).access (Rect.unit (s := S8x32x1) off S1x32x1.size hb)).write (Elt F) f (LAt m c i) Finset.univ x = LA m c x := by
  subst e
  by_cases h : (x 0).val = hd i
  · have h2 : (x 2).val < 1 := (x 2).isLt
    have hy : ((laM : Memref sig .tc .vmem S8x32x1 .f32).access (Rect.unit (s := S8x32x1) ![hd i, 0, 0] S1x32x1.size hb)).emb (ix3 (0 : Fin 1) (x 1) (x 2)) = x := by
      funext a
      refine Fin.ext ?_
      fin_cases a
      · show hd i + 1 * 0 = (x 0).val; omega
      · show 0 + 1 * (x 1).val = (x 1).val; omega
      · show 0 + 1 * (x 2).val = (x 2).val; omega
    conv_lhs => rw [← hy]
    rw [View.write_emb_of_mem _ _ (Finset.mem_univ _)]
    unfold LA
    rw [coords_of i (x 0) h]
    rfl
  · rw [View.write_of_not_mem, hf x (by omega)]
    intro hm
    have hm' : x ∈ (Rect.unit (s := S8x32x1) ![hd i, 0, 0] S1x32x1.size hb).set := by
      rw [View.setOn_univ] at hm
      have e := View.set_slice_whole cc0_scratch2 (Rect.unit (s := S8x32x1) ![hd i, 0, 0] S1x32x1.size hb)
      exact e.le hm
    have := (Rect.mem_set_unit.mp hm') 0
    simp [S1x32x1] at this
    omega

/-- The partial sums stored before step `t`. -/
def laPts (c : Dev nD) (t : ℕ) : sProp 𝕄 :=
  iprop(∃ f : Buf (Elt F) (laL c), ⌜∀ x : S8x32x1.Idx, (x 0).val < t → (f : S8x32x1.Idx → Elt F .f32) x = LA m c x⌝ ∗ ((laL c) ↦{fullShare} f))

theorem part18_spec (c : Dev nD) (i : grid0.Coords) (t : ℕ) (ht : hd i = t) (a0 v2 v14 v84 : BitVec 32) (Kt : PUnit → sProp 𝕄) :
    iprop(kChanFull m c (sl t) t ∗ vChanFull m c (sl t) t ∗ ((qL c) ↦{fullShare} (qC m c)) ∗ ((lwL c) ↦{fullShare} (LW m c))
        ∗ (∃ f : Buf (Elt F) (oaL c), (oaL c) ↦[rowS t]{fullShare} f) ∗ laPts m c t
        ∗ ((chanIdle m c (sl t) ∗ ((qL c) ↦{fullShare} (qC m c)) ∗ ((lwL c) ↦{fullShare} (LW m c))
            ∗ ((oaL c) ↦[rowS t]{fullShare} (OA m c)) ∗ laPts m c (t + 1)) -∗ Kt ⟨⟩))
      ⊢ wp frame (wpE (defs₀ (F := F)) 𝒱₀ (c : Thread nD τ) none) Set.univ (k0_part18 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 a0 c v2 v14 v84) Kt := by
  subst ht
  simp only [k0_part18_eq_skeleton]; unfold k0_part18_skel
  simp only [semSignalWord, semWaitWord, Prog.lift, Prog.bind_op, Prog.bind_ret, Prog.pure_eq_ret]
  unfold laPts
  iintro ⟨HK, HV, Hq, Hlw, ⟨%fo, Ho⟩, ⟨%fl, %hfl, Hl⟩, Hk⟩
  ihave HK := (k_join m c (sl (hd i)) (hd i)) $$ HK
  ihave HV := (v_join m c (sl (hd i)) (hd i)) $$ HV
  icases HK with ⟨HKp, HKr⟩
  icases HV with ⟨HVp, HVr⟩
  iapply (wp_load 𝒱₀ (c : Thread nD τ) none Set.univ (m := qM) (Finset.subset_univ _)) $$ Hq; iintro Hq
  iapply (wp_load 𝒱₀ (c : Thread nD τ) none Set.univ (m := kB) (slot_load (hd i % 2) _ (off30_eq i) _).1) $$ HKp; iintro HKp
  iapply (wp_load 𝒱₀ (c : Thread nD τ) none Set.univ (m := vB) (slot_load (hd i % 2) _ (off30_eq i) _).2) $$ HVp; iintro HVp
  iapply (wp_load 𝒱₀ (c : Thread nD τ) none Set.univ (m := lwM) (Finset.subset_univ _)) $$ Hlw; iintro Hlw
  rw [read_lw]
  iapply (wp_load 𝒱₀ (c : Thread nD τ) none Set.univ (m := oaM) (row_load (hd i) _ (off31_eq i) _)) $$ Ho; iintro Ho
  iapply (wp_store 𝒱₀ (c : Thread nD τ) none Set.univ (m := oaM) (r := Rect.unit (s := S8x32x128) (k0_off31 i) S1x32x128.size (k0_off31_inb i)) (Mk := Finset.univ) (S := rowS (hd i)) (f := fo) (row_access (hd i) _ (off31_eq i) _).subset) $$ Ho; iintro Ho
  iapply (wp_load 𝒱₀ (c : Thread nD τ) none Set.univ (m := laM) (Finset.subset_univ _)) $$ Hl; iintro Hl
  iapply (wp_store 𝒱₀ (c : Thread nD τ) none Set.univ (m := laM) (r := Rect.unit (s := S8x32x1) (k0_off32 i) S1x32x1.size (k0_off32_inb i)) (Mk := Finset.univ) (S := Finset.univ) (f := fl) (Finset.subset_univ _)) $$ Hl; iintro Hl
  rw [wp_ret]; imodintro; iapply Hk
  isplitl [HKp HKr HVp HVr]
  · ihave HK := (k_split m c (sl (hd i)) _) $$ [HKp HKr]
    · isplitl [HKp]; · iexact HKp
      iexact HKr
    ihave HV := (v_split m c (sl (hd i)) _) $$ [HVp HVr]
    · isplitl [HVp]; · iexact HVp
      iexact HVr
    unfold chanIdle
    icases HK with ⟨H0, H1, H2, H3⟩
    isplitl [H0]; · iexact H0
    isplitl [H1]; · iexact H1
    isplitl [H2]; · iexact H2
    isplitl [H3]; · iexact H3
    iexact HV
  isplitl [Hq]; · iexact Hq
  isplitl [Hlw]; · iexact Hlw
  isplitl [Ho]
  · iapply (Entails.of_eq (pointsTo_congr fun x hx => oa_store m c i _ (off31_eq i) _ fo x hx)) $$ Ho
  iexists _
  isplitr [Hl]; rotate_left; · iexact Hl
  ipureintro
  exact fun x hx => la_store m c i _ (off32_eq i) _ fl hfl x hx

/-- What the steps before `t` leave and the steps from `t` on need, besides the keys and values. -/
def core (c : Dev nD) (t : ℕ) : sProp 𝕄 :=
  iprop((∃ W, owes (c : Thread nD τ) (owedAt c t) W) ∗ (((qL c) ↦{fullShare} (qC m c)) ∗ ((lwL c) ↦{fullShare} (LW m c)))
    ∗ (bigSep (geS t) fun h => iprop((∃ f : Buf (Elt F) (oaL c), (oaL c) ↦[rowS h.val]{fullShare} f)
        ∗ (∃ f : Buf (Elt F) (orL (peerX c)), (orL (peerX c)) ↦[rowS h.val]{fullShare} f)
        ∗ dutyTok ER (dcell c (20 + h.val)) 0 false ∗ dutyTok ER (dcell (peerX c) (28 + h.val)) 0 false))
    ∗ laPts m c t ∗ (bigSep (ltS t) fun h => cred (tallyAt (dcell c (20 + h.val)) () oN)))

end Cert.Paged
-- ==== Proof.Parts3.lean ====
/-
  The last step's exchanges: the waits for the partial outputs, the exchange of the partial sums, and the stores of the device's half of the result.
-/
module

public import proofs.«01_k».proof.Proof.Parts2

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

variable (K : Dev nD × Fin 21 → ℕ)

/-- A credit still to be waited for, and one waited for with what it carried. -/
def pend (c : Dev nD) (n : ℕ) : sProp 𝕄 := iprop(cred (tallyAt (dcell c n) () (amt n)) ∗ atPos ER (dcell c n) 0 ∅ 0)
def gone (c : Dev nD) (n : ℕ) : sProp 𝕄 := iprop(dpay m c n ∗ atPos ER (dcell c n) 1 ∅ 0)
/-- What is owed between the partial sums' transfer and the result's. -/
abbrev Oy (c : Dev nD) : CellTallies nD τ sig Unit := tallyAt (dcell (peerY c) 39) () yN

theorem amt_o (n : ℕ) (h : n < 36) : amt n = oN := if_pos h

theorem wp_wait_zero (c : Dev nD) (n : ℕ) (h : 20 ≤ n) (h' : n < 40) (sm : DmaSem sig) (hsm : sm = dS n) (W : Waits sig Unit)
    {sp sp' : Space} {s : Shape} {src : Memref sig .tc sp s .f32} {dst : Memref sig .tc sp' s .f32}
    {hsrc : src.view.WordExact} {hdst : dst.view.WordExact}
    {α : Type} {Q : α → sProp 𝕄} {k : PUnit → Prog (TpuEff nD τ sig (Elt F) Λ₀ .tc) α} :
    iprop(records m K ∗ owes (c : Thread nD τ) 0 W ∗ pend c n)
      ⊢ iprop((⌜dst.view.dmaCredit = amt n⌝ ∗ (((∃ W, owes (c : Thread nD τ) 0 W) ∗ gone m c n) -∗ wp frame (wpE (defs₀ (F := F)) 𝒱₀ (c : Thread nD τ) none) Set.univ (k ⟨⟩) Q))
          -∗ wp frame (wpE (defs₀ (F := F)) 𝒱₀ (c : Thread nD τ) none) Set.univ (.op (.waitDma2 sm src dst hsrc hdst) k) Q) := by
  unfold pend gone
  iintro ⟨#HR, HO, Hc, Ha⟩ ⟨%hN, Hk⟩
  iapply (wp_pay_wait m K c n h h' sm hsm hN) $$ [HO Hc Ha]
  · isplitr; · iexact HR
    isplitl [Hc]; · iexact Hc
    isplitl [HO]; · iexact HO
    isplitr; · rw [MayWait_zero]; iempintro
    iexact Ha
  iintro ⟨Hp, Ha, HO⟩
  iapply Hk
  isplitl [HO]; · iexists _; iexact HO
  isplitl [Hp] <;> iassumption

theorem wp_pend (c : Dev nD) (n : ℕ) (h : 20 ≤ n) (h' : n < 39) (sm : DmaSem sig) (hsm : sm = dS n)
    {sp sp' : Space} {s : Shape} {src : Memref sig .tc sp s .f32} {dst : Memref sig .tc sp' s .f32}
    {hsrc : src.view.WordExact} {hdst : dst.view.WordExact}
    {α : Type} {Q : α → sProp 𝕄} {k : PUnit → Prog (TpuEff nD τ sig (Elt F) Λ₀ .tc) α} :
    iprop((records m K ∗ levAts L lv) ∗ (∃ W, owes (c : Thread nD τ) (Oy c) W) ∗ pend c n)
      ⊢ iprop((⌜dst.view.dmaCredit = amt n⌝ ∗ (((∃ W, owes (c : Thread nD τ) (Oy c) W) ∗ gone m c n) -∗ wp frame (wpE (defs₀ (F := F)) 𝒱₀ (c : Thread nD τ) none) Set.univ (k ⟨⟩) Q))
          -∗ wp frame (wpE (defs₀ (F := F)) 𝒱₀ (c : Thread nD τ) none) Set.univ (.op (.waitDma2 sm src dst hsrc hdst) k) Q) := by
  unfold pend gone
  iintro ⟨⟨#HR, #Hlev⟩, ⟨%W, HO⟩, Hc, Ha⟩ ⟨%hN, Hk⟩
  iapply (wp_pay_wait m K c n h (by omega) sm hsm hN) $$ [HO Hc Ha]
  · isplitr; · iexact HR
    isplitl [Hc]; · iexact Hc
    isplitl [HO]; · iexact HO
    isplitr
    · iapply (mayWait_above c (.dma (dS n)) 2 (by rw [lv_dma c n (by omega)]; (repeat' split) <;> omega) (above_y c)) $$ Hlev
    iexact Ha
  iintro ⟨Hp, Ha, HO⟩
  iapply Hk
  isplitl [HO]; · iexists _; iexact HO
  isplitl [Hp] <;> iassumption

theorem part6_spec (c : Dev nD) (i : grid0.Coords) (v2 v84 : BitVec 32) (h3 : k0_cond3 i = 1#1) (Kt : PUnit → sProp 𝕄) :
    iprop((records m K ∗ levAts L lv) ∗ (∃ W, owes (c : Thread nD τ) (owedAt c 8) W) ∗ ((laL c) ↦{fullShare} (LA m c))
        ∗ (∃ f : Buf (Elt F) (lrL (peerX c)), (lrL (peerX c)) ↦{fullShare} f) ∗ dutyTok ER (dcell c 36) 0 false ∗ dutyTok ER (dcell (peerX c) 38) 0 false
        ∗ atPos ER (dcell c 36) 0 ∅ 0 ∗ pend c 20 ∗ pend c 28 ∗ (((∃ W, owes (c : Thread nD τ) (Oy c) W) ∗ pend c 36 ∗ gone m c 20 ∗ gone m c 28) -∗ Kt ⟨⟩))
      ⊢ wp frame (wpE (defs₀ (F := F)) 𝒱₀ (c : Thread nD τ) none) Set.univ (k0_part6 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c v2 v84 h3) Kt := by
  simp only [k0_part6_eq_skeleton]; unfold k0_part6_skel
  simp only [semSignalWord, semWaitWord, Prog.lift, Prog.bind_op, Prog.bind_ret, Prog.pure_eq_ret]
  rw [owedAt_last]
  iintro ⟨#HR, ⟨%W, HO⟩, Hl, Hd, Ht, Ht', Ha, H20, H28, Hk⟩
  iapply (wp_l_send m K c _ (Fin.ext (dev4_eq c)) _ _ ((ssem_eq 0 _ rfl _).trans rfl) ((rsem_eq 0 _ rfl _).trans rfl) (Oy c) W) $$ [Hl Hd HO Ht Ht']
  · icases HR with ⟨HR, -⟩
    isplitr; · iexact HR
    isplitl [Hl]; · iexact Hl
    isplitl [Hd]; · iexact Hd
    isplitl [HO]; · iexact HO
    isplitl [Ht]; · iexact Ht
    iexact Ht'
  iintro ⟨Hc, HO⟩
  ihave HO := (show owes (c : Thread nD τ) (Oy c) W ⊢ (∃ W, owes (c : Thread nD τ) (Oy c) W) from by iintro H; iexists W; iexact H) $$ HO
  iapply (wp_pend m K c 20 (by decide) (by decide) _ ((osem_eq 0 0 _ rfl _).trans rfl)) $$ [HO H20]
  · isplitr; · iexact HR
    isplitl [HO]; · iexact HO
    iexact H20
  isplitr; · ipureintro; rfl
  iintro ⟨HO, H20⟩
  iapply (wp_pend m K c 28 (by decide) (by decide) _ ((osem_eq 1 0 _ rfl _).trans rfl)) $$ [HO H28]
  · isplitr; · iexact HR
    isplitl [HO]; · iexact HO
    iexact H28
  isplitr; · ipureintro; rfl
  iintro ⟨HO, H28⟩
  rw [wp_ret]; imodintro; iapply Hk
  isplitl [HO]; · iexact HO
  isplitl [Hc Ha]
  · unfold pend
    isplitl [Hc]; · iexact Hc
    iexact Ha
  isplitl [H20]; · iexact H20
  iexact H28

theorem part7_spec (c : Dev nD) (i : grid0.Coords) (v2 v84 : BitVec 32) (Kt : PUnit → sProp 𝕄) :
    iprop((records m K ∗ levAts L lv) ∗ (∃ W, owes (c : Thread nD τ) (Oy c) W) ∗ pend c 21 ∗ pend c 29 ∗ pend c 22 ∗ (((∃ W, owes (c : Thread nD τ) (Oy c) W) ∗ gone m c 21 ∗ gone m c 29 ∗ gone m c 22) -∗ Kt ⟨⟩))
      ⊢ wp frame (wpE (defs₀ (F := F)) 𝒱₀ (c : Thread nD τ) none) Set.univ (k0_part7 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 v2 v84) Kt := by
  simp only [k0_part7_eq_skeleton]; unfold k0_part7_skel
  simp only [semSignalWord, semWaitWord, Prog.lift, Prog.bind_op, Prog.bind_ret, Prog.pure_eq_ret]
  iintro ⟨#HR, HO, H21, H29, H22, Hk⟩
  iapply (wp_pend m K c 21 (by decide) (by decide) _ ((osem_eq 0 1 _ rfl _).trans rfl)) $$ [HO H21]
  · isplitr; · iexact HR
    isplitl [HO]; · iexact HO
    iexact H21
  isplitr; · ipureintro; rfl
  iintro ⟨HO, H21⟩
  iapply (wp_pend m K c 29 (by decide) (by decide) _ ((osem_eq 1 1 _ rfl _).trans rfl)) $$ [HO H29]
  · isplitr; · iexact HR
    isplitl [HO]; · iexact HO
    iexact H29
  isplitr; · ipureintro; rfl
  iintro ⟨HO, H29⟩
  iapply (wp_pend m K c 22 (by decide) (by decide) _ ((osem_eq 0 2 _ rfl _).trans rfl)) $$ [HO H22]
  · isplitr; · iexact HR
    isplitl [HO]; · iexact HO
    iexact H22
  isplitr; · ipureintro; rfl
  iintro ⟨HO, H22⟩
  rw [wp_ret]; imodintro; iapply Hk
  isplitl [HO]; · iexact HO
  isplitl [H21]; · iexact H21
  isplitl [H29]; · iexact H29
  iexact H22

theorem part8_spec (c : Dev nD) (i : grid0.Coords) (v2 v84 : BitVec 32) (Kt : PUnit → sProp 𝕄) :
    iprop((records m K ∗ levAts L lv) ∗ (∃ W, owes (c : Thread nD τ) (Oy c) W) ∗ pend c 30 ∗ pend c 23 ∗ (((∃ W, owes (c : Thread nD τ) (Oy c) W) ∗ gone m c 30 ∗ gone m c 23) -∗ Kt ⟨⟩))
      ⊢ wp frame (wpE (defs₀ (F := F)) 𝒱₀ (c : Thread nD τ) none) Set.univ (k0_part8 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 v2 v84) Kt := by
  simp only [k0_part8_eq_skeleton]; unfold k0_part8_skel
  simp only [semSignalWord, semWaitWord, Prog.lift, Prog.bind_op, Prog.bind_ret, Prog.pure_eq_ret]
  iintro ⟨#HR, HO, H30, H23, Hk⟩
  iapply (wp_pend m K c 30 (by decide) (by decide) _ ((osem_eq 1 2 _ rfl _).trans rfl)) $$ [HO H30]
  · isplitr; · iexact HR
    isplitl [HO]; · iexact HO
    iexact H30
  isplitr; · ipureintro; rfl
  iintro ⟨HO, H30⟩
  iapply (wp_pend m K c 23 (by decide) (by decide) _ ((osem_eq 0 3 _ rfl _).trans rfl)) $$ [HO H23]
  · isplitr; · iexact HR
    isplitl [HO]; · iexact HO
    iexact H23
  isplitr; · ipureintro; rfl
  iintro ⟨HO, H23⟩
  rw [wp_ret]; imodintro; iapply Hk
  isplitl [HO]; · iexact HO
  isplitl [H30]; · iexact H30
  iexact H23

theorem part9_spec (c : Dev nD) (i : grid0.Coords) (v2 v84 : BitVec 32) (Kt : PUnit → sProp 𝕄) :
    iprop((records m K ∗ levAts L lv) ∗ (∃ W, owes (c : Thread nD τ) (Oy c) W) ∗ pend c 31 ∗ pend c 24 ∗ pend c 32 ∗ (((∃ W, owes (c : Thread nD τ) (Oy c) W) ∗ gone m c 31 ∗ gone m c 24 ∗ gone m c 32) -∗ Kt ⟨⟩))
      ⊢ wp frame (wpE (defs₀ (F := F)) 𝒱₀ (c : Thread nD τ) none) Set.univ (k0_part9 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 v2 v84) Kt := by
  simp only [k0_part9_eq_skeleton]; unfold k0_part9_skel
  simp only [semSignalWord, semWaitWord, Prog.lift, Prog.bind_op, Prog.bind_ret, Prog.pure_eq_ret]
  iintro ⟨#HR, HO, H31, H24, H32, Hk⟩
  iapply (wp_pend m K c 31 (by decide) (by decide) _ ((osem_eq 1 3 _ rfl _).trans rfl)) $$ [HO H31]
  · isplitr; · iexact HR
    isplitl [HO]; · iexact HO
    iexact H31
  isplitr; · ipureintro; rfl
  iintro ⟨HO, H31⟩
  iapply (wp_pend m K c 24 (by decide) (by decide) _ ((osem_eq 0 4 _ rfl _).trans rfl)) $$ [HO H24]
  · isplitr; · iexact HR
    isplitl [HO]; · iexact HO
    iexact H24
  isplitr; · ipureintro; rfl
  iintro ⟨HO, H24⟩
  iapply (wp_pend m K c 32 (by decide) (by decide) _ ((osem_eq 1 4 _ rfl _).trans rfl)) $$ [HO H32]
  · isplitr; · iexact HR
    isplitl [HO]; · iexact HO
    iexact H32
  isplitr; · ipureintro; rfl
  iintro ⟨HO, H32⟩
  rw [wp_ret]; imodintro; iapply Hk
  isplitl [HO]; · iexact HO
  isplitl [H31]; · iexact H31
  isplitl [H24]; · iexact H24
  iexact H32

theorem part10_spec (c : Dev nD) (i : grid0.Coords) (v2 v84 : BitVec 32) (Kt : PUnit → sProp 𝕄) :
    iprop((records m K ∗ levAts L lv) ∗ (∃ W, owes (c : Thread nD τ) (Oy c) W) ∗ pend c 25 ∗ pend c 33 ∗ pend c 26 ∗ (((∃ W, owes (c : Thread nD τ) (Oy c) W) ∗ gone m c 25 ∗ gone m c 33 ∗ gone m c 26) -∗ Kt ⟨⟩))
      ⊢ wp frame (wpE (defs₀ (F := F)) 𝒱₀ (c : Thread nD τ) none) Set.univ (k0_part10 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 v2 v84) Kt := by
  simp only [k0_part10_eq_skeleton]; unfold k0_part10_skel
  simp only [semSignalWord, semWaitWord, Prog.lift, Prog.bind_op, Prog.bind_ret, Prog.pure_eq_ret]
  iintro ⟨#HR, HO, H25, H33, H26, Hk⟩
  iapply (wp_pend m K c 25 (by decide) (by decide) _ ((osem_eq 0 5 _ rfl _).trans rfl)) $$ [HO H25]
  · isplitr; · iexact HR
    isplitl [HO]; · iexact HO
    iexact H25
  isplitr; · ipureintro; rfl
  iintro ⟨HO, H25⟩
  iapply (wp_pend m K c 33 (by decide) (by decide) _ ((osem_eq 1 5 _ rfl _).trans rfl)) $$ [HO H33]
  · isplitr; · iexact HR
    isplitl [HO]; · iexact HO
    iexact H33
  isplitr; · ipureintro; rfl
  iintro ⟨HO, H33⟩
  iapply (wp_pend m K c 26 (by decide) (by decide) _ ((osem_eq 0 6 _ rfl _).trans rfl)) $$ [HO H26]
  · isplitr; · iexact HR
    isplitl [HO]; · iexact HO
    iexact H26
  isplitr; · ipureintro; rfl
  iintro ⟨HO, H26⟩
  rw [wp_ret]; imodintro; iapply Hk
  isplitl [HO]; · iexact HO
  isplitl [H25]; · iexact H25
  isplitl [H33]; · iexact H33
  iexact H26

theorem part11_spec (c : Dev nD) (i : grid0.Coords) (v2 v84 : BitVec 32) (Kt : BitVec 32 → sProp 𝕄) :
    iprop((records m K ∗ levAts L lv) ∗ (∃ W, owes (c : Thread nD τ) (Oy c) W) ∗ pend c 34 ∗ pend c 27 ∗ pend c 35 ∗ pend c 36 ∗ (∀ r, ((∃ W, owes (c : Thread nD τ) (Oy c) W) ∗ gone m c 34 ∗ gone m c 27 ∗ gone m c 35 ∗ gone m c 36) -∗ Kt r))
      ⊢ wp frame (wpE (defs₀ (F := F)) 𝒱₀ (c : Thread nD τ) none) Set.univ (k0_part11 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 v2 v84) Kt := by
  simp only [k0_part11_eq_skeleton]; unfold k0_part11_skel
  simp only [semSignalWord, semWaitWord, Prog.lift, Prog.bind_op, Prog.bind_ret, Prog.pure_eq_ret]
  iintro ⟨#HR, HO, H34, H27, H35, H36, Hk⟩
  iapply (wp_pend m K c 34 (by decide) (by decide) _ ((osem_eq 1 6 _ rfl _).trans rfl)) $$ [HO H34]
  · isplitr; · iexact HR
    isplitl [HO]; · iexact HO
    iexact H34
  isplitr; · ipureintro; rfl
  iintro ⟨HO, H34⟩
  iapply (wp_pend m K c 27 (by decide) (by decide) _ ((osem_eq 0 7 _ rfl _).trans rfl)) $$ [HO H27]
  · isplitr; · iexact HR
    isplitl [HO]; · iexact HO
    iexact H27
  isplitr; · ipureintro; rfl
  iintro ⟨HO, H27⟩
  iapply (wp_pend m K c 35 (by decide) (by decide) _ ((osem_eq 1 7 _ rfl _).trans rfl)) $$ [HO H35]
  · isplitr; · iexact HR
    isplitl [HO]; · iexact HO
    iexact H35
  isplitr; · ipureintro; rfl
  iintro ⟨HO, H35⟩
  iapply (wp_pend m K c 36 (by decide) (by decide) _ ((ssem_eq 0 _ rfl _).trans rfl)) $$ [HO H36]
  · isplitr; · iexact HR
    isplitl [HO]; · iexact HO
    iexact H36
  isplitr; · ipureintro; rfl
  iintro ⟨HO, H36⟩
  rw [wp_ret]; imodintro; iapply Hk
  isplitl [HO]; · iexact HO
  isplitl [H34]; · iexact H34
  isplitl [H27]; · iexact H27
  isplitl [H35]; · iexact H35
  iexact H36

/-- The device's half of the result after the stores of `k` heads. -/
def outP (c : Dev nD) (k : ℕ) : sProp 𝕄 :=
  iprop(∃ f : Buf (Elt F) (ouL c), ⌜∀ x : S32x2048.Idx, x ∈ halfS (c.val % 2) → (x 1).val % 1024 / 128 < k → (f : S32x2048.Idx → Elt F .f32) x = OUT m c x⌝
    ∗ ((ouL c) ↦[halfS (c.val % 2)]{fullShare} f))

theorem head_rect (y k : ℕ) (hk : k < 8) (off : Fin 2 → ℕ) (e : off = ![0, 1024 * y + 128 * k]) (hb : ∀ a, off a + S32x128.size a ≤ S32x2048.size a) (x : S32x2048.Idx) :
    x ∈ (Rect.unit (s := S32x2048) off S32x128.size hb).set ↔ (x 1).val / 1024 = y ∧ (x 1).val % 1024 / 128 = k := by
  subst e
  rw [Rect.mem_set_unit]
  have h0 : (x 0).val < 32 := (x 0).isLt
  constructor
  · intro h
    have a1 := h 1
    simp [S32x128] at a1
    omega
  · rintro ⟨e0, e1⟩ a
    fin_cases a <;> simp [S32x128] <;> omega

theorem head_access (off : Fin 2 → ℕ) (hb : ∀ a, off a + S32x128.size a ≤ S32x2048.size a) :
    ((ouM : Memref sig .tc .vmem S32x2048 .f32).access (Rect.unit (s := S32x2048) off S32x128.size hb)).set = (Rect.unit (s := S32x2048) off S32x128.size hb).set :=
  View.set_slice_whole _ _

theorem out_store (c : Dev nD) (k : Fin 8) (off : Fin 2 → ℕ) (e : off = ![0, 1024 * (c.val % 2) + 128 * k.val]) (hb : ∀ a, off a + S32x128.size a ≤ S32x2048.size a)
    (f : S32x2048.Idx → Elt F .f32) (hf : ∀ x : S32x2048.Idx, x ∈ halfS (c.val % 2) → (x 1).val % 1024 / 128 < k.val → f x = OUT m c x)
    (x : S32x2048.Idx) (hx : x ∈ halfS (c.val % 2)) (hx' : (x 1).val % 1024 / 128 < k.val + 1) :
    ((ouM : Memref sig .tc .vmem S32x2048 .f32).access (Rect.unit (s := S32x2048) off S32x128.size hb)).write (Elt F) f (finPay m c k) Finset.univ x = OUT m c x := by
  have hx1 := mem_halfS.mp hx
  have hk := k.isLt
  by_cases h : (x 1).val % 1024 / 128 = k.val
  · subst e
    have hy : ((ouM : Memref sig .tc .vmem S32x2048 .f32).access (Rect.unit (s := S32x2048) ![0, 1024 * (c.val % 2) + 128 * k.val] S32x128.size hb)).emb
        (ix2 (x 0) (⟨(x 1).val % 128, Nat.mod_lt _ (by decide)⟩ : Fin 128)) = x := by
      funext a
      refine Fin.ext ?_
      fin_cases a
      · show 0 + 1 * (x 0).val = (x 0).val; omega
      · show 1024 * (c.val % 2) + 128 * k.val + 1 * ((x 1).val % 128) = (x 1).val; omega
    conv_lhs => rw [← hy]
    rw [View.write_emb_of_mem _ _ (Finset.mem_univ _)]
    unfold OUT
    rw [show (⟨(x 1).val % 1024 / 128, by omega⟩ : Fin 8) = k from Fin.ext h]
    rfl
  · rw [View.write_of_not_mem, hf x hx (by omega)]
    intro hm
    rw [View.setOn_univ, head_access] at hm
    exact h ((head_rect (c.val % 2) k.val hk off e hb x).mp hm).2

theorem wp_out (c : Dev nD) (k : ℕ) (hk : k < 8) (off : Fin 2 → ℕ) (e : off = ![0, 1024 * (c.val % 2) + 128 * k]) (hb : ∀ a, off a + S32x128.size a ≤ S32x2048.size a)
    (w : S32x128.Idx → Elt F .f32) (hw : w = finPay m c ⟨k, hk⟩)
    {hl : (ouM : Memref sig .tc .vmem S32x2048 .f32).view.LoadsAt (Rect.unit (s := S32x2048) off S32x128.size hb).toLoadRect}
    {hx : ((ouM : Memref sig .tc .vmem S32x2048 .f32).access (Rect.unit (s := S32x2048) off S32x128.size hb)).Stores Finset.univ}
    {hm : Finset.univ = Finset.univ ∨ ∀ a, (Rect.unit (s := S32x2048) off S32x128.size hb).stride a = 1}
    {α : Type} {Q : α → sProp 𝕄} {kk : PUnit → Prog (TpuEff nD τ sig (Elt F) Λ₀ .tc) α} :
    outP m c k ⊢ iprop((outP m c (k + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.load ouM (Rect.unit (s := S32x2048) off S32x128.size hb).toLoadRect hl) fun _ =>
          .op (.store ouM (Rect.unit (s := S32x2048) off S32x128.size hb) w Finset.univ hx hm) kk) Q) := by
  subst hw
  have hsub : ((ouM : Memref sig .tc .vmem S32x2048 .f32).access (Rect.unit (s := S32x2048) off S32x128.size hb)).set ⊆ halfS (c.val % 2) := by
    rw [head_access]
    exact fun x hx => mem_halfS.mpr ((head_rect (c.val % 2) k hk off e hb x).mp hx).1
  have hsub' := hsub
  rw [View.set_slice] at hsub'
  unfold outP
  iintro ⟨%f, %hf, Hf⟩ Hk
  iapply (wp_load 𝒱₀ (c : Thread nD τ) none Set.univ (m := ouM) (S := halfS (c.val % 2)) hsub') $$ Hf; iintro Hf
  iapply (wp_store 𝒱₀ (c : Thread nD τ) none Set.univ (m := ouM) (r := Rect.unit (s := S32x2048) off S32x128.size hb) (Mk := Finset.univ) (S := halfS (c.val % 2)) (f := f) hsub) $$ Hf; iintro Hf
  iapply Hk
  iexists _
  isplitr [Hf]; rotate_left; · iexact Hf
  ipureintro
  exact fun x hx hx' => out_store m c ⟨k, hk⟩ off e hb f hf x hx hx'

theorem hz3 : (![0, 0, 0] : Fin 3 → ℕ) = fun _ => 0 := by decide
theorem read_la (f : S8x32x1.Idx → Elt F .f32) :
    (laM : Memref sig .tc .vmem S8x32x1 .f32).view.readAt (Elt F) (Rect.unit (s := S8x32x1) ![0, 0, 0] S8x32x1.size inb_S8x32x1_S8x32x1_0_0_0).toLoadRect f = f :=
  Memref.readAt_unit_zero (Elt F) cc0_scratch2 hz3 _ f
theorem read_lr (f : S8x32x1.Idx → Elt F .f32) :
    (lrM : Memref sig .tc .vmem S8x32x1 .f32).view.readAt (Elt F) (Rect.unit (s := S8x32x1) ![0, 0, 0] S8x32x1.size inb_S8x32x1_S8x32x1_0_0_0).toLoadRect f = f :=
  Memref.readAt_unit_zero (Elt F) cc0_scratch4 hz3 _ f
theorem read_oa (f : S8x32x128.Idx → Elt F .f32) :
    (oaM : Memref sig .tc .vmem S8x32x128 .f32).view.readAt (Elt F) (Rect.unit (s := S8x32x128) ![0, 0, 0] S8x32x128.size inb_S8x32x128_S8x32x128_0_0_0).toLoadRect f = f :=
  Memref.readAt_unit_zero (Elt F) cc0_scratch1 hz3 _ f
theorem read_or (f : S8x32x128.Idx → Elt F .f32) :
    (orM : Memref sig .tc .vmem S8x32x128 .f32).view.readAt (Elt F) (Rect.unit (s := S8x32x128) ![0, 0, 0] S8x32x128.size inb_S8x32x128_S8x32x128_0_0_0).toLoadRect f = f :=
  Memref.readAt_unit_zero (Elt F) cc0_scratch3 hz3 _ f

/-- The partial outputs and sums of the device and of the one across the first axis. -/
def sums (c : Dev nD) : sProp 𝕄 := iprop(((oaL c) ↦{fullShare} (OA m c)) ∗ ((laL c) ↦{fullShare} (LA m c)) ∗ ((orL c) ↦{fullShare} (OA m (peerX c))) ∗ ((lrL c) ↦{fullShare} (LA m (peerX c))))

theorem part12_spec (c : Dev nD) (i : grid0.Coords) (v2 : BitVec 32) (h3 : k0_cond3 i = 1#1) (v270 : BitVec 32)
    (Kt : (Σ' (v281 : FVec F S8x32x128 .f32) (v283 : FVec F S8x32x1 .f32) (v284 : BitVec 32) (v304 : FVec F S32x128 .f32), FVec F S32x128 .f32) → sProp 𝕄) :
    iprop((records m K ∗ levAts L lv) ∗ (∃ W, owes (c : Thread nD τ) (Oy c) W) ∗ pend c 38 ∗ ((oaL c) ↦{fullShare} (OA m c)) ∗ ((laL c) ↦{fullShare} (LA m c)) ∗ ((orL c) ↦{fullShare} (OA m (peerX c)))
        ∗ outP m c 0 ∗ (∀ v284, ((∃ W, owes (c : Thread nD τ) (Oy c) W) ∗ atPos ER (dcell c 38) 1 ∅ 0 ∗ sums m c ∗ outP m c 2)
            -∗ Kt ⟨k0_pay5 (OA m c) (OA m (peerX c)), k0_pay6 (LA m c) (LA m (peerX c)), v284, k0_pay9 (OA m c) (OA m (peerX c)), k0_pay10 (LA m c) (LA m (peerX c))⟩))
      ⊢ wp frame (wpE (defs₀ (F := F)) 𝒱₀ (c : Thread nD τ) none) Set.univ (k0_part12 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c v2 h3 v270) Kt := by
  simp only [k0_part12_eq_skeleton]; unfold k0_part12_skel
  simp only [semSignalWord, semWaitWord, Prog.lift, Prog.bind_op, Prog.bind_ret, Prog.pure_eq_ret]
  iintro ⟨#HR, HO, H38, Hoa, Hla, Hor, Hout, Hk⟩
  iapply (wp_pend m K c 38 (by decide) (by decide) _ ((rsem_eq 0 _ rfl _).trans rfl)) $$ [HO H38]
  · isplitr; · iexact HR
    isplitl [HO]; · iexact HO
    iexact H38
  isplitr; · ipureintro; rfl
  iintro ⟨HO, H38⟩
  unfold gone
  icases H38 with ⟨Hlr, Ha⟩
  ihave Hlr := (Entails.of_eq (dpay_lr m c)) $$ Hlr
  iapply (wp_load 𝒱₀ (c : Thread nD τ) none Set.univ (m := laM) (Finset.subset_univ _)) $$ Hla; iintro Hla
  iapply (wp_load 𝒱₀ (c : Thread nD τ) none Set.univ (m := lrM) (Finset.subset_univ _)) $$ Hlr; iintro Hlr
  iapply (wp_load 𝒱₀ (c : Thread nD τ) none Set.univ (m := oaM) (Finset.subset_univ _)) $$ Hoa; iintro Hoa
  iapply (wp_load 𝒱₀ (c : Thread nD τ) none Set.univ (m := orM) (Finset.subset_univ _)) $$ Hor; iintro Hor
  rw [read_la, read_lr, read_oa, read_or]
  iapply (wp_out m c 0 (by decide) (k0_off36 c 0#32) (off36_eq c 0) _ _ rfl) $$ Hout; iintro Hout
  iapply (wp_out m c 1 (by decide) (k0_off36 c 128#32) (off36_eq c 1) _ _ rfl) $$ Hout; iintro Hout
  rw [wp_ret]; imodintro; iapply Hk
  isplitl [HO]; · iexact HO
  isplitl [Ha]; · iexact Ha
  isplitr [Hout]
  · unfold sums
    isplitl [Hoa]; · iexact Hoa
    isplitl [Hla]; · iexact Hla
    isplitl [Hor]; · iexact Hor
    iexact Hlr
  iexact Hout

theorem part13_spec (c : Dev nD) (i : grid0.Coords) (h3 : k0_cond3 i = 1#1) (v284 : BitVec 32)
    (Kt : (Σ' (v349 : FVec F S32x128 .f32), FVec F S32x128 .f32) → sProp 𝕄) :
    iprop(outP m c 2 ∗ (outP m c 7 -∗ Kt ⟨k0_pay16 (k0_pay5 (OA m c) (OA m (peerX c))), k0_pay17 (k0_pay6 (LA m c) (LA m (peerX c)))⟩))
      ⊢ wp frame (wpE (defs₀ (F := F)) 𝒱₀ (c : Thread nD τ) none) Set.univ (k0_part13 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c h3 (k0_pay5 (OA m c) (OA m (peerX c))) (k0_pay6 (LA m c) (LA m (peerX c))) v284 (k0_pay9 (OA m c) (OA m (peerX c))) (k0_pay10 (LA m c) (LA m (peerX c)))) Kt := by
  simp only [k0_part13_eq_skeleton]; unfold k0_part13_skel
  simp only [semSignalWord, semWaitWord, Prog.lift, Prog.bind_op, Prog.bind_ret, Prog.pure_eq_ret]
  iintro ⟨Hout, Hk⟩
  iapply (wp_out m c 2 (by decide) (k0_off36 c 256#32) (off36_eq c 2) _ _ rfl) $$ Hout; iintro Hout
  iapply (wp_out m c 3 (by decide) (k0_off36 c 384#32) (off36_eq c 3) _ _ rfl) $$ Hout; iintro Hout
  iapply (wp_out m c 4 (by decide) (k0_off36 c 512#32) (off36_eq c 4) _ _ rfl) $$ Hout; iintro Hout
  iapply (wp_out m c 5 (by decide) (k0_off36 c 640#32) (off36_eq c 5) _ _ rfl) $$ Hout; iintro Hout
  iapply (wp_out m c 6 (by decide) (k0_off36 c 768#32) (off36_eq c 6) _ _ rfl) $$ Hout; iintro Hout
  rw [wp_ret]; imodintro; iapply Hk
  iexact Hout

theorem rows_disjoint : ∀ h ∈ (Finset.univ : Finset (Fin 8)), ∀ h' ∈ (Finset.univ : Finset (Fin 8)), h ≠ h' → Disjoint (rowS h.val) (rowS h'.val) := by
  intro h _ h' _ hn
  refine Finset.disjoint_left.mpr fun x hx hx' => hn (Fin.ext ?_)
  exact (mem_rowS.mp hx).symm.trans (mem_rowS.mp hx')
theorem rows_univ : (Finset.univ : Finset S8x32x128.Idx) = Finset.univ.biUnion fun h : Fin 8 => rowS h.val := by
  ext x
  refine ⟨fun _ => Finset.mem_biUnion.mpr ⟨x 0, Finset.mem_univ _, mem_rowS.mpr rfl⟩, fun _ => Finset.mem_univ _⟩
theorem oa_rows (c : Dev nD) (f : Buf (Elt F) (oaL c)) :
    ((oaL c) ↦{fullShare} f : sProp 𝕄) = bigSep Finset.univ fun h : Fin 8 => ((oaL c) ↦[rowS h.val]{fullShare} f) :=
  (congrArg (fun S => ((oaL c) ↦[S]{fullShare} f : sProp 𝕄)) rows_univ).trans (pointsTo_biUnion _ _ rows_disjoint)
theorem or_rows (c : Dev nD) (f : Buf (Elt F) (orL c)) :
    ((orL c) ↦{fullShare} f : sProp 𝕄) = bigSep Finset.univ fun h : Fin 8 => ((orL c) ↦[rowS h.val]{fullShare} f) :=
  (congrArg (fun S => ((orL c) ↦[S]{fullShare} f : sProp 𝕄)) rows_univ).trans (pointsTo_biUnion _ _ rows_disjoint)

/-- The rows that came back make the buffer whole. -/
theorem gone_os (c : Dev nD) : iprop(gone m c 20 ∗ gone m c 21 ∗ gone m c 22 ∗ gone m c 23 ∗ gone m c 24 ∗ gone m c 25 ∗ gone m c 26 ∗ gone m c 27) ⊢ iprop(((oaL c) ↦{fullShare} (OA m c)) ∗ atPos ER (dcell c 20) 1 ∅ 0 ∗ atPos ER (dcell c 21) 1 ∅ 0 ∗ atPos ER (dcell c 22) 1 ∅ 0 ∗ atPos ER (dcell c 23) 1 ∅ 0 ∗ atPos ER (dcell c 24) 1 ∅ 0 ∗ atPos ER (dcell c 25) 1 ∅ 0 ∗ atPos ER (dcell c 26) 1 ∅ 0 ∗ atPos ER (dcell c 27) 1 ∅ 0) := by
  rw [oa_rows, bigSep_fin8]
  unfold gone
  iintro ⟨⟨P0, A0⟩, ⟨P1, A1⟩, ⟨P2, A2⟩, ⟨P3, A3⟩, ⟨P4, A4⟩, ⟨P5, A5⟩, ⟨P6, A6⟩, ⟨P7, A7⟩⟩
  isplitl [P0 P1 P2 P3 P4 P5 P6 P7]
  · isplitl [P0]; · iapply (Entails.of_eq (dpay_os m c 0 (by decide))) $$ P0
    isplitl [P1]; · iapply (Entails.of_eq (dpay_os m c 1 (by decide))) $$ P1
    isplitl [P2]; · iapply (Entails.of_eq (dpay_os m c 2 (by decide))) $$ P2
    isplitl [P3]; · iapply (Entails.of_eq (dpay_os m c 3 (by decide))) $$ P3
    isplitl [P4]; · iapply (Entails.of_eq (dpay_os m c 4 (by decide))) $$ P4
    isplitl [P5]; · iapply (Entails.of_eq (dpay_os m c 5 (by decide))) $$ P5
    isplitl [P6]; · iapply (Entails.of_eq (dpay_os m c 6 (by decide))) $$ P6
    iapply (Entails.of_eq (dpay_os m c 7 (by decide))) $$ P7
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

/-- The rows that came back make the buffer whole. -/
theorem gone_or (c : Dev nD) : iprop(gone m c 28 ∗ gone m c 29 ∗ gone m c 30 ∗ gone m c 31 ∗ gone m c 32 ∗ gone m c 33 ∗ gone m c 34 ∗ gone m c 35) ⊢ iprop(((orL c) ↦{fullShare} (OA m (peerX c))) ∗ atPos ER (dcell c 28) 1 ∅ 0 ∗ atPos ER (dcell c 29) 1 ∅ 0 ∗ atPos ER (dcell c 30) 1 ∅ 0 ∗ atPos ER (dcell c 31) 1 ∅ 0 ∗ atPos ER (dcell c 32) 1 ∅ 0 ∗ atPos ER (dcell c 33) 1 ∅ 0 ∗ atPos ER (dcell c 34) 1 ∅ 0 ∗ atPos ER (dcell c 35) 1 ∅ 0) := by
  rw [or_rows, bigSep_fin8]
  unfold gone
  iintro ⟨⟨P0, A0⟩, ⟨P1, A1⟩, ⟨P2, A2⟩, ⟨P3, A3⟩, ⟨P4, A4⟩, ⟨P5, A5⟩, ⟨P6, A6⟩, ⟨P7, A7⟩⟩
  isplitl [P0 P1 P2 P3 P4 P5 P6 P7]
  · isplitl [P0]; · iapply (Entails.of_eq (dpay_or m c 0 (by decide))) $$ P0
    isplitl [P1]; · iapply (Entails.of_eq (dpay_or m c 1 (by decide))) $$ P1
    isplitl [P2]; · iapply (Entails.of_eq (dpay_or m c 2 (by decide))) $$ P2
    isplitl [P3]; · iapply (Entails.of_eq (dpay_or m c 3 (by decide))) $$ P3
    isplitl [P4]; · iapply (Entails.of_eq (dpay_or m c 4 (by decide))) $$ P4
    isplitl [P5]; · iapply (Entails.of_eq (dpay_or m c 5 (by decide))) $$ P5
    isplitl [P6]; · iapply (Entails.of_eq (dpay_or m c 6 (by decide))) $$ P6
    iapply (Entails.of_eq (dpay_or m c 7 (by decide))) $$ P7
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

theorem la_all (c : Dev nD) : laPts m c 8 ⊢ ((laL c) ↦{fullShare} (LA m c)) := by
  unfold laPts
  iintro ⟨%f, %hf, H⟩
  iapply (Entails.of_eq (pointsTo_congr fun x _ => hf x (x 0).isLt)) $$ H
theorem out_init (c : Dev nD) : iprop(∃ f : Buf (Elt F) (ouL c), (ouL c) ↦[halfS (c.val % 2)]{fullShare} f) ⊢ outP m c 0 := by
  unfold outP
  iintro ⟨%f, H⟩
  iexists f
  isplitr; · ipureintro; exact fun x _ h => absurd h (Nat.not_lt_zero _)
  iexact H
theorem out_all (c : Dev nD) : outP m c 8 ⊢ ((ouL c) ↦[halfS (c.val % 2)]{fullShare} (RES m c)) := by
  unfold outP
  iintro ⟨%f, %hf, H⟩
  iapply (Entails.of_eq (pointsTo_congr fun x hx => (hf x hx (by omega)).trans (by unfold RES; rw [if_pos (mem_halfS.mp hx)]))) $$ H

/-- What the last step needs besides the partial sums. -/
def lastPre (c : Dev nD) : sProp 𝕄 :=
  iprop((∃ f : Buf (Elt F) (lrL (peerX c)), (lrL (peerX c)) ↦{fullShare} f) ∗ dutyTok ER (dcell c 36) 0 false ∗ dutyTok ER (dcell (peerX c) 38) 0 false
    ∗ atPos ER (dcell c 36) 0 ∅ 0 ∗ pend c 38
    ∗ (∃ f : Buf (Elt F) (ouL c), (ouL c) ↦[halfS (c.val % 2)]{fullShare} f) ∗ barPayY c ∗ dutyTok ER (dcell c 37) 0 false ∗ dutyTok ER (dcell (peerY c) 39) 0 false
    ∗ atPos ER (dcell c 37) 0 ∅ 0)
/-- The waited cells. -/
def at1 (c : Dev nD) : sProp 𝕄 :=
  iprop((atPos ER (dcell c 20) 1 ∅ 0 ∗ atPos ER (dcell c 21) 1 ∅ 0 ∗ atPos ER (dcell c 22) 1 ∅ 0 ∗ atPos ER (dcell c 23) 1 ∅ 0 ∗ atPos ER (dcell c 24) 1 ∅ 0 ∗ atPos ER (dcell c 25) 1 ∅ 0 ∗ atPos ER (dcell c 26) 1 ∅ 0 ∗ atPos ER (dcell c 27) 1 ∅ 0) ∗ (atPos ER (dcell c 28) 1 ∅ 0 ∗ atPos ER (dcell c 29) 1 ∅ 0 ∗ atPos ER (dcell c 30) 1 ∅ 0 ∗ atPos ER (dcell c 31) 1 ∅ 0 ∗ atPos ER (dcell c 32) 1 ∅ 0 ∗ atPos ER (dcell c 33) 1 ∅ 0 ∗ atPos ER (dcell c 34) 1 ∅ 0 ∗ atPos ER (dcell c 35) 1 ∅ 0) ∗ atPos ER (dcell c 36) 1 ∅ 0 ∗ atPos ER (dcell c 37) 1 ∅ 0 ∗ atPos ER (dcell c 38) 1 ∅ 0)

theorem part14_spec (c : Dev nD) (i : grid0.Coords) (v2 v83 v84 : BitVec 32) (h3 : k0_cond3 i = 1#1) (Kt : PUnit → sProp 𝕄) :
    iprop((records m K ∗ levAts L lv) ∗ (∃ W, owes (c : Thread nD τ) (owedAt c 8) W) ∗ laPts m c 8 ∗ lastPre c ∗ (pend c 20 ∗ pend c 21 ∗ pend c 22 ∗ pend c 23 ∗ pend c 24 ∗ pend c 25 ∗ pend c 26 ∗ pend c 27) ∗ (pend c 28 ∗ pend c 29 ∗ pend c 30 ∗ pend c 31 ∗ pend c 32 ∗ pend c 33 ∗ pend c 34 ∗ pend c 35)
        ∗ (((∃ W, owes (c : Thread nD τ) 0 W) ∗ sums m c ∗ ((ouL c) ↦[halfS (c.val % 2)]{fullShare} (RES m c)) ∗ at1 c) -∗ Kt ⟨⟩))
      ⊢ wp frame (wpE (defs₀ (F := F)) 𝒱₀ (c : Thread nD τ) none) Set.univ (k0_part14 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c v2 v83 v84 h3) Kt := by
  simp only [k0_part14_eq_skeleton]; unfold k0_part14_skel
  unfold lastPre
  iintro ⟨#HR, HO, Hl, ⟨Hlr, Ht36, Ht38, Ha36, H38, Hout, Hy, Ht37, Ht39, Ha37⟩, ⟨H20, H21, H22, H23, H24, H25, H26, H27⟩, ⟨H28, H29, H30, H31, H32, H33, H34, H35⟩, Hk⟩
  ihave Hl := (la_all m c) $$ Hl
  ihave Hout := (out_init m c) $$ Hout
  rw [wp_bind]
  iapply (part6_spec m K c i v2 v84 h3)
  isplitr; · iexact HR
  isplitl [HO]; · iexact HO
  isplitl [Hl]; · iexact Hl
  isplitl [Hlr]; · iexact Hlr
  isplitl [Ht36]; · iexact Ht36
  isplitl [Ht38]; · iexact Ht38
  isplitl [Ha36]; · iexact Ha36
  isplitl [H20]; · iexact H20
  isplitl [H28]; · iexact H28
  iintro ⟨HO, H36, H20, H28⟩
  rw [wp_bind]
  iapply (part7_spec m K c i v2 v84)
  isplitr; · iexact HR
  isplitl [HO]; · iexact HO
  isplitl [H21]; · iexact H21
  isplitl [H29]; · iexact H29
  isplitl [H22]; · iexact H22
  iintro ⟨HO, H21, H29, H22⟩
  rw [wp_bind]
  iapply (part8_spec m K c i v2 v84)
  isplitr; · iexact HR
  isplitl [HO]; · iexact HO
  isplitl [H30]; · iexact H30
  isplitl [H23]; · iexact H23
  iintro ⟨HO, H30, H23⟩
  rw [wp_bind]
  iapply (part9_spec m K c i v2 v84)
  isplitr; · iexact HR
  isplitl [HO]; · iexact HO
  isplitl [H31]; · iexact H31
  isplitl [H24]; · iexact H24
  isplitl [H32]; · iexact H32
  iintro ⟨HO, H31, H24, H32⟩
  rw [wp_bind]
  iapply (part10_spec m K c i v2 v84)
  isplitr; · iexact HR
  isplitl [HO]; · iexact HO
  isplitl [H25]; · iexact H25
  isplitl [H33]; · iexact H33
  isplitl [H26]; · iexact H26
  iintro ⟨HO, H25, H33, H26⟩
  rw [wp_bind]
  iapply (part11_spec m K c i v2 v84)
  isplitr; · iexact HR
  isplitl [HO]; · iexact HO
  isplitl [H34]; · iexact H34
  isplitl [H27]; · iexact H27
  isplitl [H35]; · iexact H35
  isplitl [H36]; · iexact H36
  iintro %r ⟨HO, H34, H27, H35, H36⟩
  ihave Hs := (gone_os m c) $$ [H20 H21 H22 H23 H24 H25 H26 H27]
  · isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  ihave Hr := (gone_or m c) $$ [H28 H29 H30 H31 H32 H33 H34 H35]
  · isplitl [H28]; · iexact H28
    isplitl [H29]; · iexact H29
    isplitl [H30]; · iexact H30
    isplitl [H31]; · iexact H31
    isplitl [H32]; · iexact H32
    isplitl [H33]; · iexact H33
    isplitl [H34]; · iexact H34
    iexact H35
  icases Hs with ⟨Hoa, Has⟩
  icases Hr with ⟨Hor, Har⟩
  unfold gone
  icases H36 with ⟨Hla, Ha36⟩
  ihave Hla := (Entails.of_eq (dpay_ls m c)) $$ Hla
  rw [wp_bind]
  iapply (part12_spec m K c i v2 h3 r)
  isplitr; · iexact HR
  isplitl [HO]; · iexact HO
  isplitl [H38]; · iexact H38
  isplitl [Hoa]; · iexact Hoa
  isplitl [Hla]; · iexact Hla
  isplitl [Hor]; · iexact Hor
  isplitl [Hout]; · iexact Hout
  iintro %v284 ⟨HO, Ha38, Hsum, Hout⟩
  dsimp only
  rw [wp_bind]
  iapply (part13_spec m c i h3 v284)
  isplitl [Hout]; · iexact Hout
  iintro Hout
  dsimp only
  simp only [Prog.lift, Prog.bind_op, Prog.bind_ret, Prog.pure_eq_ret]
  iapply (wp_out m c 7 (by decide) (k0_off36 c 896#32) (off36_eq c 7) _ _ rfl) $$ Hout; iintro Hout
  ihave Hout := (out_all m c) $$ Hout
  icases HO with ⟨%W, HO⟩
  unfold barPayY
  iapply (wp_y_send m K c _ (Fin.ext (dev5_eq c)) _ _ ((ssem_eq 1 _ rfl _).trans rfl) ((rsem_eq 1 _ rfl _).trans rfl) _ (off37_eq c) _ 0 W) $$ [Hout Hy HO Ht37 Ht39]
  · icases HR with ⟨HR, -⟩
    isplitr; · iexact HR
    isplitl [Hout]; · iexact Hout
    isplitl [Hy]; · iexact Hy
    isplitl [HO]; · rw [zero_add]; iexact HO
    isplitl [Ht37]; · iexact Ht37
    iexact Ht39
  iintro ⟨Hc, HO⟩
  iapply (wp_wait_zero m K c 37 (by decide) (by decide) _ ((ssem_eq 1 _ rfl _).trans rfl)) $$ [Hc HO Ha37]
  · icases HR with ⟨HR, -⟩
    isplitr; · iexact HR
    isplitl [HO]; · iexact HO
    unfold pend
    isplitl [Hc]; · iexact Hc
    iexact Ha37
  isplitr; · ipureintro; rfl
  iintro ⟨HO, Hg⟩
  unfold gone
  icases Hg with ⟨Hout, Ha37⟩
  ihave Hout := (Entails.of_eq (dpay_ys m c)) $$ Hout
  rw [wp_ret]; imodintro; iapply Hk
  isplitl [HO]; · iexact HO
  isplitl [Hsum]; · iexact Hsum
  isplitl [Hout]; · iexact Hout
  unfold at1
  isplitl [Has]; · iexact Has
  isplitl [Har]; · iexact Har
  isplitl [Ha36]; · iexact Ha36
  isplitl [Ha37]; · iexact Ha37
  iexact Ha38

end Cert.Paged
-- ==== Proof.Body.lean ====
/-
  A grid point's body: the first step, a middle one and the last.
-/
module

public import proofs.«01_k».proof.Proof.Parts3

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

variable (K : Dev nD × Fin 21 → ℕ)

/-- What the device brings to the barrier. -/
def barIn (c : Dev nD) : sProp 𝕄 :=
  iprop((∃ W, owes (c : Thread nD τ) (O₀ c) W) ∗ dutyTok ER (barCell (peerX c)) 0 false ∗ dutyTok ER (barCell (peerY c)) 0 true
    ∗ barPayX (peerX c) ∗ barPayY (peerY c) ∗ cred (tallyAt (barCell c) () 2) ∗ atPos ER (barCell c) 0 ∅ 0)
def blocks (c : Dev nD) : sProp 𝕄 := iprop(((btL c) ↦{fullShare} (btC m c)) ∗ ((lnL c) ↦{fullShare} (lnC m c)))

theorem part15_first (c : Dev nD) (i : grid0.Coords) (hz : hd i = 0)
    (Kt : (Σ' (arg0 : BitVec 32) (d0 : Dev nD) (v2 : BitVec 32) (v4 : BitVec 32), BitVec 32) → sProp 𝕄) :
    iprop((records m K ∗ levAts L lv) ∗ chanIdle m c 0 ∗ chanIdle m c 1 ∗ barIn c ∗ blocks m c ∗ (∃ f : Buf (Elt F) (lwL c), (lwL c) ↦{fullShare} f)
        ∗ (∀ a v2 v4 v14, (chanFly m c 0 0 ∗ chanFly m c 1 1 ∗ barPayX c ∗ barPayY c ∗ atPos ER (barCell c) 1 ∅ 0 ∗ (∃ W, owes (c : Thread nD τ) (owedAt c 0) W)
            ∗ blocks m c ∗ ((lwL c) ↦{fullShare} (LW m c))) -∗ Kt ⟨a, c, v2, v4, v14⟩))
      ⊢ wp frame (wpE (defs₀ (F := F)) 𝒱₀ (c : Thread nD τ) none) Set.univ (k0_part15 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) Kt := by
  have h1 := (cond1_iff i).mpr hz
  have h2 := (cond2_iff i).mpr (by omega)
  have hh : hd i + 1 < 8 := by omega
  simp only [k0_part15_eq_skeleton]; unfold k0_part15_skel
  simp only [dif_pos h1, dif_pos h2, Prog.lift, Prog.bind_op, Prog.bind_ret, Prog.pure_eq_ret, wp_deviceId]
  unfold barIn chanIdle blocks
  iintro ⟨#HR, ⟨K0, K1, K2, K3, V0, V1, V2, V3⟩, ⟨K0', K1', K2', K3', V0', V1', V2', V3'⟩, ⟨⟨%W, HO⟩, Ht1, Ht2, Hb1, Hb2, Hc, Ha⟩, ⟨Hbt, Hln⟩, Hlw, Hk⟩
  rw [wp_bind]
  iapply (part1_spec m c i hz h1)
  isplitl [K0]; · iexact K0
  isplitl [K1]; · iexact K1
  isplitl [K2]; · iexact K2
  iintro ⟨K0, K1, K2⟩
  rw [wp_bind]
  iapply (part2_spec m c i hz h1)
  isplitl [K3]; · iexact K3
  isplitl [V0]; · iexact V0
  isplitl [V1]; · iexact V1
  isplitl [V2]; · iexact V2
  iintro ⟨K3, V0, V1, V2⟩
  rw [wp_bind]
  iapply (part3_spec m K c i hz h1 _ W)
  icases HR with ⟨HR, Hlev⟩
  isplitr; · iexact HR
  isplitr; · iexact Hlev
  isplitl [V3]; · iexact V3
  isplitl [HO]; · iexact HO
  isplitl [Ht1]; · iexact Ht1
  isplitl [Ht2]; · iexact Ht2
  isplitl [Hb1]; · iexact Hb1
  isplitl [Hb2]; · iexact Hb2
  isplitl [Hc]; · iexact Hc
  isplitl [Ha]; · iexact Ha
  isplitl [Hbt]; · iexact Hbt
  isplitl [Hln]; · iexact Hln
  iintro ⟨V3, Hbx, Hby, Ha, HO, Hbt, Hln⟩
  dsimp only
  rw [wp_bind]
  iapply (part4_spec c i)
  isplitl [Hlw]; · iexact Hlw
  iintro %w ⟨%f, Hlw⟩
  dsimp only
  iapply (wp_store 𝒱₀ (c : Thread nD τ) none Set.univ (m := lwM) (r := Rect.unit (s := S32x8192) ![0, 0] S32x8192.size inb_S32x8192_S32x8192_0_0) (Mk := Finset.univ) (S := Finset.univ) (f := f) (Finset.subset_univ _)) $$ Hlw; iintro Hlw
  rw [write_lw]
  rw [wp_bind]
  iapply (part5_spec m c i hh h2)
  rw [show sl (hd i + 1) = 1 from by rw [hz]; rfl]
  isplitl [K0']; · iexact K0'
  isplitl [K1']; · iexact K1'
  isplitl [K2']; · iexact K2'
  isplitl [K3']; · iexact K3'
  iintro ⟨K0', K1', K2', K3'⟩
  iapply (wp_v_start m c 1 0 (hd i + 1) hh _ (vsem_eq 1 0 _ ((off5_eq i).trans (by rw [hz]; rfl)) _) _ _ ((off6_eq i).trans (by rw [hz]; rfl)) (off7_eq i c) _ _) $$ V0'; iintro V0'
  iapply (wp_v_start m c 1 1 (hd i + 1) hh _ (vsem_eq 1 1 _ ((off8_eq i).trans (by rw [hz]; rfl)) _) _ _ ((off9_eq i).trans (by rw [hz]; rfl)) (off10_eq i c) _ _) $$ V1'; iintro V1'
  iapply (wp_v_start m c 1 2 (hd i + 1) hh _ (vsem_eq 1 2 _ ((off11_eq i).trans (by rw [hz]; rfl)) _) _ _ ((off12_eq i).trans (by rw [hz]; rfl)) (off13_eq i c) _ _) $$ V2'; iintro V2'
  iapply (wp_v_start m c 1 3 (hd i + 1) hh _ (vsem_eq 1 3 _ ((off14_eq i).trans (by rw [hz]; rfl)) _) _ _ ((off15_eq i).trans (by rw [hz]; rfl)) (off16_eq i c) _ _) $$ V3'; iintro V3'
  rw [wp_ret]; imodintro
  iapply Hk
  unfold chanFly
  isplitl [K0 K1 K2 K3 V0 V1 V2 V3]
  · isplitl [K0]; · iexact K0
    isplitl [K1]; · iexact K1
    isplitl [K2]; · iexact K2
    isplitl [K3]; · iexact K3
    isplitl [V0]; · iexact V0
    isplitl [V1]; · iexact V1
    isplitl [V2]; · iexact V2
    iexact V3
  rw [hz]
  isplitl [K0' K1' K2' K3' V0' V1' V2' V3']
  · isplitl [K0']; · iexact K0'
    isplitl [K1']; · iexact K1'
    isplitl [K2']; · iexact K2'
    isplitl [K3']; · iexact K3'
    isplitl [V0']; · iexact V0'
    isplitl [V1']; · iexact V1'
    isplitl [V2']; · iexact V2'
    iexact V3'
  isplitl [Hbx]; · iexact Hbx
  isplitl [Hby]; · iexact Hby
  isplitl [Ha]; · iexact Ha
  isplitl [HO]; · iexact HO
  isplitl [Hbt Hln]
  · isplitl [Hbt] <;> iassumption
  iexact Hlw

theorem part15_mid (c : Dev nD) (i : grid0.Coords) (hz : hd i ≠ 0) (hh : hd i + 1 < 8)
    (Kt : (Σ' (arg0 : BitVec 32) (d0 : Dev nD) (v2 : BitVec 32) (v4 : BitVec 32), BitVec 32) → sProp 𝕄) :
    iprop(chanIdle m c (sl (hd i + 1)) ∗ (∀ a v2 v4 v14, chanFly m c (sl (hd i + 1)) (hd i + 1) -∗ Kt ⟨a, c, v2, v4, v14⟩))
      ⊢ wp frame (wpE (defs₀ (F := F)) 𝒱₀ (c : Thread nD τ) none) Set.univ (k0_part15 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) Kt := by
  have h1 : ¬ k0_cond1 i = 1#1 := fun h => hz ((cond1_iff i).mp h)
  have h2 := (cond2_iff i).mpr hh
  simp only [k0_part15_eq_skeleton]; unfold k0_part15_skel
  simp only [dif_neg h1, dif_pos h2, Prog.lift, Prog.bind_op, Prog.bind_ret, Prog.pure_eq_ret, wp_deviceId]
  unfold chanIdle
  iintro ⟨⟨K0', K1', K2', K3', V0', V1', V2', V3'⟩, Hk⟩
  rw [wp_bind]
  iapply (part5_spec m c i hh h2)
  isplitl [K0']; · iexact K0'
  isplitl [K1']; · iexact K1'
  isplitl [K2']; · iexact K2'
  isplitl [K3']; · iexact K3'
  iintro ⟨K0', K1', K2', K3'⟩
  iapply (wp_v_start m c (sl (hd i + 1)) 0 (hd i + 1) hh _ (vsem_eq (sl (hd i + 1)) 0 _ (off5_eq i) _) _ _ (off6_eq i) (off7_eq i c) _ _) $$ V0'; iintro V0'
  iapply (wp_v_start m c (sl (hd i + 1)) 1 (hd i + 1) hh _ (vsem_eq (sl (hd i + 1)) 1 _ (off8_eq i) _) _ _ (off9_eq i) (off10_eq i c) _ _) $$ V1'; iintro V1'
  iapply (wp_v_start m c (sl (hd i + 1)) 2 (hd i + 1) hh _ (vsem_eq (sl (hd i + 1)) 2 _ (off11_eq i) _) _ _ (off12_eq i) (off13_eq i c) _ _) $$ V2'; iintro V2'
  iapply (wp_v_start m c (sl (hd i + 1)) 3 (hd i + 1) hh _ (vsem_eq (sl (hd i + 1)) 3 _ (off14_eq i) _) _ _ (off15_eq i) (off16_eq i c) _ _) $$ V3'; iintro V3'
  rw [wp_ret]; imodintro
  iapply Hk
  unfold chanFly
  isplitl [K0']; · iexact K0'
  isplitl [K1']; · iexact K1'
  isplitl [K2']; · iexact K2'
  isplitl [K3']; · iexact K3'
  isplitl [V0']; · iexact V0'
  isplitl [V1']; · iexact V1'
  isplitl [V2']; · iexact V2'
  iexact V3'

theorem part15_last (c : Dev nD) (i : grid0.Coords) (hz : hd i = 7)
    (Kt : (Σ' (arg0 : BitVec 32) (d0 : Dev nD) (v2 : BitVec 32) (v4 : BitVec 32), BitVec 32) → sProp 𝕄) :
    iprop(∀ a v2 v4 v14, Kt ⟨a, c, v2, v4, v14⟩) ⊢ wp frame (wpE (defs₀ (F := F)) 𝒱₀ (c : Thread nD τ) none) Set.univ (k0_part15 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) Kt := by
  have h1 : ¬ k0_cond1 i = 1#1 := fun h => by have := (cond1_iff i).mp h; omega
  have h2 : ¬ k0_cond2 i = 1#1 := fun h => by have := (cond2_iff i).mp h; omega
  simp only [k0_part15_eq_skeleton]; unfold k0_part15_skel
  simp only [dif_neg h1, dif_neg h2, Prog.lift, Prog.bind_op, Prog.bind_ret, Prog.pure_eq_ret, wp_deviceId]
  iintro Hk
  rw [wp_ret]; imodintro
  iapply Hk

theorem big_insert {s : Finset (Fin 8)} {h : Fin 8} (hn : h ∉ s) (Φ : Fin 8 → sProp 𝕄) : bigSep (insert h s) Φ = iprop(Φ h ∗ bigSep s Φ) := bigSep_insert hn
theorem big_sep (s : Finset (Fin 8)) (Φ Ψ : Fin 8 → sProp 𝕄) : (bigSep s fun h => iprop(Φ h ∗ Ψ h)) = iprop(bigSep s Φ ∗ bigSep s Ψ) := bigSep_sep s Φ Ψ

/-- A step's compute and the start of its exchange: the chunks' slot is idle again, and the device moves on by one head. -/
theorem step_spec (c : Dev nD) (i : grid0.Coords) (t : Fin 8) (ht : hd i = t.val) (a v2 v4 v14 : BitVec 32)
    {β : Type} {Q : β → sProp 𝕄} (kk : (Σ' (v83 : BitVec 32), BitVec 32) → Prog (TpuEff nD τ sig (Elt F) Λ₀ .tc) β)
    {hsc : (orow orM (k0_off35 i) (k0_off35_inb i) : Memref sig (Dev.tc (⟨k0_dev3 c, k0_dev3_lt c⟩ : Dev nD) : Thread nD τ).2.kind .vmem S32x128 .f32).view.ref.isScScratch = false}
    {hsrc : (orow oaM (k0_off35 i) (k0_off35_inb i)).view.WordExact} {hdst : (orow orM (k0_off35 i) (k0_off35_inb i)).view.WordExact}
    {hsem : DmaTarget.Typed .vmem (.dma ((cc0_scratch9.slice (Rect.unit (s := S2x8) (k0_off34 i) S1x1.size (k0_off34_inb i))).squeeze S_ squeezes_S1x1_S_).sem)
      (.remote (Dev.tc (⟨k0_dev3 c, k0_dev3_lt c⟩ : Dev nD) : Thread nD τ) (orow orM (k0_off35 i) (k0_off35_inb i)) (.dma ((cc0_scratch9.slice (Rect.unit (s := S2x8) (k0_off33 i) S1x1.size (k0_off33_inb i))).squeeze S_ squeezes_S1x1_S_).sem) hsc)} :
    iprop((records m K ∗ levAts L lv) ∗ chanFly m c (sl t.val) t.val ∗ core m c t.val)
      ⊢ iprop((∀ r, (chanIdle m c (sl t.val) ∗ core m c (t.val + 1)) -∗ wp frame (wpE (defs₀ (F := F)) 𝒱₀ (c : Thread nD τ) none) Set.univ (kk r) Q)
        -∗ wp frame (wpE (defs₀ (F := F)) 𝒱₀ (c : Thread nD τ) none) Set.univ (k0_part16 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c >>= fun _ => k0_part17 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 c v4 >>= fun r => k0_part18 i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 a c v2 v14 r.2 >>= fun _ =>
            .op (.enqueueDma (orow oaM (k0_off35 i) (k0_off35_inb i)) (.remote (Dev.tc (⟨k0_dev3 c, k0_dev3_lt c⟩ : Dev nD) : Thread nD τ) (orow orM (k0_off35 i) (k0_off35_inb i))
              (.dma ((cc0_scratch9.slice (Rect.unit (s := S2x8) (k0_off33 i) S1x1.size (k0_off33_inb i))).squeeze S_ squeezes_S1x1_S_).sem) hsc)
              (.dma ((cc0_scratch9.slice (Rect.unit (s := S2x8) (k0_off34 i) S1x1.size (k0_off34_inb i))).squeeze S_ squeezes_S1x1_S_).sem) hsrc hdst hsem) fun _ => kk r) Q) := by
  unfold chanFly core
  rw [(geS_step t).1, big_insert (geS_step t).2, (ltS_step t).1, big_insert (ltS_step t).2]
  iintro ⟨#HR, ⟨K0, K1, K2, K3, V0, V1, V2, V3⟩, HO, ⟨Hq, Hlw⟩, ⟨⟨Hoa, Hor, Ht, Ht'⟩, Hge⟩, Hla, Hlt⟩ Hk
  rw [wp_bind]
  iapply (part16_spec m c i t.val ht)
  isplitr; · icases HR with ⟨-, H⟩; iexact H
  isplitl [HO]; · iexact HO
  isplitl [K0]; · iexact K0
  isplitl [K1]; · iexact K1
  isplitl [K2]; · iexact K2
  isplitl [K3]; · iexact K3
  iintro ⟨HO, HK⟩
  rw [wp_bind]
  iapply (part17_spec m c i t.val ht)
  isplitr; · icases HR with ⟨-, H⟩; iexact H
  isplitl [HO]; · iexact HO
  isplitl [V0]; · iexact V0
  isplitl [V1]; · iexact V1
  isplitl [V2]; · iexact V2
  isplitl [V3]; · iexact V3
  iintro %r ⟨HO, HV⟩
  rw [wp_bind]
  iapply (part18_spec m c i t.val ht)
  isplitl [HK]; · iexact HK
  isplitl [HV]; · iexact HV
  isplitl [Hq]; · iexact Hq
  isplitl [Hlw]; · iexact Hlw
  isplitl [Hoa]; · iexact Hoa
  isplitl [Hla]; · iexact Hla
  iintro ⟨HI, Hq, Hlw, Hoa, Hla⟩
  icases HO with ⟨%W, HO⟩
  ihave HO := (Entails.of_eq (congrArg (fun O => owes (c : Thread nD τ) O W) (owedAt_step c t))) $$ HO
  iapply (wp_o_send m K c _ (Fin.ext (dev3_eq c)) t.val t.isLt _ _
      ((osem_eq 0 t _ (by rw [off33_eq, ht]; rfl) _).trans (Fin.ext (by have := t.isLt; show 20 + 8 * 0 + t.val = (20 + t.val) % 40; omega)))
      ((osem_eq 1 t _ (by rw [off34_eq, ht]; rfl) _).trans (Fin.ext (by have := t.isLt; show 20 + 8 * 1 + t.val = (28 + t.val) % 40; omega)))
      (k0_off35 i) (by rw [off35_eq, ht]) (k0_off35_inb i) (owedAt c (t.val + 1)) W) $$ [Hoa Hor HO Ht Ht']
  · icases HR with ⟨HR, -⟩
    isplitr; · iexact HR
    isplitl [Hoa]; · iexact Hoa
    isplitl [Hor]; · iexact Hor
    isplitl [HO]; · iexact HO
    isplitl [Ht]; · iexact Ht
    iexact Ht'
  iintro ⟨Hc, HO⟩
  iapply Hk
  isplitl [HI]; · iexact HI
  isplitl [HO]; · iexists W; iexact HO
  isplitl [Hq Hlw]
  · isplitl [Hq] <;> iassumption
  isplitl [Hge]; · iexact Hge
  isplitl [Hla]; · iexact Hla
  isplitl [Hc]; · iexact Hc
  iexact Hlt

/-- What is kept for the last step from the start on. -/
def tail0 (c : Dev nD) : sProp 𝕄 :=
  iprop(dutyTok ER (dcell c 36) 0 false ∗ dutyTok ER (dcell (peerX c) 38) 0 false ∗ atPos ER (dcell c 36) 0 ∅ 0 ∗ pend c 38
    ∗ (∃ f : Buf (Elt F) (ouL c), (ouL c) ↦[halfS (c.val % 2)]{fullShare} f) ∗ dutyTok ER (dcell c 37) 0 false ∗ dutyTok ER (dcell (peerY c) 39) 0 false
    ∗ atPos ER (dcell c 37) 0 ∅ 0 ∗ pend c 39 ∗ (atPos ER (dcell c 20) 0 ∅ 0 ∗ atPos ER (dcell c 21) 0 ∅ 0 ∗ atPos ER (dcell c 22) 0 ∅ 0 ∗ atPos ER (dcell c 23) 0 ∅ 0 ∗ atPos ER (dcell c 24) 0 ∅ 0 ∗ atPos ER (dcell c 25) 0 ∅ 0 ∗ atPos ER (dcell c 26) 0 ∅ 0 ∗ atPos ER (dcell c 27) 0 ∅ 0) ∗ (pend c 28 ∗ pend c 29 ∗ pend c 30 ∗ pend c 31 ∗ pend c 32 ∗ pend c 33 ∗ pend c 34 ∗ pend c 35))
/-- What the barrier adds to it. -/
def tail1 (c : Dev nD) : sProp 𝕄 :=
  iprop((∃ f : Buf (Elt F) (lrL (peerX c)), (lrL (peerX c)) ↦{fullShare} f) ∗ barPayY c ∗ atPos ER (barCell c) 1 ∅ 0 ∗ blocks m c)
/-- Before the first point. -/
def pre0 (c : Dev nD) : sProp 𝕄 :=
  iprop(chanIdle m c 0 ∗ chanIdle m c 1 ∗ barIn c ∗ blocks m c ∗ ((qL c) ↦{fullShare} (qC m c)) ∗ (∃ f : Buf (Elt F) (lwL c), (lwL c) ↦{fullShare} f)
    ∗ (∃ f : Buf (Elt F) (oaL c), (oaL c) ↦{fullShare} f) ∗ (∃ f : Buf (Elt F) (laL c), (laL c) ↦{fullShare} f)
    ∗ (bigSep Finset.univ fun h : Fin 8 => iprop(dutyTok ER (dcell c (20 + h.val)) 0 false ∗ dutyTok ER (dcell (peerX c) (28 + h.val)) 0 false)) ∗ tail0 c)
/-- Between points. -/
def inv (c : Dev nD) (t : ℕ) : sProp 𝕄 :=
  iprop(chanFly m c (sl t) t ∗ chanIdle m c (sl (t + 1)) ∗ core m c t ∗ tail0 c ∗ tail1 m c)
/-- After the last point. -/
def fin' (c : Dev nD) : sProp 𝕄 :=
  iprop(chanIdle m c 0 ∗ chanIdle m c 1 ∗ (∃ W, owes (c : Thread nD τ) 0 W) ∗ ((qL c) ↦{fullShare} (qC m c)) ∗ ((lwL c) ↦{fullShare} (LW m c))
    ∗ sums m c ∗ ((ouL c) ↦{fullShare} (RES m c)) ∗ blocks m c ∗ atPos ER (barCell c) 1 ∅ 0 ∗ at1 c ∗ atPos ER (dcell c 39) 1 ∅ 0)

theorem some_oaL (c : Dev nD) (f : Buf (Elt F) (oaL c)) : (bigSep (M := 𝕄) Finset.univ fun h : Fin 8 => ((oaL c) ↦[rowS h.val]{fullShare} f))
    ⊢ bigSep (M := 𝕄) Finset.univ fun h : Fin 8 => iprop(∃ f : Buf (Elt F) (oaL c), (oaL c) ↦[rowS h.val]{fullShare} f) :=
  bigSep_mono fun h _ => (show (((oaL c) ↦[rowS h.val]{fullShare} f : sProp 𝕄)) ⊢ iprop(∃ f : Buf (Elt F) (oaL c), (oaL c) ↦[rowS h.val]{fullShare} f) from by iintro H; iexists f; iexact H)
theorem some_orL (c : Dev nD) (f : Buf (Elt F) (orL c)) : (bigSep (M := 𝕄) Finset.univ fun h : Fin 8 => ((orL c) ↦[rowS h.val]{fullShare} f))
    ⊢ bigSep (M := 𝕄) Finset.univ fun h : Fin 8 => iprop(∃ f : Buf (Elt F) (orL c), (orL c) ↦[rowS h.val]{fullShare} f) :=
  bigSep_mono fun h _ => (show (((orL c) ↦[rowS h.val]{fullShare} f : sProp 𝕄)) ⊢ iprop(∃ f : Buf (Elt F) (orL c), (orL c) ↦[rowS h.val]{fullShare} f) from by iintro H; iexists f; iexact H)
theorem core_zero (c : Dev nD) :
    iprop((∃ W, owes (c : Thread nD τ) (owedAt c 0) W) ∗ ((qL c) ↦{fullShare} (qC m c)) ∗ ((lwL c) ↦{fullShare} (LW m c))
      ∗ (∃ f : Buf (Elt F) (oaL c), (oaL c) ↦{fullShare} f) ∗ (∃ f : Buf (Elt F) (laL c), (laL c) ↦{fullShare} f)
      ∗ (∃ f : Buf (Elt F) (orL (peerX c)), (orL (peerX c)) ↦{fullShare} f)
      ∗ (bigSep Finset.univ fun h : Fin 8 => iprop(dutyTok ER (dcell c (20 + h.val)) 0 false ∗ dutyTok ER (dcell (peerX c) (28 + h.val)) 0 false)))
    ⊢ core m c 0 := by
  unfold core
  rw [geS_zero, ltS_zero, bigSep_empty, big_sep, big_sep, big_sep, big_sep]
  iintro ⟨HO, Hq, Hlw, ⟨%fo, Ho⟩, ⟨%fl, Hl⟩, ⟨%fr, Hr⟩, Ht⟩
  ihave Ho := (Entails.of_eq (oa_rows c fo)) $$ Ho
  ihave Hr := (Entails.of_eq (or_rows (peerX c) fr)) $$ Hr
  isplitl [HO]; · iexact HO
  isplitl [Hq Hlw]
  · isplitl [Hq] <;> iassumption
  isplitl [Ho Hr Ht]
  · isplitl [Ho]
    · iapply (some_oaL c fo) $$ Ho
    isplitl [Hr]
    · iapply (some_orL (peerX c) fr) $$ Hr
    iexact Ht
  isplitl [Hl]
  · unfold laPts
    iexists fl
    isplitr; · ipureintro; exact fun x h => absurd h (Nat.not_lt_zero _)
    iexact Hl
  iempintro

theorem body_first (c : Dev nD) (i : grid0.Coords) (hz : hd i = 0) (Kt : PUnit → sProp 𝕄) :
    iprop((records m K ∗ levAts L lv) ∗ pre0 m c ∗ (inv m c 1 -∗ Kt ⟨⟩)) ⊢ wp frame (wpE (defs₀ (F := F)) 𝒱₀ (c : Thread nD τ) none) Set.univ (cc0_body i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) Kt := by
  have h3 : ¬ k0_cond3 i = 1#1 := fun h => by have := (cond3_iff i).mp h; omega
  simp only [cc0_body_eq_skeleton]; unfold cc0_body_skel
  simp only [dif_neg h3, Prog.lift, Prog.bind_op, Prog.bind_ret, Prog.pure_eq_ret]
  unfold pre0
  iintro ⟨#HR, ⟨C0, C1, Hbar, Hbl, Hq, Hlw, Hoa, Hla, Ht, Htl⟩, Hk⟩
  rw [wp_bind]
  iapply (part15_first m K c i hz)
  isplitr; · iexact HR
  isplitl [C0]; · iexact C0
  isplitl [C1]; · iexact C1
  isplitl [Hbar]; · iexact Hbar
  isplitl [Hbl]; · iexact Hbl
  isplitl [Hlw]; · iexact Hlw
  iintro %a %v2 %v4 %v14 ⟨C0, C1, Hbx, Hby, Hab, HO, Hbl, Hlw⟩
  dsimp only
  unfold barPayX
  icases Hbx with ⟨Hor, Hlr⟩
  ihave Hcore := (core_zero m c) $$ [HO Hq Hlw Hoa Hla Hor Ht]
  · isplitl [HO]; · iexact HO
    isplitl [Hq]; · iexact Hq
    isplitl [Hlw]; · iexact Hlw
    isplitl [Hoa]; · iexact Hoa
    isplitl [Hla]; · iexact Hla
    isplitl [Hor]; · iexact Hor
    iexact Ht
  iapply (step_spec m K c i 0 hz a v2 v4 v14) $$ [C0 Hcore]
  · isplitr; · iexact HR
    isplitl [C0]; · iexact C0
    iexact Hcore
  iintro %r ⟨C0, Hcore⟩
  rw [wp_ret]; imodintro
  iapply Hk
  unfold inv tail1
  isplitl [C1]; · iexact C1
  isplitl [C0]; · iexact C0
  isplitl [Hcore]; · iexact Hcore
  isplitl [Htl]; · iexact Htl
  isplitl [Hlr]; · iexact Hlr
  isplitl [Hby]; · iexact Hby
  isplitl [Hab]; · iexact Hab
  iexact Hbl

theorem body_mid (c : Dev nD) (i : grid0.Coords) (t : Fin 8) (ht : hd i = t.val) (hz : t.val ≠ 0) (hh : t.val + 1 < 8) (Kt : PUnit → sProp 𝕄) :
    iprop((records m K ∗ levAts L lv) ∗ inv m c t.val ∗ (inv m c (t.val + 1) -∗ Kt ⟨⟩)) ⊢ wp frame (wpE (defs₀ (F := F)) 𝒱₀ (c : Thread nD τ) none) Set.univ (cc0_body i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) Kt := by
  have h3 : ¬ k0_cond3 i = 1#1 := fun h => by have := (cond3_iff i).mp h; omega
  have e : sl (t.val + 1 + 1) = sl t.val := Fin.ext (by show (t.val + 1 + 1) % 2 = t.val % 2; omega)
  simp only [cc0_body_eq_skeleton]; unfold cc0_body_skel
  simp only [dif_neg h3, Prog.lift, Prog.bind_op, Prog.bind_ret, Prog.pure_eq_ret]
  unfold inv
  iintro ⟨#HR, ⟨C0, C1, Hcore, Htl, Htl'⟩, Hk⟩
  rw [wp_bind]
  iapply (part15_mid m c i (by omega) (by omega))
  isplitl [C1]; · rw [ht]; iexact C1
  iintro %a %v2 %v4 %v14 C1
  dsimp only
  iapply (step_spec m K c i t ht a v2 v4 v14) $$ [C0 Hcore]
  · isplitr; · iexact HR
    isplitl [C0]; · iexact C0
    iexact Hcore
  iintro %r ⟨C0, Hcore⟩
  rw [wp_ret]; imodintro
  iapply Hk
  rw [ht, e]
  isplitl [C1]; · iexact C1
  isplitl [C0]; · iexact C0
  isplitl [Hcore]; · iexact Hcore
  isplitl [Htl]; · iexact Htl
  iexact Htl'

theorem halves_disjoint (y : ℕ) (hy : y < 2) : Disjoint (halfS y) (halfS (1 - y)) :=
  Finset.disjoint_left.mpr fun x hx hx' => by have := mem_halfS.mp hx; have := mem_halfS.mp hx'; omega
theorem halves_univ (y : ℕ) (hy : y < 2) : halfS y ∪ halfS (1 - y) = (Finset.univ : Finset S32x2048.Idx) := by
  ext x
  have h1 : (x 1).val < 2048 := (x 1).isLt
  refine ⟨fun _ => Finset.mem_univ _, fun _ => Finset.mem_union.mpr ?_⟩
  rw [mem_halfS, mem_halfS]; omega
theorem ou_halves (c : Dev nD) (f : Buf (Elt F) (ouL c)) :
    ((ouL c) ↦{fullShare} f : sProp 𝕄) = iprop(((ouL c) ↦[halfS (c.val % 2)]{fullShare} f) ∗ ((ouL c) ↦[halfS (1 - c.val % 2)]{fullShare} f)) :=
  (congrArg (fun S => ((ouL c) ↦[S]{fullShare} f : sProp 𝕄)) (halves_univ (c.val % 2) (Nat.mod_lt _ (by decide))).symm).trans (by
    have h : ((ouL c) ↦[halfS (c.val % 2) ∪ halfS (1 - c.val % 2)]{fullShare} f : sProp 𝕄) ⊣⊢ iprop(((ouL c) ↦[halfS (c.val % 2)]{fullShare} f) ∗ ((ouL c) ↦[halfS (1 - c.val % 2)]{fullShare} f)) :=
      pointsTo_union (halves_disjoint (c.val % 2) (Nat.mod_lt _ (by decide)))
    exact BI.equiv_iff.mp ⟨h.1, h.2⟩)

theorem body_last (c : Dev nD) (i : grid0.Coords) (hz : hd i = 7) (Kt : PUnit → sProp 𝕄) :
    iprop((records m K ∗ levAts L lv) ∗ inv m c 7 ∗ (fin' m c -∗ Kt ⟨⟩)) ⊢ wp frame (wpE (defs₀ (F := F)) 𝒱₀ (c : Thread nD τ) none) Set.univ (cc0_body i qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) Kt := by
  have h3 := (cond3_iff i).mpr hz
  simp only [cc0_body_eq_skeleton]; unfold cc0_body_skel
  simp only [dif_pos h3, Prog.lift, Prog.bind_op, Prog.bind_ret, Prog.pure_eq_ret]
  unfold inv tail0 tail1
  iintro ⟨#HR, ⟨C0, C1, Hcore, ⟨Ht36, Ht38, Ha36, H38, Hou, Ht37, Ht39, Ha37, H39, ⟨A0, A1, A2, A3, A4, A5, A6, A7⟩, Hrecv⟩, ⟨Hlr, Hby, Hab, Hbl⟩⟩, Hk⟩
  rw [wp_bind]
  iapply (part15_last c i hz)
  iintro %a %v2 %v4 %v14
  dsimp only
  iapply (step_spec m K c i 7 hz a v2 v4 v14) $$ [C0 Hcore]
  · isplitr; · iexact HR
    isplitl [C0]; · iexact C0
    iexact Hcore
  iintro %r ⟨C0, Hcore⟩
  unfold core
  rw [show ltS ((7 : Fin 8).val + 1) = Finset.univ from ltS_last, bigSep_fin8]
  icases Hcore with ⟨HO, ⟨Hq, Hlw⟩, -, Hla, ⟨D0, D1, D2, D3, D4, D5, D6, D7⟩⟩
  rw [wp_bind]
  iapply (part14_spec m K c i v2 r.1 r.2 h3)
  isplitr; · iexact HR
  isplitl [HO]; · iexact HO
  isplitl [Hla]; · iexact Hla
  isplitl [Hlr Ht36 Ht38 Ha36 H38 Hou Hby Ht37 Ht39 Ha37]
  · unfold lastPre
    isplitl [Hlr]; · iexact Hlr
    isplitl [Ht36]; · iexact Ht36
    isplitl [Ht38]; · iexact Ht38
    isplitl [Ha36]; · iexact Ha36
    isplitl [H38]; · iexact H38
    isplitl [Hou]; · iexact Hou
    isplitl [Hby]; · iexact Hby
    isplitl [Ht37]; · iexact Ht37
    isplitl [Ht39]; · iexact Ht39
    iexact Ha37
  isplitl [D0 A0 D1 A1 D2 A2 D3 A3 D4 A4 D5 A5 D6 A6 D7 A7]
  · unfold pend
    isplitl [D0 A0]
    · isplitl [D0]; · iexact D0
      iexact A0
    isplitl [D1 A1]
    · isplitl [D1]; · iexact D1
      iexact A1
    isplitl [D2 A2]
    · isplitl [D2]; · iexact D2
      iexact A2
    isplitl [D3 A3]
    · isplitl [D3]; · iexact D3
      iexact A3
    isplitl [D4 A4]
    · isplitl [D4]; · iexact D4
      iexact A4
    isplitl [D5 A5]
    · isplitl [D5]; · iexact D5
      iexact A5
    isplitl [D6 A6]
    · isplitl [D6]; · iexact D6
      iexact A6
    isplitl [D7]; · iexact D7
    iexact A7
  isplitl [Hrecv]; · iexact Hrecv
  iintro ⟨⟨%W, HO⟩, Hsum, Hou, Hat⟩
  iapply (wp_wait_zero m K c 39 (by decide) (by decide) _ ((rsem_eq 1 _ rfl _).trans rfl)) $$ [HO H39]
  · icases HR with ⟨HR, -⟩
    isplitr; · iexact HR
    isplitl [HO]; · iexact HO
    iexact H39
  isplitr; · ipureintro; rfl
  unfold gone
  iintro ⟨HO, Hou', Ha39⟩
  ihave Hou' := (Entails.of_eq (dpay_yr m c)) $$ Hou'
  rw [wp_ret]; imodintro
  iapply Hk
  unfold fin'
  rw [ou_halves]
  isplitl [C1]; · iexact C1
  isplitl [C0]; · iexact C0
  isplitl [HO]; · iexact HO
  isplitl [Hq]; · iexact Hq
  isplitl [Hlw]; · iexact Hlw
  isplitl [Hsum]; · iexact Hsum
  isplitl [Hou Hou']
  · isplitl [Hou] <;> iassumption
  isplitl [Hbl]; · iexact Hbl
  isplitl [Hab]; · iexact Hab
  isplitl [Hat]; · iexact Hat
  iexact Ha39

end Cert.Paged
-- ==== Proof.Loop.lean ====
/-
  The pipeline that runs the grid: the copies between the arrays and the staging buffers, and its iterations.
-/
module

public import proofs.«01_k».proof.Proof.Body
public import proofs.«01_k».proof.Proof.Gen.KernelIdeal.Points
public import proofs.«01_k».proof.Proof.Gen.KernelIdeal.Launch

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

abbrev PA (F : FTy → Type) : Type := (pcfgs (F := F) 0).Adm
abbrev ProgM (F : FTy → Type) : Type 1 := Prog (TpuEff nD τ sig (Elt F) (Pipeline.Sig Λ₀ (Fin 1) fun p => (pcfgs (F := F) p).Adm) .tc) PUnit.{1}

abbrev 𝕍₀ : Variants := Variants.lift 𝒱₀

/-! ## A copy of a whole array -/

theorem wp_wstart (c : Dev nD) (bd : Option (𝕍₀).V) {sp sp' : Space} {s : Shape} {e : EltTy} (src : Memref sig .tc sp s e) (dst : Memref sig .tc sp' s e) (sm : DmaSem sig)
    {hsrc : src.view.WordExact} {hdst : dst.view.WordExact} {hsem : DmaTarget.Typed (nD := nD) sp (.dma sm) (.here dst : DmaTarget nD τ sig .tc sp' s e)}
    (N : ℕ) (hN : dst.view.amount (.dma sm) = N) (hN0 : 0 < N)
    (fs : Buf (Elt F) (src.view.loc (c : Thread nD τ))) (g : Buf (Elt F) (dst.view.loc (c : Thread nD τ)))
    (hs : src.view.set = Finset.univ) (hg : ∀ fd, dst.view.write (Elt F) fd (src.view.read (Elt F) fs) Finset.univ = g)
    {Q : PUnit.{1} → sProp 𝕄} {k : PUnit.{1} → ProgM F} :
    iprop((src.view.loc (c : Thread nD τ) ↦{fullShare} fs) ∗ (∃ fd, (dst.view.loc (c : Thread nD τ)) ↦{fullShare} fd) ∗ semVal ((c : Thread nD τ), SemLoc.dma sm) 0)
      ⊢ iprop((Flight EC (c : Thread nD τ) (.dma sm) () N iprop((dst.view.loc (c : Thread nD τ) ↦{fullShare} g) ∗ (src.view.loc (c : Thread nD τ) ↦{fullShare} fs))
          -∗ wp frame (wpE (defs (F := F)) 𝕍₀ (c : Thread nD τ) bd) Set.univ (k ⟨⟩) Q)
        -∗ wp frame (wpE (defs (F := F)) 𝕍₀ (c : Thread nD τ) bd) Set.univ (.op (.enqueueDma src (.here dst) (.dma sm) hsrc hdst hsem) k) Q) := by
  iintro ⟨Hs, ⟨%fd, Hd⟩, Hv⟩ Hk
  iapply (wp_dmaLocal EC 𝕍₀ (c : Thread nD τ) bd (src := src) (via := .same) (dst := dst) (sm := .dma sm) (fs := fs) (fd := fd) () N hN hN0 (Finset.subset_univ _)) $$ [Hs Hd Hv]
  · isplitl [Hs]
    · rw [hs]; iexact Hs
    isplitl [Hd]; · iexact Hd
    iexact Hv
  iintro Hf
  iapply Hk
  iapply (Flight_mono EC (c : Thread nD τ) ?_) $$ Hf
  rw [hs]
  iintro ⟨Hd, Hs⟩
  isplitl [Hd]
  · iapply (Entails.of_eq (congrArg (fun x => (dst.view.loc (c : Thread nD τ) ↦{fullShare} x : sProp 𝕄)) (hg fd))) $$ Hd
  iexact Hs

theorem wp_wwait (c : Dev nD) (bd : Option (𝕍₀).V) {sp sp' : Space} {s : Shape} {e : EltTy} (src : Memref sig .tc sp s e) (dst : Memref sig .tc sp' s e) (sm : DmaSem sig)
    {hsrc : src.view.WordExact} {hdst : dst.view.WordExact} (N : ℕ) (hN : dst.view.dmaCredit = N) {D : sProp 𝕄} {O : CellTallies nD τ sig Unit} {W : Waits sig Unit}
    {Q : PUnit.{1} → sProp 𝕄} {k : PUnit.{1} → ProgM F} :
    iprop(Flight EC (c : Thread nD τ) (.dma sm) () N D ∗ owes (c : Thread nD τ) O W ∗ MayWait (c : Thread nD τ) (.dma sm) () O)
      ⊢ iprop((iprop(D ∗ semVal ((c : Thread nD τ), SemLoc.dma sm) 0 ∗ (∃ W, owes (c : Thread nD τ) O W)) -∗ wp frame (wpE (defs (F := F)) 𝕍₀ (c : Thread nD τ) bd) Set.univ (k ⟨⟩) Q)
        -∗ wp frame (wpE (defs (F := F)) 𝕍₀ (c : Thread nD τ) bd) Set.univ (.op (.waitDma2 sm src dst hsrc hdst) k) Q) := by
  iintro H Hk
  iapply (wp_waitLocalO EC 𝕍₀ (c : Thread nD τ) bd (srcw := src) (dstw := dst) () hN) $$ H
  iintro ⟨HD, Hv, HO⟩
  iapply Hk
  isplitl [HD]; · iexact HD
  isplitl [Hv]; · iexact Hv
  iexists _; iexact HO

/-! ## The windows' blocks, each a whole array -/

theorem whole_set (b : Ref sig .tc) {off size : Fin b.ty.shape.rank → ℕ} (h : off = fun _ => 0) (hsz : size = b.ty.shape.size) (inb : ∀ a, off a + size a ≤ b.ty.shape.size a) :
    ((View.whole b).slice (Rect.unit off size inb)).set = Finset.univ := by
  subst h; subst hsz
  rw [View.set_slice_whole]
  ext x
  simp only [Rect.mem_set_unit, Finset.mem_univ, iff_true]
  intro a
  exact ⟨Nat.zero_le _, by rw [Nat.zero_add]; exact (x a).isLt⟩

/-! ## An iteration -/

abbrev callIter (a : PA F) (ℓ : ℕ) : ProgM F := Prog.op (.call (Pipeline.pipe (0 : Fin 1)) (a, ℓ)) fun _ => Prog.ret ⟨⟩

theorem single_all : ∀ w : Fin 4, (cfg0.win w).single = true := by decide
theorem prologue_one : cfg0.prologue = 1 := by decide
theorem trips : cfg0.tripCount = 10 := by
  have h1 := prologue_one
  have h2 : cfg0.epilogue = 1 := by decide
  have h3 : cfg0.N = 8 := N_0
  unfold Pipeline.Cfg.tripCount; omega

theorem iter_eq (a : PA F) (u : Fin cfg0.N) :
    (cfg0.iter (P := Fin 1) (A := fun p => (pcfgs (F := F) p).Adm) 0 a (u.val + 1) : ProgM F)
      = cfg0.eachWin (fun w => (cfg0.win w).fetch u) (fun w => cfg0.fetchIn w u) (
        cfg0.eachWin (fun w => (cfg0.win w).fetch u) (fun w k => .op (cfg0.waitIn w u) fun _ => k) (
        .op (.call (Pipeline.kernel cfg0.body) (cfg0.bodyArgs u (cfg0.slots u))) fun _ =>
        cfg0.eachWin (fun w => (cfg0.win w).flush u) (fun w k => .op (cfg0.startOut w u) fun _ => k) (
        cfg0.eachWin (fun w => (cfg0.win w).flush u) (fun w k => .op (cfg0.waitOut w u) fun _ => k) (callIter a (u.val + 2))))) := by
  have hu : u.val < 8 := lt_of_lt_of_eq u.isLt N_0
  have q1 : ∀ (w : Fin cfg0.W) (t : Fin cfg0.N), ((cfg0.win w).single && (cfg0.win w).fetch t) = (cfg0.win w).fetch t := fun w t => by rw [single_all w, Bool.true_and]
  have q2 : ∀ (w : Fin cfg0.W) (t : Fin cfg0.N), (!(cfg0.win w).single && (cfg0.win w).fetch t) = false := fun w t => by rw [single_all w]; rfl
  have q3 : ∀ (w : Fin cfg0.W) (t : Fin cfg0.N), ((cfg0.win w).single && (cfg0.win w).flush t) = (cfg0.win w).flush t := fun w t => by rw [single_all w, Bool.true_and]
  have q4 : ∀ (w : Fin cfg0.W) (t : Fin cfg0.N), (!(cfg0.win w).single && (cfg0.win w).flush t) = false := fun w t => by rw [single_all w]; rfl
  have p1 : cfg0.point (u.val + 1) 1 = some u := by
    unfold Pipeline.Cfg.point
    rw [dif_pos ⟨by omega, by rw [Nat.add_sub_cancel]; exact u.isLt⟩]; rfl
  unfold Pipeline.Cfg.iter
  simp only [q1, q2, q3, q4, prologue_one, trips]
  rw [if_pos (by omega)]
  unfold Pipeline.Cfg.atPoint
  rw [p1]
  dsimp only
  have hn : ∀ (f : Fin cfg0.W → ProgM F → ProgM F) (k : ProgM F), cfg0.eachWin (fun _ => false) f k = k := fun f k => cfg0.eachWin_false (fun _ => rfl) f k
  cases cfg0.point (u.val + 1) 0 <;> cases cfg0.point (u.val + 1) (1 + 1) <;> simp only [hn]

theorem iter_zero (a : PA F) : (cfg0.iter (P := Fin 1) (A := fun p => (pcfgs (F := F) p).Adm) 0 a 0 : ProgM F) = callIter a 1 := by
  have q2 : ∀ (w : Fin cfg0.W) (t : Fin cfg0.N), (!(cfg0.win w).single && (cfg0.win w).fetch t) = false := fun w t => by rw [single_all w]; rfl
  have hn : ∀ (f : Fin cfg0.W → ProgM F → ProgM F) (k : ProgM F), cfg0.eachWin (fun _ => false) f k = k := fun f k => cfg0.eachWin_false (fun _ => rfl) f k
  unfold Pipeline.Cfg.iter
  simp only [q2, prologue_one, trips]
  rw [if_pos (by omega)]
  have e1 : cfg0.point 0 1 = none := by unfold Pipeline.Cfg.point; rw [dif_neg (by omega)]
  have e2 : cfg0.point 0 (1 + 1) = none := by unfold Pipeline.Cfg.point; rw [dif_neg (by omega)]
  unfold Pipeline.Cfg.atPoint
  rw [e1, e2]
  cases cfg0.point 0 0 <;> simp only [hn]

theorem iter_nine (a : PA F) : (cfg0.iter (P := Fin 1) (A := fun p => (pcfgs (F := F) p).Adm) 0 a 9 : ProgM F) = Prog.ret ⟨⟩ := by
  have q4 : ∀ (w : Fin cfg0.W) (t : Fin cfg0.N), (!(cfg0.win w).single && (cfg0.win w).flush t) = false := fun w t => by rw [single_all w]; rfl
  have hn : ∀ (f : Fin cfg0.W → ProgM F → ProgM F) (k : ProgM F), cfg0.eachWin (fun _ => false) f k = k := fun f k => cfg0.eachWin_false (fun _ => rfl) f k
  have hN : cfg0.N = 8 := N_0
  unfold Pipeline.Cfg.iter
  simp only [q4, prologue_one, trips]
  rw [if_neg (by omega)]
  have e1 : cfg0.point 9 1 = none := by unfold Pipeline.Cfg.point; rw [dif_neg (by omega)]
  have e2 : cfg0.point 9 0 = none := by unfold Pipeline.Cfg.point; rw [dif_neg (by omega)]
  unfold Pipeline.Cfg.atPoint
  rw [e1, e2]
  cases cfg0.point 9 (1 + 1) <;> simp only [hn]

end Cert.Paged

end
-- ==== Proof.Win.lean ====
/-
  The copies of the windows: between the arrays and the staging buffers.
-/
module

public import proofs.«01_k».proof.Proof.Loop

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

theorem whole_read (b : Ref sig .tc) {off : Fin b.ty.shape.rank → ℕ} (h : off = fun _ => 0) (inb : ∀ a, off a + b.ty.shape.size a ≤ b.ty.shape.size a) (f : b.ty.Contents (Elt F)) :
    ((View.whole b).slice (Rect.unit off b.ty.shape.size inb)).read (Elt F) f = f := by
  subst h
  exact Memref.readAt_unit_zero (Elt F) b rfl inb f

theorem tr0 (i : grid0.Coords) : ∀ a, cc0_transform_0 i a = 0 := by intro a; fin_cases a <;> rfl
theorem tr1 (i : grid0.Coords) : ∀ a, cc0_transform_3 i a = 0 := by intro a; fin_cases a <;> rfl
theorem tr2 (i : grid0.Coords) : ∀ a, cc0_transform_4 i a = 0 := by intro a; fin_cases a <;> rfl
theorem tr3 (i : grid0.Coords) : ∀ a, cc0_transform_5 i a = 0 := by intro a; fin_cases a <;> rfl

abbrev a0L (c : Dev nD) : Loc nD τ sig := (c : Thread nD τ).loc main_arg0
abbrev a3L (c : Dev nD) : Loc nD τ sig := (c : Thread nD τ).loc main_arg3
abbrev a4L (c : Dev nD) : Loc nD τ sig := (c : Thread nD τ).loc main_arg4
abbrev v1L (c : Dev nD) : Loc nD τ sig := (c : Thread nD τ).loc main_v1

theorem wN0_pos (u : Fin cfg0.N) : 0 < (win0_0.stg u (0 : Fin 1)).view.dmaCredit := View.dmaCredit_pos _ (block_pos0 0)
def fly0 (c : Dev nD) (u : Fin cfg0.N) : sProp 𝕄 := Flight EC (c : Thread nD τ) (.dma (dsem 0)) () (win0_0.stg u (0 : Fin 1)).view.dmaCredit iprop(((qL c) ↦{fullShare} (qC m c)) ∗ ((a0L c) ↦{fullShare} (m (a0L c))))

theorem in0_start' (c : Dev nD) (bd : Option (𝕍₀).V) (u : Fin cfg0.N) (s : Fin 1) {h1 : (win0_0.blk u).view.WordExact} {h2 : (win0_0.stg u s).view.WordExact} {h3 : DmaTarget.Typed (nD := nD) _ (.dma (win0_0.sem s)) (.here (win0_0.stg u s) : DmaTarget nD τ sig .tc _ _ _)} {Q : PUnit.{1} → sProp 𝕄} {k : PUnit.{1} → ProgM F} :
    iprop(((a0L c) ↦{fullShare} (m (a0L c))) ∗ (∃ f : Buf (Elt F) (qL c), (qL c) ↦{fullShare} f) ∗ semVal ((c : Thread nD τ), SemLoc.dma (dsem 0)) 0)
      ⊢ iprop((fly0 m c u -∗ wp frame (wpE (defs (F := F)) 𝕍₀ (c : Thread nD τ) bd) Set.univ (k ⟨⟩) Q)
        -∗ wp frame (wpE (defs (F := F)) 𝕍₀ (c : Thread nD τ) bd) Set.univ (.op (.enqueueDma (win0_0.blk u) (.here (win0_0.stg u s)) (.dma (win0_0.sem s)) h1 h2 h3) k) Q) := by
  have hz : (fun a => cc0_transform_0 (grid0.coords u) a * (S32x1x16x128).size a) = fun _ => 0 := funext fun a => by rw [tr0, Nat.zero_mul]
  obtain rfl : s = 0 := Subsingleton.elim _ _
  have e1 : (win0_0.blk u).view.set = Finset.univ := whole_set main_arg0 hz rfl _
  have e2 : (win0_0.blk u).view.read (Elt F) (m (a0L c)) = m (a0L c) := whole_read main_arg0 hz _ _
  have e3 : ∀ (fd : Buf (Elt F) (qL c)) w, (win0_0.stg u (0 : Fin 1)).view.write (Elt F) fd w Finset.univ = w := fun fd w => Memref.write_access_unit_zero_univ (Elt F) cc0_stg0_0 rfl _ fd w
  exact wp_wstart c bd (win0_0.blk u) (win0_0.stg u (0 : Fin 1)) (dsem 0) _ rfl (wN0_pos u) (m (a0L c)) (qC m c)
    e1 (fun fd => (e3 fd _).trans e2)

theorem in0_start (c : Dev nD) (bd : Option (𝕍₀).V) (u : Fin cfg0.N) {Q : PUnit.{1} → sProp 𝕄} {k : PUnit.{1} → ProgM F} :
    iprop(((a0L c) ↦{fullShare} (m (a0L c))) ∗ (∃ f : Buf (Elt F) (qL c), (qL c) ↦{fullShare} f) ∗ semVal ((c : Thread nD τ), SemLoc.dma (dsem 0)) 0)
      ⊢ iprop((fly0 m c u -∗ wp frame (wpE (defs (F := F)) 𝕍₀ (c : Thread nD τ) bd) Set.univ (k ⟨⟩) Q)
        -∗ wp frame (wpE (defs (F := F)) 𝕍₀ (c : Thread nD τ) bd) Set.univ (.op (cfg0.startIn 0 u) k) Q) :=
  in0_start' m c bd u (cfg0.slots u 0)

theorem in0_wait' (c : Dev nD) (bd : Option (𝕍₀).V) (u : Fin cfg0.N) (s : Fin 1) {h1 : (win0_0.blk u).view.WordExact} {h2 : (win0_0.stg u s).view.WordExact} {Q : PUnit.{1} → sProp 𝕄} {k : PUnit.{1} → ProgM F} :
    iprop(levAts L lv ∗ fly0 m c u ∗ (∃ W, owes (c : Thread nD τ) (O₀ c) W))
      ⊢ iprop((iprop(((qL c) ↦{fullShare} (qC m c)) ∗ ((a0L c) ↦{fullShare} (m (a0L c))) ∗ semVal ((c : Thread nD τ), SemLoc.dma (dsem 0)) 0 ∗ (∃ W, owes (c : Thread nD τ) (O₀ c) W))
            -∗ wp frame (wpE (defs (F := F)) 𝕍₀ (c : Thread nD τ) bd) Set.univ (k ⟨⟩) Q)
        -∗ wp frame (wpE (defs (F := F)) 𝕍₀ (c : Thread nD τ) bd) Set.univ (.op (.waitDma2 (win0_0.sem s) (win0_0.blk u) (win0_0.stg u s) h1 h2) k) Q) := by
  obtain rfl : s = 0 := Subsingleton.elim _ _
  iintro ⟨#Hl, Hf, ⟨%W, HO⟩⟩ Hk
  iapply (wp_wwait c bd (win0_0.blk u) (win0_0.stg u (0 : Fin 1)) (dsem 0) _ rfl) $$ [Hf HO]
  · isplitl [Hf]; · unfold fly0; iexact Hf
    isplitl [HO]; · iexact HO
    iapply (mayWait_above c _ 0 (by unfold lv; dsimp only; rw [if_pos (by decide)]) (above_launch c)) $$ Hl
  iintro ⟨⟨Hd, Ha⟩, Hv, HO⟩
  iapply Hk
  isplitl [Hd]; · iexact Hd
  isplitl [Ha]; · iexact Ha
  isplitl [Hv]; · iexact Hv
  iexact HO

theorem in0_wait (c : Dev nD) (bd : Option (𝕍₀).V) (u : Fin cfg0.N) {Q : PUnit.{1} → sProp 𝕄} {k : PUnit.{1} → ProgM F} :
    iprop(levAts L lv ∗ fly0 m c u ∗ (∃ W, owes (c : Thread nD τ) (O₀ c) W))
      ⊢ iprop((iprop(((qL c) ↦{fullShare} (qC m c)) ∗ ((a0L c) ↦{fullShare} (m (a0L c))) ∗ semVal ((c : Thread nD τ), SemLoc.dma (dsem 0)) 0 ∗ (∃ W, owes (c : Thread nD τ) (O₀ c) W))
            -∗ wp frame (wpE (defs (F := F)) 𝕍₀ (c : Thread nD τ) bd) Set.univ (k ⟨⟩) Q)
        -∗ wp frame (wpE (defs (F := F)) 𝕍₀ (c : Thread nD τ) bd) Set.univ (.op (cfg0.waitIn 0 u) k) Q) :=
  in0_wait' m c bd u (cfg0.slots u 0) (h1 := win0_0.wordExact_blk u) (h2 := win0_0.wordExact_stg u (cfg0.slots u 0))

theorem wN1_pos (u : Fin cfg0.N) : 0 < (win0_1.stg u (0 : Fin 1)).view.dmaCredit := View.dmaCredit_pos _ (block_pos0 1)
def fly1 (c : Dev nD) (u : Fin cfg0.N) : sProp 𝕄 := Flight EC (c : Thread nD τ) (.dma (dsem 1)) () (win0_1.stg u (0 : Fin 1)).view.dmaCredit iprop(((btL c) ↦{fullShare} (btC m c)) ∗ ((a3L c) ↦{fullShare} (m (a3L c))))

theorem in1_start' (c : Dev nD) (bd : Option (𝕍₀).V) (u : Fin cfg0.N) (s : Fin 1) {h1 : (win0_1.blk u).view.WordExact} {h2 : (win0_1.stg u s).view.WordExact} {h3 : DmaTarget.Typed (nD := nD) _ (.dma (win0_1.sem s)) (.here (win0_1.stg u s) : DmaTarget nD τ sig .tc _ _ _)} {Q : PUnit.{1} → sProp 𝕄} {k : PUnit.{1} → ProgM F} :
    iprop(((a3L c) ↦{fullShare} (m (a3L c))) ∗ (∃ f : Buf (Elt F) (btL c), (btL c) ↦{fullShare} f) ∗ semVal ((c : Thread nD τ), SemLoc.dma (dsem 1)) 0)
      ⊢ iprop((fly1 m c u -∗ wp frame (wpE (defs (F := F)) 𝕍₀ (c : Thread nD τ) bd) Set.univ (k ⟨⟩) Q)
        -∗ wp frame (wpE (defs (F := F)) 𝕍₀ (c : Thread nD τ) bd) Set.univ (.op (.enqueueDma (win0_1.blk u) (.here (win0_1.stg u s)) (.dma (win0_1.sem s)) h1 h2 h3) k) Q) := by
  have hz : (fun a => cc0_transform_3 (grid0.coords u) a * (S32x256).size a) = fun _ => 0 := funext fun a => by rw [tr1, Nat.zero_mul]
  obtain rfl : s = 0 := Subsingleton.elim _ _
  have e1 : (win0_1.blk u).view.set = Finset.univ := whole_set main_arg3 hz rfl _
  have e2 : (win0_1.blk u).view.read (Elt F) (m (a3L c)) = m (a3L c) := whole_read main_arg3 hz _ _
  have e3 : ∀ (fd : Buf (Elt F) (btL c)) w, (win0_1.stg u (0 : Fin 1)).view.write (Elt F) fd w Finset.univ = w := fun fd w => Memref.write_access_unit_zero_univ (Elt F) cc0_stg1_0 rfl _ fd w
  exact wp_wstart c bd (win0_1.blk u) (win0_1.stg u (0 : Fin 1)) (dsem 1) _ rfl (wN1_pos u) (m (a3L c)) (btC m c)
    e1 (fun fd => (e3 fd _).trans e2)

theorem in1_start (c : Dev nD) (bd : Option (𝕍₀).V) (u : Fin cfg0.N) {Q : PUnit.{1} → sProp 𝕄} {k : PUnit.{1} → ProgM F} :
    iprop(((a3L c) ↦{fullShare} (m (a3L c))) ∗ (∃ f : Buf (Elt F) (btL c), (btL c) ↦{fullShare} f) ∗ semVal ((c : Thread nD τ), SemLoc.dma (dsem 1)) 0)
      ⊢ iprop((fly1 m c u -∗ wp frame (wpE (defs (F := F)) 𝕍₀ (c : Thread nD τ) bd) Set.univ (k ⟨⟩) Q)
        -∗ wp frame (wpE (defs (F := F)) 𝕍₀ (c : Thread nD τ) bd) Set.univ (.op (cfg0.startIn 1 u) k) Q) :=
  in1_start' m c bd u (cfg0.slots u 1)

theorem in1_wait' (c : Dev nD) (bd : Option (𝕍₀).V) (u : Fin cfg0.N) (s : Fin 1) {h1 : (win0_1.blk u).view.WordExact} {h2 : (win0_1.stg u s).view.WordExact} {Q : PUnit.{1} → sProp 𝕄} {k : PUnit.{1} → ProgM F} :
    iprop(levAts L lv ∗ fly1 m c u ∗ (∃ W, owes (c : Thread nD τ) (O₀ c) W))
      ⊢ iprop((iprop(((btL c) ↦{fullShare} (btC m c)) ∗ ((a3L c) ↦{fullShare} (m (a3L c))) ∗ semVal ((c : Thread nD τ), SemLoc.dma (dsem 1)) 0 ∗ (∃ W, owes (c : Thread nD τ) (O₀ c) W))
            -∗ wp frame (wpE (defs (F := F)) 𝕍₀ (c : Thread nD τ) bd) Set.univ (k ⟨⟩) Q)
        -∗ wp frame (wpE (defs (F := F)) 𝕍₀ (c : Thread nD τ) bd) Set.univ (.op (.waitDma2 (win0_1.sem s) (win0_1.blk u) (win0_1.stg u s) h1 h2) k) Q) := by
  obtain rfl : s = 0 := Subsingleton.elim _ _
  iintro ⟨#Hl, Hf, ⟨%W, HO⟩⟩ Hk
  iapply (wp_wwait c bd (win0_1.blk u) (win0_1.stg u (0 : Fin 1)) (dsem 1) _ rfl) $$ [Hf HO]
  · isplitl [Hf]; · unfold fly1; iexact Hf
    isplitl [HO]; · iexact HO
    iapply (mayWait_above c _ 0 (by unfold lv; dsimp only; rw [if_pos (by decide)]) (above_launch c)) $$ Hl
  iintro ⟨⟨Hd, Ha⟩, Hv, HO⟩
  iapply Hk
  isplitl [Hd]; · iexact Hd
  isplitl [Ha]; · iexact Ha
  isplitl [Hv]; · iexact Hv
  iexact HO

theorem in1_wait (c : Dev nD) (bd : Option (𝕍₀).V) (u : Fin cfg0.N) {Q : PUnit.{1} → sProp 𝕄} {k : PUnit.{1} → ProgM F} :
    iprop(levAts L lv ∗ fly1 m c u ∗ (∃ W, owes (c : Thread nD τ) (O₀ c) W))
      ⊢ iprop((iprop(((btL c) ↦{fullShare} (btC m c)) ∗ ((a3L c) ↦{fullShare} (m (a3L c))) ∗ semVal ((c : Thread nD τ), SemLoc.dma (dsem 1)) 0 ∗ (∃ W, owes (c : Thread nD τ) (O₀ c) W))
            -∗ wp frame (wpE (defs (F := F)) 𝕍₀ (c : Thread nD τ) bd) Set.univ (k ⟨⟩) Q)
        -∗ wp frame (wpE (defs (F := F)) 𝕍₀ (c : Thread nD τ) bd) Set.univ (.op (cfg0.waitIn 1 u) k) Q) :=
  in1_wait' m c bd u (cfg0.slots u 1) (h1 := win0_1.wordExact_blk u) (h2 := win0_1.wordExact_stg u (cfg0.slots u 1))

theorem wN2_pos (u : Fin cfg0.N) : 0 < (win0_2.stg u (0 : Fin 1)).view.dmaCredit := View.dmaCredit_pos _ (block_pos0 2)
def fly2 (c : Dev nD) (u : Fin cfg0.N) : sProp 𝕄 := Flight EC (c : Thread nD τ) (.dma (dsem 2)) () (win0_2.stg u (0 : Fin 1)).view.dmaCredit iprop(((lnL c) ↦{fullShare} (lnC m c)) ∗ ((a4L c) ↦{fullShare} (m (a4L c))))

theorem in2_start' (c : Dev nD) (bd : Option (𝕍₀).V) (u : Fin cfg0.N) (s : Fin 1) {h1 : (win0_2.blk u).view.WordExact} {h2 : (win0_2.stg u s).view.WordExact} {h3 : DmaTarget.Typed (nD := nD) _ (.dma (win0_2.sem s)) (.here (win0_2.stg u s) : DmaTarget nD τ sig .tc _ _ _)} {Q : PUnit.{1} → sProp 𝕄} {k : PUnit.{1} → ProgM F} :
    iprop(((a4L c) ↦{fullShare} (m (a4L c))) ∗ (∃ f : Buf (Elt F) (lnL c), (lnL c) ↦{fullShare} f) ∗ semVal ((c : Thread nD τ), SemLoc.dma (dsem 2)) 0)
      ⊢ iprop((fly2 m c u -∗ wp frame (wpE (defs (F := F)) 𝕍₀ (c : Thread nD τ) bd) Set.univ (k ⟨⟩) Q)
        -∗ wp frame (wpE (defs (F := F)) 𝕍₀ (c : Thread nD τ) bd) Set.univ (.op (.enqueueDma (win0_2.blk u) (.here (win0_2.stg u s)) (.dma (win0_2.sem s)) h1 h2 h3) k) Q) := by
  have hz : (fun a => cc0_transform_4 (grid0.coords u) a * (S32x1).size a) = fun _ => 0 := funext fun a => by rw [tr2, Nat.zero_mul]
  obtain rfl : s = 0 := Subsingleton.elim _ _
  have e1 : (win0_2.blk u).view.set = Finset.univ := whole_set main_arg4 hz rfl _
  have e2 : (win0_2.blk u).view.read (Elt F) (m (a4L c)) = m (a4L c) := whole_read main_arg4 hz _ _
  have e3 : ∀ (fd : Buf (Elt F) (lnL c)) w, (win0_2.stg u (0 : Fin 1)).view.write (Elt F) fd w Finset.univ = w := fun fd w => Memref.write_access_unit_zero_univ (Elt F) cc0_stg2_0 rfl _ fd w
  exact wp_wstart c bd (win0_2.blk u) (win0_2.stg u (0 : Fin 1)) (dsem 2) _ rfl (wN2_pos u) (m (a4L c)) (lnC m c)
    e1 (fun fd => (e3 fd _).trans e2)

theorem in2_start (c : Dev nD) (bd : Option (𝕍₀).V) (u : Fin cfg0.N) {Q : PUnit.{1} → sProp 𝕄} {k : PUnit.{1} → ProgM F} :
    iprop(((a4L c) ↦{fullShare} (m (a4L c))) ∗ (∃ f : Buf (Elt F) (lnL c), (lnL c) ↦{fullShare} f) ∗ semVal ((c : Thread nD τ), SemLoc.dma (dsem 2)) 0)
      ⊢ iprop((fly2 m c u -∗ wp frame (wpE (defs (F := F)) 𝕍₀ (c : Thread nD τ) bd) Set.univ (k ⟨⟩) Q)
        -∗ wp frame (wpE (defs (F := F)) 𝕍₀ (c : Thread nD τ) bd) Set.univ (.op (cfg0.startIn 2 u) k) Q) :=
  in2_start' m c bd u (cfg0.slots u 2)

theorem in2_wait' (c : Dev nD) (bd : Option (𝕍₀).V) (u : Fin cfg0.N) (s : Fin 1) {h1 : (win0_2.blk u).view.WordExact} {h2 : (win0_2.stg u s).view.WordExact} {Q : PUnit.{1} → sProp 𝕄} {k : PUnit.{1} → ProgM F} :
    iprop(levAts L lv ∗ fly2 m c u ∗ (∃ W, owes (c : Thread nD τ) (O₀ c) W))
      ⊢ iprop((iprop(((lnL c) ↦{fullShare} (lnC m c)) ∗ ((a4L c) ↦{fullShare} (m (a4L c))) ∗ semVal ((c : Thread nD τ), SemLoc.dma (dsem 2)) 0 ∗ (∃ W, owes (c : Thread nD τ) (O₀ c) W))
            -∗ wp frame (wpE (defs (F := F)) 𝕍₀ (c : Thread nD τ) bd) Set.univ (k ⟨⟩) Q)
        -∗ wp frame (wpE (defs (F := F)) 𝕍₀ (c : Thread nD τ) bd) Set.univ (.op (.waitDma2 (win0_2.sem s) (win0_2.blk u) (win0_2.stg u s) h1 h2) k) Q) := by
  obtain rfl : s = 0 := Subsingleton.elim _ _
  iintro ⟨#Hl, Hf, ⟨%W, HO⟩⟩ Hk
  iapply (wp_wwait c bd (win0_2.blk u) (win0_2.stg u (0 : Fin 1)) (dsem 2) _ rfl) $$ [Hf HO]
  · isplitl [Hf]; · unfold fly2; iexact Hf
    isplitl [HO]; · iexact HO
    iapply (mayWait_above c _ 0 (by unfold lv; dsimp only; rw [if_pos (by decide)]) (above_launch c)) $$ Hl
  iintro ⟨⟨Hd, Ha⟩, Hv, HO⟩
  iapply Hk
  isplitl [Hd]; · iexact Hd
  isplitl [Ha]; · iexact Ha
  isplitl [Hv]; · iexact Hv
  iexact HO

theorem in2_wait (c : Dev nD) (bd : Option (𝕍₀).V) (u : Fin cfg0.N) {Q : PUnit.{1} → sProp 𝕄} {k : PUnit.{1} → ProgM F} :
    iprop(levAts L lv ∗ fly2 m c u ∗ (∃ W, owes (c : Thread nD τ) (O₀ c) W))
      ⊢ iprop((iprop(((lnL c) ↦{fullShare} (lnC m c)) ∗ ((a4L c) ↦{fullShare} (m (a4L c))) ∗ semVal ((c : Thread nD τ), SemLoc.dma (dsem 2)) 0 ∗ (∃ W, owes (c : Thread nD τ) (O₀ c) W))
            -∗ wp frame (wpE (defs (F := F)) 𝕍₀ (c : Thread nD τ) bd) Set.univ (k ⟨⟩) Q)
        -∗ wp frame (wpE (defs (F := F)) 𝕍₀ (c : Thread nD τ) bd) Set.univ (.op (cfg0.waitIn 2 u) k) Q) :=
  in2_wait' m c bd u (cfg0.slots u 2) (h1 := win0_2.wordExact_blk u) (h2 := win0_2.wordExact_stg u (cfg0.slots u 2))

theorem wN3_pos (u : Fin cfg0.N) : 0 < (win0_3.blk u).view.dmaCredit := View.dmaCredit_pos _ (block_pos0 3)
def fly3 (c : Dev nD) (u : Fin cfg0.N) : sProp 𝕄 := Flight EC (c : Thread nD τ) (.dma (dsem 3)) () (win0_3.blk u).view.dmaCredit iprop(((v1L c) ↦{fullShare} (RES m c)) ∗ ((ouL c) ↦{fullShare} (RES m c)))

theorem out_start' (c : Dev nD) (bd : Option (𝕍₀).V) (u : Fin cfg0.N) (s : Fin 1) {h1 : (win0_3.stg u s).view.WordExact} {h2 : (win0_3.blk u).view.WordExact} {h3 : DmaTarget.Typed (nD := nD) _ (.dma (win0_3.sem s)) (.here (win0_3.blk u) : DmaTarget nD τ sig .tc _ _ _)} {Q : PUnit.{1} → sProp 𝕄} {k : PUnit.{1} → ProgM F} :
    iprop(((ouL c) ↦{fullShare} (RES m c)) ∗ (∃ f : Buf (Elt F) (v1L c), (v1L c) ↦{fullShare} f) ∗ semVal ((c : Thread nD τ), SemLoc.dma (dsem 3)) 0)
      ⊢ iprop((fly3 m c u -∗ wp frame (wpE (defs (F := F)) 𝕍₀ (c : Thread nD τ) bd) Set.univ (k ⟨⟩) Q)
        -∗ wp frame (wpE (defs (F := F)) 𝕍₀ (c : Thread nD τ) bd) Set.univ (.op (.enqueueDma (win0_3.stg u s) (.here (win0_3.blk u)) (.dma (win0_3.sem s)) h1 h2 h3) k) Q) := by
  have hz : (fun a => cc0_transform_5 (grid0.coords u) a * (S32x2048).size a) = fun _ => 0 := funext fun a => by rw [tr3, Nat.zero_mul]
  obtain rfl : s = 0 := Subsingleton.elim _ _
  have e1 : (win0_3.stg u (0 : Fin 1)).view.set = Finset.univ := whole_set cc0_stg3_0 rfl rfl _
  have e2 : (win0_3.stg u (0 : Fin 1)).view.read (Elt F) (RES m c) = RES m c := whole_read cc0_stg3_0 rfl _ _
  have e3 : ∀ (fd : Buf (Elt F) (v1L c)) w, (win0_3.blk u).view.write (Elt F) fd w Finset.univ = w := fun fd w => Memref.write_access_unit_zero_univ (Elt F) main_v1 hz _ fd w
  exact wp_wstart c bd (win0_3.stg u (0 : Fin 1)) (win0_3.blk u) (dsem 3) _ rfl (wN3_pos u) (RES m c) (RES m c)
    e1 (fun fd => (e3 fd _).trans e2)

theorem out_start (c : Dev nD) (bd : Option (𝕍₀).V) (u : Fin cfg0.N) {Q : PUnit.{1} → sProp 𝕄} {k : PUnit.{1} → ProgM F} :
    iprop(((ouL c) ↦{fullShare} (RES m c)) ∗ (∃ f : Buf (Elt F) (v1L c), (v1L c) ↦{fullShare} f) ∗ semVal ((c : Thread nD τ), SemLoc.dma (dsem 3)) 0)
      ⊢ iprop((fly3 m c u -∗ wp frame (wpE (defs (F := F)) 𝕍₀ (c : Thread nD τ) bd) Set.univ (k ⟨⟩) Q)
        -∗ wp frame (wpE (defs (F := F)) 𝕍₀ (c : Thread nD τ) bd) Set.univ (.op (cfg0.startOut 3 u) k) Q) :=
  out_start' m c bd u (cfg0.slots u 3)

theorem out_wait' (c : Dev nD) (bd : Option (𝕍₀).V) (u : Fin cfg0.N) (s : Fin 1) {h1 : (win0_3.stg u s).view.WordExact} {h2 : (win0_3.blk u).view.WordExact} {Q : PUnit.{1} → sProp 𝕄} {k : PUnit.{1} → ProgM F} :
    iprop(fly3 m c u ∗ (∃ W, owes (c : Thread nD τ) 0 W))
      ⊢ iprop((iprop(((v1L c) ↦{fullShare} (RES m c)) ∗ ((ouL c) ↦{fullShare} (RES m c)) ∗ semVal ((c : Thread nD τ), SemLoc.dma (dsem 3)) 0 ∗ (∃ W, owes (c : Thread nD τ) 0 W))
            -∗ wp frame (wpE (defs (F := F)) 𝕍₀ (c : Thread nD τ) bd) Set.univ (k ⟨⟩) Q)
        -∗ wp frame (wpE (defs (F := F)) 𝕍₀ (c : Thread nD τ) bd) Set.univ (.op (.waitDma2 (win0_3.sem s) (win0_3.stg u s) (win0_3.blk u) h1 h2) k) Q) := by
  obtain rfl : s = 0 := Subsingleton.elim _ _
  iintro ⟨Hf, ⟨%W, HO⟩⟩ Hk
  iapply (wp_wwait c bd (win0_3.stg u (0 : Fin 1)) (win0_3.blk u) (dsem 3) _ rfl) $$ [Hf HO]
  · isplitl [Hf]; · unfold fly3; iexact Hf
    isplitl [HO]; · iexact HO
    rw [MayWait_zero]; iempintro
  iintro ⟨⟨Hd, Ha⟩, Hv, HO⟩
  iapply Hk
  isplitl [Hd]; · iexact Hd
  isplitl [Ha]; · iexact Ha
  isplitl [Hv]; · iexact Hv
  iexact HO

theorem out_wait (c : Dev nD) (bd : Option (𝕍₀).V) (u : Fin cfg0.N) {Q : PUnit.{1} → sProp 𝕄} {k : PUnit.{1} → ProgM F} :
    iprop(fly3 m c u ∗ (∃ W, owes (c : Thread nD τ) 0 W))
      ⊢ iprop((iprop(((v1L c) ↦{fullShare} (RES m c)) ∗ ((ouL c) ↦{fullShare} (RES m c)) ∗ semVal ((c : Thread nD τ), SemLoc.dma (dsem 3)) 0 ∗ (∃ W, owes (c : Thread nD τ) 0 W))
            -∗ wp frame (wpE (defs (F := F)) 𝕍₀ (c : Thread nD τ) bd) Set.univ (k ⟨⟩) Q)
        -∗ wp frame (wpE (defs (F := F)) 𝕍₀ (c : Thread nD τ) bd) Set.univ (.op (cfg0.waitOut 3 u) k) Q) :=
  out_wait' m c bd u (cfg0.slots u 3) (h1 := win0_3.wordExact_stg u (cfg0.slots u 3)) (h2 := win0_3.wordExact_blk u)

/-! ## The body's call -/

theorem body_row (t : Fin cfg0.N) (s : (w : Fin 4) → Fin (win0 w).nbuf) :
    (defs₀ (F := F)) Proc.tc 0 (t, s) = cc0_body (grid0.coords t) qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 := by
  have h : ∀ s0 s1 s2 s3 : Fin 1, cc0_body (F := F) (grid0.coords t) (stage0_0 s0) (hstage0_0 s0) (Memref.whole main_arg1) (Memref.isWhole_whole _) (Memref.whole main_arg2) (Memref.isWhole_whole _)
      (stage0_1 s1) (hstage0_1 s1) (stage0_2 s2) (hstage0_2 s2) (stage0_3 s3) (hstage0_3 s3) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
      = cc0_body (grid0.coords t) qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11 := by
    intro s0 s1 s2 s3
    obtain rfl : s0 = 0 := Subsingleton.elim _ _
    obtain rfl : s1 = 0 := Subsingleton.elim _ _
    obtain rfl : s2 = 0 := Subsingleton.elim _ _
    obtain rfl : s3 = 0 := Subsingleton.elim _ _
    rfl
  exact h (s 0) (s 1) (s 2) (s 3)

theorem wp_bodycall (c : Dev nD) (n : ℕ) (u : Fin cfg0.N) {Q : PUnit.{1} → sProp 𝕄} {k : PUnit.{1} → ProgM F} :
    wp frame (wpE (defs₀ (F := F)) 𝒱₀ (c : Thread nD τ) none) Set.univ (cc0_body (grid0.coords u) qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) (fun x => wp frame (wpE (defs (F := F)) 𝕍₀ (c : Thread nD τ) (some (Sum.inr n))) Set.univ (k x) Q)
      ⊢ wp frame (wpE (defs (F := F)) 𝕍₀ (c : Thread nD τ) (some (Sum.inr n))) Set.univ (.op (.call (Pipeline.kernel cfg0.body) (cfg0.bodyArgs u (cfg0.slots u))) k) Q := by
  refine BIBase.Entails.trans ?_ (wp_call 𝕍₀ (c : Thread nD τ) (some (Sum.inr n)) Set.univ (ℓ := Pipeline.kernel cfg0.body) (a := cfg0.bodyArgs u (cfg0.slots u)) (k := k) (Q := Q) (Sum.inl none) (fun v hv => by cases hv; exact Sum.Lex.sep _ _))
  have e : (defs (F := F)) (c : Thread nD τ).2 (Pipeline.kernel cfg0.body) (cfg0.bodyArgs u (cfg0.slots u)) = Pipeline.liftProg (cc0_body (grid0.coords u) qM (Memref.isWhole_whole _) kM (Memref.isWhole_whole _) vM (Memref.isWhole_whole _) btM (Memref.isWhole_whole _) lnM (Memref.isWhole_whole _) ouM (Memref.isWhole_whole _) lwM (Memref.isWhole_whole _) oaM (Memref.isWhole_whole _) laM (Memref.isWhole_whole _) orM (Memref.isWhole_whole _) lrM (Memref.isWhole_whole _) kB (Memref.isWhole_whole _) vB (Memref.isWhole_whole _) cc0_scratch7 cc0_scratch8 cc0_scratch9 cc0_scratch10 cc0_scratch11) := by
    unfold defs
    rw [Pipeline.defs_kernel pcfgs defs₀]
    exact congrArg _ (body_row u (cfg0.slots u))
  rw [e]
  exact Pipeline.wp_liftProg (defs (F := F)) (Pipeline.defs_kernel pcfgs defs₀) 𝒱₀ (c : Thread nD τ) Set.univ none _ _

end Cert.Paged

end
-- ==== Proof.Region.lean ====
/-
  The pipeline of the grid, iteration by iteration.
-/
module

public import proofs.«01_k».proof.Proof.Win

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

variable (K : Dev nD × Fin 21 → ℕ)

/-- The windows' semaphores, at zero between copies. -/
def ST (c : Dev nD) : sProp 𝕄 :=
  iprop(semVal ((c : Thread nD τ), SemLoc.dma (dsem 0)) 0 ∗ semVal ((c : Thread nD τ), SemLoc.dma (dsem 1)) 0 ∗ semVal ((c : Thread nD τ), SemLoc.dma (dsem 2)) 0
    ∗ semVal ((c : Thread nD τ), SemLoc.dma (dsem 3)) 0)
/-- The staged arguments. -/
def ARG (c : Dev nD) : sProp 𝕄 :=
  iprop(((a0L c) ↦{fullShare} (m (a0L c))) ∗ ((a3L c) ↦{fullShare} (m (a3L c))) ∗ ((a4L c) ↦{fullShare} (m (a4L c))))
def duties (c : Dev nD) : sProp 𝕄 :=
  bigSep Finset.univ fun h : Fin 8 => iprop(dutyTok ER (dcell c (20 + h.val)) 0 false ∗ dutyTok ER (dcell (peerX c) (28 + h.val)) 0 false)
/-- What the first iteration starts from. -/
def preA (c : Dev nD) : sProp 𝕄 :=
  iprop(chanIdle m c 0 ∗ chanIdle m c 1 ∗ barIn c ∗ (∃ f : Buf (Elt F) (qL c), (qL c) ↦{fullShare} f) ∗ (∃ f : Buf (Elt F) (btL c), (btL c) ↦{fullShare} f)
    ∗ (∃ f : Buf (Elt F) (lnL c), (lnL c) ↦{fullShare} f) ∗ (∃ f : Buf (Elt F) (lwL c), (lwL c) ↦{fullShare} f) ∗ (∃ f : Buf (Elt F) (oaL c), (oaL c) ↦{fullShare} f)
    ∗ (∃ f : Buf (Elt F) (laL c), (laL c) ↦{fullShare} f) ∗ duties c ∗ tail0 c)
def v1Any (c : Dev nD) : sProp 𝕄 := iprop(∃ f : Buf (Elt F) (v1L c), (v1L c) ↦{fullShare} f)
def preR (c : Dev nD) : sProp 𝕄 := iprop(preA m c ∗ ST c ∗ ARG m c ∗ v1Any c)
def midR (c : Dev nD) (t : ℕ) : sProp 𝕄 := iprop(inv m c t ∗ ST c ∗ ARG m c ∗ v1Any c)
def finR (c : Dev nD) : sProp 𝕄 := iprop(fin' m c ∗ ST c ∗ ARG m c ∗ ((v1L c) ↦{fullShare} (RES m c)))
/-- What holds before iteration `ℓ`. -/
def LI (c : Dev nD) (ℓ : ℕ) : sProp 𝕄 := if ℓ ≤ 1 then preR m c else if ℓ ≤ 8 then midR m c (ℓ - 1) else finR m c

theorem hd_coords' (u : Fin cfg0.N) : hd (grid0.coords u) = u.val := by
  have hu : u.val < 8 := lt_of_lt_of_eq u.isLt N_0
  rw [ci_coords u ⟨u.val, hu⟩ rfl, hd_ci]

/-- The calls of an iteration: none but the body at the middle points. -/
theorem each_none (p : Fin 4 → Bool) (hp : ∀ w, p w = false) (f : Fin 4 → ProgM F → ProgM F) (k : ProgM F) : cfg0.eachWin p f k = k := cfg0.eachWin_false hp f k

theorem fetch_ne (u : Fin cfg0.N) (hu : u.val ≠ 0) : ∀ w : Fin 4, (cfg0.win w).fetch u = false := by
  have h8 : u.val < 8 := lt_of_lt_of_eq u.isLt N_0
  intro w
  rw [Bool.eq_false_iff]
  fin_cases w
  · exact fun h => by have := (fetch0_0 u).mp h; omega
  · exact fun h => by have := (fetch0_1 u).mp h; omega
  · exact fun h => by have := (fetch0_2 u).mp h; omega
  · exact fun h => by rw [show (cfg0.win 3).fetch u = false from Pipeline.Window.fetch_out _ rfl u] at h; exact Bool.noConfusion h
theorem flush_ne (u : Fin cfg0.N) (hu : u.val ≠ 7) : ∀ w : Fin 4, (cfg0.win w).flush u = false := by
  have h8 : u.val < 8 := lt_of_lt_of_eq u.isLt N_0
  intro w
  rw [Bool.eq_false_iff]
  fin_cases w
  · exact fun h => by rw [show (cfg0.win 0).flush u = false from Pipeline.Window.flush_in _ rfl u] at h; exact Bool.noConfusion h
  · exact fun h => by rw [show (cfg0.win 1).flush u = false from Pipeline.Window.flush_in _ rfl u] at h; exact Bool.noConfusion h
  · exact fun h => by rw [show (cfg0.win 2).flush u = false from Pipeline.Window.flush_in _ rfl u] at h; exact Bool.noConfusion h
  · exact fun h => by have := (flush0_3 u).mp h; omega

theorem each_ins (u : Fin cfg0.N) (hu : u.val = 0) (f : Fin 4 → ProgM F → ProgM F) (k : ProgM F) :
    cfg0.eachWin (fun w => (cfg0.win w).fetch u) f k = f 0 (f 1 (f 2 k)) := by
  have h0 := (fetch0_0 u).mpr (by omega)
  have h1 := (fetch0_1 u).mpr (by omega)
  have h2 := (fetch0_2 u).mpr (by omega)
  have h3 : (cfg0.win 3).fetch u = false := Pipeline.Window.fetch_out _ rfl u
  have e : (cfg0.eachWin (fun w => (cfg0.win w).fetch u) f k) = (if (cfg0.win 0).fetch u then f 0 else id) ((if (cfg0.win 1).fetch u then f 1 else id)
      ((if (cfg0.win 2).fetch u then f 2 else id) ((if (cfg0.win 3).fetch u then f 3 else id) k))) := by
    have d : ∀ (b : Bool) (g : ProgM F → ProgM F) (x : ProgM F), (if b then g else id) x = if b then g x else x := fun b g x => by cases b <;> rfl
    simp only [d]
    rfl
  rw [e, h0, h1, h2, h3]
  rfl
theorem each_out (u : Fin cfg0.N) (hu : u.val = 7) (f : Fin 4 → ProgM F → ProgM F) (k : ProgM F) :
    cfg0.eachWin (fun w => (cfg0.win w).flush u) f k = f 3 k := by
  have h0 : (cfg0.win 0).flush u = false := Pipeline.Window.flush_in _ rfl u
  have h1 : (cfg0.win 1).flush u = false := Pipeline.Window.flush_in _ rfl u
  have h2 : (cfg0.win 2).flush u = false := Pipeline.Window.flush_in _ rfl u
  have h3 := (flush0_3 u).mpr (by omega)
  have e : (cfg0.eachWin (fun w => (cfg0.win w).flush u) f k) = (if (cfg0.win 0).flush u then f 0 else id) ((if (cfg0.win 1).flush u then f 1 else id)
      ((if (cfg0.win 2).flush u then f 2 else id) ((if (cfg0.win 3).flush u then f 3 else id) k))) := by
    have d : ∀ (b : Bool) (g : ProgM F → ProgM F) (x : ProgM F), (if b then g else id) x = if b then g x else x := fun b g x => by cases b <;> rfl
    simp only [d]
    rfl
  rw [e, h0, h1, h2, h3]
  rfl

abbrev bodyCall (u : Fin cfg0.N) (k : ProgM F) : ProgM F := Prog.op (.call (Pipeline.kernel cfg0.body) (cfg0.bodyArgs u (cfg0.slots u))) fun _ => k

theorem iter_first (a : PA F) (u : Fin cfg0.N) (hu : u.val = 0) :
    (cfg0.iter (P := Fin 1) (A := fun p => (pcfgs (F := F) p).Adm) 0 a (u.val + 1) : ProgM F)
      = Prog.op (cfg0.startIn 0 u) fun _ => Prog.op (cfg0.startIn 1 u) fun _ => Prog.op (cfg0.startIn 2 u) fun _ =>
        Prog.op (cfg0.waitIn 0 u) fun _ => Prog.op (cfg0.waitIn 1 u) fun _ => Prog.op (cfg0.waitIn 2 u) fun _ => bodyCall u (callIter a (u.val + 2)) := by
  rw [iter_eq, each_ins u hu, each_ins u hu, each_none _ (flush_ne u (by omega)), each_none _ (flush_ne u (by omega))]
  rfl
theorem iter_mid (a : PA F) (u : Fin cfg0.N) (h0 : u.val ≠ 0) (h7 : u.val ≠ 7) :
    (cfg0.iter (P := Fin 1) (A := fun p => (pcfgs (F := F) p).Adm) 0 a (u.val + 1) : ProgM F) = bodyCall u (callIter a (u.val + 2)) := by
  rw [iter_eq, each_none _ (fetch_ne u h0), each_none _ (fetch_ne u h0), each_none _ (flush_ne u h7), each_none _ (flush_ne u h7)]
theorem iter_last (a : PA F) (u : Fin cfg0.N) (hu : u.val = 7) :
    (cfg0.iter (P := Fin 1) (A := fun p => (pcfgs (F := F) p).Adm) 0 a (u.val + 1) : ProgM F)
      = bodyCall u (Prog.op (cfg0.startOut 3 u) fun _ => Prog.op (cfg0.waitOut 3 u) fun _ => callIter a (u.val + 2)) := by
  rw [iter_eq, each_none _ (fetch_ne u (by omega)), each_none _ (fetch_ne u (by omega)), each_out u hu, each_out u hu]

theorem wp_first (a : PA F) (c : Dev nD) (n : ℕ) (u : Fin cfg0.N) (hu : u.val = 0) (Q : PUnit.{1} → sProp 𝕄) :
    iprop((records m K ∗ levAts L lv) ∗ preR m c ∗ (midR m c 1 -∗ wp frame (wpE (defs (F := F)) 𝕍₀ (c : Thread nD τ) (some (Sum.inr n))) Set.univ (callIter a (u.val + 2)) Q))
      ⊢ wp frame (wpE (defs (F := F)) 𝕍₀ (c : Thread nD τ) (some (Sum.inr n))) Set.univ (cfg0.iter (P := Fin 1) (A := fun p => (pcfgs (F := F) p).Adm) 0 a (u.val + 1)) Q := by
  rw [iter_first a u hu]
  unfold preR preA barIn ST ARG
  iintro ⟨#HR, ⟨⟨C0, C1, ⟨HO, Hbar⟩, Hq, Hb, Hl, Hlw, Hoa, Hla, Hd, Ht⟩, ⟨S0, S1, S2, S3⟩, ⟨A0, A3, A4⟩, Hv⟩, Hk⟩
  iapply (in0_start m c _ u) $$ [A0 Hq S0]
  · isplitl [A0]; · iexact A0
    isplitl [Hq]; · iexact Hq
    iexact S0
  iintro F0
  iapply (in1_start m c _ u) $$ [A3 Hb S1]
  · isplitl [A3]; · iexact A3
    isplitl [Hb]; · iexact Hb
    iexact S1
  iintro F1
  iapply (in2_start m c _ u) $$ [A4 Hl S2]
  · isplitl [A4]; · iexact A4
    isplitl [Hl]; · iexact Hl
    iexact S2
  iintro F2
  icases HR with ⟨HR, Hlev⟩
  iapply (in0_wait m c _ u) $$ [F0 HO]
  · isplitr; · iexact Hlev
    isplitl [F0]; · iexact F0
    iexact HO
  iintro ⟨Hq, A0, S0, HO⟩
  iapply (in1_wait m c _ u) $$ [F1 HO]
  · isplitr; · iexact Hlev
    isplitl [F1]; · iexact F1
    iexact HO
  iintro ⟨Hb, A3, S1, HO⟩
  iapply (in2_wait m c _ u) $$ [F2 HO]
  · isplitr; · iexact Hlev
    isplitl [F2]; · iexact F2
    iexact HO
  iintro ⟨Hl, A4, S2, HO⟩
  iapply (wp_bodycall c n u)
  iapply (body_first m K c (grid0.coords u) (by rw [hd_coords', hu]))
  isplitr
  · isplitr; · iexact HR
    iexact Hlev
  unfold pre0 barIn blocks
  isplitr [S0 S1 S2 S3 A0 A3 A4 Hv Hk]
  · isplitl [C0]; · iexact C0
    isplitl [C1]; · iexact C1
    isplitl [HO Hbar]
    · isplitl [HO]; · iexact HO
      iexact Hbar
    isplitl [Hb Hl]
    · isplitl [Hb]; · iexact Hb
      iexact Hl
    isplitl [Hq]; · iexact Hq
    isplitl [Hlw]; · iexact Hlw
    isplitl [Hoa]; · iexact Hoa
    isplitl [Hla]; · iexact Hla
    isplitl [Hd]; · unfold duties; iexact Hd
    iexact Ht
  iintro Hi
  iapply Hk
  unfold midR ST ARG
  isplitl [Hi]; · iexact Hi
  isplitl [S0 S1 S2 S3]
  · isplitl [S0]; · iexact S0
    isplitl [S1]; · iexact S1
    isplitl [S2]; · iexact S2
    iexact S3
  isplitl [A0 A3 A4]
  · isplitl [A0]; · iexact A0
    isplitl [A3]; · iexact A3
    iexact A4
  iexact Hv

theorem wp_mid (a : PA F) (c : Dev nD) (n : ℕ) (u : Fin cfg0.N) (h0 : u.val ≠ 0) (h7 : u.val ≠ 7) (Q : PUnit.{1} → sProp 𝕄) :
    iprop((records m K ∗ levAts L lv) ∗ midR m c u.val ∗ (midR m c (u.val + 1) -∗ wp frame (wpE (defs (F := F)) 𝕍₀ (c : Thread nD τ) (some (Sum.inr n))) Set.univ (callIter a (u.val + 2)) Q))
      ⊢ wp frame (wpE (defs (F := F)) 𝕍₀ (c : Thread nD τ) (some (Sum.inr n))) Set.univ (cfg0.iter (P := Fin 1) (A := fun p => (pcfgs (F := F) p).Adm) 0 a (u.val + 1)) Q := by
  have hu : u.val < 8 := lt_of_lt_of_eq u.isLt N_0
  rw [iter_mid a u h0 h7]
  unfold midR
  iintro ⟨#HR, ⟨Hi, HS, HA, Hv⟩, Hk⟩
  iapply (wp_bodycall c n u)
  iapply (body_mid m K c (grid0.coords u) ⟨u.val, hu⟩ (hd_coords' u) h0 (show u.val + 1 < 8 by omega))
  isplitr; · iexact HR
  isplitl [Hi]; · iexact Hi
  iintro Hi
  iapply Hk
  isplitl [Hi]; · iexact Hi
  isplitl [HS]; · iexact HS
  isplitl [HA]; · iexact HA
  iexact Hv

theorem wp_last (a : PA F) (c : Dev nD) (n : ℕ) (u : Fin cfg0.N) (hu : u.val = 7) (Q : PUnit.{1} → sProp 𝕄) :
    iprop((records m K ∗ levAts L lv) ∗ midR m c 7 ∗ (finR m c -∗ wp frame (wpE (defs (F := F)) 𝕍₀ (c : Thread nD τ) (some (Sum.inr n))) Set.univ (callIter a (u.val + 2)) Q))
      ⊢ wp frame (wpE (defs (F := F)) 𝕍₀ (c : Thread nD τ) (some (Sum.inr n))) Set.univ (cfg0.iter (P := Fin 1) (A := fun p => (pcfgs (F := F) p).Adm) 0 a (u.val + 1)) Q := by
  rw [iter_last a u hu]
  unfold midR ST v1Any
  iintro ⟨#HR, ⟨Hi, ⟨S0, S1, S2, S3⟩, HA, Hv⟩, Hk⟩
  iapply (wp_bodycall c n u)
  iapply (body_last m K c (grid0.coords u) (by rw [hd_coords', hu]))
  isplitr; · iexact HR
  isplitl [Hi]; · iexact Hi
  unfold fin'
  iintro ⟨C0, C1, HO, Hq, Hlw, Hs, Hou, Hb, Hat, Hat1, Hat2⟩
  iapply (out_start m c _ u) $$ [Hou Hv S3]
  · isplitl [Hou]; · iexact Hou
    isplitl [Hv]; · iexact Hv
    iexact S3
  iintro F3
  iapply (out_wait m c _ u) $$ [F3 HO]
  · isplitl [F3]; · iexact F3
    iexact HO
  iintro ⟨Hv, Hou, S3, HO⟩
  iapply Hk
  unfold finR fin' ST
  isplitr [S0 S1 S2 S3 HA Hv]
  · isplitl [C0]; · iexact C0
    isplitl [C1]; · iexact C1
    isplitl [HO]; · iexact HO
    isplitl [Hq]; · iexact Hq
    isplitl [Hlw]; · iexact Hlw
    isplitl [Hs]; · iexact Hs
    isplitl [Hou]; · iexact Hou
    isplitl [Hb]; · iexact Hb
    isplitl [Hat]; · iexact Hat
    isplitl [Hat1]; · iexact Hat1
    iexact Hat2
  isplitl [S0 S1 S2 S3]
  · isplitl [S0]; · iexact S0
    isplitl [S1]; · iexact S1
    isplitl [S2]; · iexact S2
    iexact S3
  isplitl [HA]; · iexact HA
  iexact Hv

/-! ## The iterations -/

/-- Iteration `ℓ` takes what holds before it to what holds before the next, which it calls. -/
theorem wp_step (a : PA F) (c : Dev nD) (n ℓ : ℕ) (hℓ : ℓ < 9) (Q : PUnit.{1} → sProp 𝕄) :
    iprop((records m K ∗ levAts L lv) ∗ LI m c ℓ ∗ (LI m c (ℓ + 1) -∗ wp frame (wpE (defs (F := F)) 𝕍₀ (c : Thread nD τ) (some (Sum.inr n))) Set.univ (callIter a (ℓ + 1)) Q))
      ⊢ wp frame (wpE (defs (F := F)) 𝕍₀ (c : Thread nD τ) (some (Sum.inr n))) Set.univ (cfg0.iter (P := Fin 1) (A := fun p => (pcfgs (F := F) p).Adm) 0 a ℓ) Q := by
  have hN : cfg0.N = 8 := N_0
  rcases Nat.eq_zero_or_pos ℓ with h0 | h0
  · subst h0
    rw [iter_zero]
    unfold LI
    rw [if_pos (by omega), if_pos (by omega)]
    iintro ⟨-, Hi, Hk⟩
    iapply Hk
    iexact Hi
  obtain ⟨t, rfl⟩ : ∃ t, ℓ = t + 1 := ⟨ℓ - 1, by omega⟩
  obtain ⟨u, hu⟩ : ∃ u : Fin cfg0.N, u.val = t := ⟨⟨t, by omega⟩, rfl⟩
  subst hu
  have hu : u.val < 8 := lt_of_lt_of_eq u.isLt N_0
  by_cases z : u.val = 0
  · have e1 : LI m c (u.val + 1) = preR m c := by unfold LI; rw [if_pos (by omega)]
    have e2 : LI m c (u.val + 1 + 1) = midR m c 1 := by unfold LI; rw [if_neg (by omega), if_pos (by omega), z]
    rw [e1, e2]
    exact wp_first m K a c n u z Q
  by_cases s : u.val = 7
  · have e1 : LI m c (u.val + 1) = midR m c 7 := by unfold LI; rw [if_neg (by omega), if_pos (by omega), s]
    have e2 : LI m c (u.val + 1 + 1) = finR m c := by unfold LI; rw [if_neg (by omega), if_neg (by omega)]
    rw [e1, e2]
    exact wp_last m K a c n u s Q
  have e1 : LI m c (u.val + 1) = midR m c u.val := by unfold LI; rw [if_neg (by omega), if_pos (by omega)]; rfl
  have e2 : LI m c (u.val + 1 + 1) = midR m c (u.val + 1) := by unfold LI; rw [if_neg (by omega), if_pos (by omega)]; rfl
  rw [e1, e2]
  exact wp_mid m K a c n u z s Q

theorem wp_loop (a : PA F) (c : Dev nD) : ∀ (n ℓ : ℕ), ℓ + n = 9 → ∀ Q : PUnit.{1} → sProp 𝕄,
    iprop((records m K ∗ levAts L lv) ∗ LI m c ℓ ∗ (finR m c -∗ Q ⟨⟩))
      ⊢ wp frame (wpE (defs (F := F)) 𝕍₀ (c : Thread nD τ) (some (Sum.inr n))) Set.univ (cfg0.iter (P := Fin 1) (A := fun p => (pcfgs (F := F) p).Adm) 0 a ℓ) Q := by
  intro n
  induction n with
  | zero =>
    intro ℓ hℓ Q
    obtain rfl : ℓ = 9 := by omega
    rw [iter_nine, wp_ret]
    unfold LI
    rw [if_neg (by omega), if_neg (by omega)]
    iintro ⟨-, Hi, Hk⟩
    imodintro
    iapply Hk
    iexact Hi
  | succ n ih =>
    intro ℓ hℓ Q
    iintro ⟨#HR, Hi, Hk⟩
    iapply (wp_step m K a c (n + 1) ℓ (by omega) Q)
    isplitr; · iexact HR
    isplitl [Hi]; · iexact Hi
    iintro Hi
    iapply (wp_call 𝕍₀ (c : Thread nD τ) (some (Sum.inr (n + 1))) Set.univ (ℓ := Pipeline.pipe (0 : Fin 1)) (a := (a, ℓ + 1)) (k := fun _ => Prog.ret ⟨⟩) (Q := Q) (Sum.inr n)
      (fun v hv => by cases hv; exact Sum.Lex.inr (by omega)))
    iapply (show wp frame (wpE (defs (F := F)) 𝕍₀ (c : Thread nD τ) (some (Sum.inr n))) Set.univ (cfg0.iter (P := Fin 1) (A := fun p => (pcfgs (F := F) p).Adm) 0 a (ℓ + 1))
        (fun x => wp frame (wpE (defs (F := F)) 𝕍₀ (c : Thread nD τ) (some (Sum.inr (n + 1)))) Set.univ (Prog.ret ⟨⟩) Q) ⊢ _ from .rfl)
    iapply (ih (ℓ + 1) (by omega) _)
    isplitr; · iexact HR
    isplitl [Hi]; · iexact Hi
    iintro Hf
    rw [wp_ret]
    imodintro
    iapply Hk
    iexact Hf

end Cert.Paged

end
-- ==== Proof.Start.lean ====
/-
  What the launch deals out: the semaphores with their invariants, the duties among the devices, the credits.
-/
module

public import proofs.«01_k».proof.Proof.Region
public import Idealize.ShloMosaic.Lib.Pipeline.Launch
public import Idealize.ShloMosaic.Lib.Pipeline.Kit

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)
theorem bigSep_fin11 {M : Type} [URA M] (Φ : Fin 11 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_fin21 {M : Type} [URA M] (Φ : Fin 21 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
theorem bigSep_fin22 {M : Type} [URA M] (Φ : Fin 22 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ
theorem big_mono {I : Type} [DecidableEq I] {S : Finset I} {Φ Ψ : I → sProp 𝕄} (h : ∀ i, Φ i ⊢ Ψ i) : bigSep S Φ ⊢ bigSep S Ψ := bigSep_mono fun i _ => h i
theorem upd_mono {P Q : sProp 𝕄} (h : P ⊢ Q) : (|==> P : sProp 𝕄) ⊢ |==> Q := BI.bupd_mono h
theorem big_persistent {I : Type} [DecidableEq I] (S : Finset I) (R : sProp 𝕄) [BI.Persistent R] : R ⊢ bigSep S fun _ => R := BI.bigSep_of_persistent S R

theorem osm_inj : ∀ k k' : Fin 21, osm k = osm k' → k = k' := by decide +kernel
theorem kcell_injective : Function.Injective kcell := by
  rintro ⟨c, k⟩ ⟨c', k'⟩ h
  have h1 : c = c' := congrArg (fun g : GSem nD τ sig => g.1.1) h
  have h2 : k = k' := osm_inj k k' (congrArg Prod.snd h)
  rw [h1, h2]
/-- The semaphores that several devices credit. -/
def cells : Finset (GSem nD τ sig) := Finset.univ.map ⟨kcell, kcell_injective⟩
/-- A device's duties: one for each semaphore, and the barrier's second. -/
abbrev osmT : Fin 22 → SemLoc sig × Bool := fun k => if k.val < 21 then (osm ⟨k.val % 21, Nat.mod_lt _ (by decide)⟩, false) else (.reg barrier0, true)
theorem osmT_inj : ∀ k k' : Fin 22, osmT k = osmT k' → k = k' := by decide +kernel
abbrev tokOf (ck : Dev nD × Fin 22) : GSem nD τ sig × ℕ × Bool := (((ck.1 : Thread nD τ), (osmT ck.2).1), 0, (osmT ck.2).2)
theorem tokOf_injective : Function.Injective tokOf := by
  rintro ⟨c, k⟩ ⟨c', k'⟩ h
  have h1 : c = c' := congrArg (fun g : GSem nD τ sig × ℕ × Bool => g.1.1.1) h
  have h2 : k = k' := osmT_inj k k' (Prod.ext (congrArg (fun g : GSem nD τ sig × ℕ × Bool => g.1.2) h) (congrArg (fun g : GSem nD τ sig × ℕ × Bool => g.2.2) h))
  rw [h1, h2]
def tokens : Finset (GSem nD τ sig × ℕ × Bool) := Finset.univ.map ⟨tokOf, tokOf_injective⟩
def u₀ : UU := (initOf cells tokens, 1)

/-- A device's duties, by semaphores. -/
def toks (c : Dev nD) : sProp 𝕄 :=
  iprop(dutyTok ER (barCell c) 0 false ∗ dutyTok ER (barCell c) 0 true ∗ (bigSep Finset.univ fun h : Fin 8 => dutyTok ER (dcell c (20 + h.val)) 0 false)
    ∗ (bigSep Finset.univ fun h : Fin 8 => dutyTok ER (dcell c (28 + h.val)) 0 false)
    ∗ dutyTok ER (dcell c 36) 0 false ∗ dutyTok ER (dcell c 37) 0 false ∗ dutyTok ER (dcell c 38) 0 false ∗ dutyTok ER (dcell c 39) 0 false)
/-- The duties that a device pays. -/
def payToks (c : Dev nD) : sProp 𝕄 :=
  iprop(dutyTok ER (barCell (peerX c)) 0 false ∗ dutyTok ER (barCell (peerY c)) 0 true ∗ (bigSep Finset.univ fun h : Fin 8 => dutyTok ER (dcell c (20 + h.val)) 0 false)
    ∗ (bigSep Finset.univ fun h : Fin 8 => dutyTok ER (dcell (peerX c) (28 + h.val)) 0 false)
    ∗ dutyTok ER (dcell c 36) 0 false ∗ dutyTok ER (dcell c 37) 0 false ∗ dutyTok ER (dcell (peerX c) 38) 0 false ∗ dutyTok ER (dcell (peerY c) 39) 0 false)
/-- A device's positions at its semaphores. -/
def ats (c : Dev nD) : sProp 𝕄 :=
  iprop(atPos ER (barCell c) 0 ∅ 0 ∗ (bigSep Finset.univ fun h : Fin 8 => atPos ER (dcell c (20 + h.val)) 0 ∅ 0)
    ∗ (bigSep Finset.univ fun h : Fin 8 => atPos ER (dcell c (28 + h.val)) 0 ∅ 0)
    ∗ atPos ER (dcell c 36) 0 ∅ 0 ∗ atPos ER (dcell c 37) 0 ∅ 0 ∗ atPos ER (dcell c 38) 0 ∅ 0 ∗ atPos ER (dcell c 39) 0 ∅ 0)
/-- A device's credits. -/
def creds (c : Dev nD) : sProp 𝕄 :=
  iprop(cred (tallyAt (barCell c) () 2) ∗ (bigSep Finset.univ fun h : Fin 8 => cred (tallyAt (dcell c (28 + h.val)) () oN))
    ∗ cred (tallyAt (dcell c 38) () lN) ∗ cred (tallyAt (dcell c 39) () yN))

theorem toks_of (c : Dev nD) : (bigSep Finset.univ fun k : Fin 22 => dutyTok ER (tokOf (c, k)).1 (tokOf (c, k)).2.1 (tokOf (c, k)).2.2 : sProp 𝕄) ⊢ toks c := by
  rw [bigSep_fin22]
  unfold toks
  rw [bigSep_fin8, bigSep_fin8]
  iintro ⟨A0, A1, A2, A3, A4, A5, A6, A7, A8, A9, A10, A11, A12, A13, A14, A15, A16, A17, A18, A19, A20, A21⟩
  isplitl [A0]; · iexact A0
  isplitl [A21]; · iexact A21
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [A9 A10 A11 A12 A13 A14 A15 A16]
  · isplitl [A9]; · iexact A9
    isplitl [A10]; · iexact A10
    isplitl [A11]; · iexact A11
    isplitl [A12]; · iexact A12
    isplitl [A13]; · iexact A13
    isplitl [A14]; · iexact A14
    isplitl [A15]; · iexact A15
    iexact A16
  isplitl [A17]; · iexact A17
  isplitl [A18]; · iexact A18
  isplitl [A19]; · iexact A19
  iexact A20

theorem ats_of (c : Dev nD) : (bigSep Finset.univ fun k : Fin 21 => atPos ER (kcell (c, k)) 0 ∅ 0 : sProp 𝕄) ⊢ ats c := by
  rw [bigSep_fin21]
  unfold ats
  rw [bigSep_fin8, bigSep_fin8]
  iintro ⟨A0, A1, A2, A3, A4, A5, A6, A7, A8, A9, A10, A11, A12, A13, A14, A15, A16, A17, A18, A19, A20⟩
  isplitl [A0]; · iexact A0
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [A9 A10 A11 A12 A13 A14 A15 A16]
  · isplitl [A9]; · iexact A9
    isplitl [A10]; · iexact A10
    isplitl [A11]; · iexact A11
    isplitl [A12]; · iexact A12
    isplitl [A13]; · iexact A13
    isplitl [A14]; · iexact A14
    isplitl [A15]; · iexact A15
    iexact A16
  isplitl [A17]; · iexact A17
  isplitl [A18]; · iexact A18
  isplitl [A19]; · iexact A19
  iexact A20

theorem toks_around : (bigSep Finset.univ fun c : Dev nD => (toks c : sProp 𝕄)) ⊢ bigSep Finset.univ fun c : Dev nD => payToks c := by
  unfold toks payToks
  simp only [bigSep_sep']
  rw [bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => (bigSep Finset.univ fun h : Fin 8 => dutyTok ER (dcell c (28 + h.val)) 0 false : sProp 𝕄)),
    bigSep_univ_equiv swapX (fun c : Dev nD => (dutyTok ER (dcell c 38) 0 false : sProp 𝕄)),
    bigSep_univ_equiv swapY (fun c : Dev nD => (dutyTok ER (dcell c 39) 0 false : sProp 𝕄))]
  exact BIBase.Entails.rfl

/-! ## The credits -/

theorem tally_sum (σ : Dev nD ≃ Dev nD) (sm sm' : SemLoc sig) (k : ℕ) (c : Dev nD) :
    (∑ d : Dev nD, (tallyAt ((σ d : Thread nD τ), sm) () k : CellTallies nD τ sig Unit) ((c : Thread nD τ), sm') ()) = if sm' = sm then k else 0 := by
  rw [Finset.sum_congr rfl fun d _ => show (tallyAt ((σ d : Thread nD τ), sm) () k : CellTallies nD τ sig Unit) ((c : Thread nD τ), sm') ()
      = if σ d = c then (if sm' = sm then k else 0) else 0 from ?_]
  · rw [Equiv.sum_comp σ (fun e => if e = c then (if sm' = sm then k else 0) else 0), Finset.sum_ite_eq' Finset.univ c, if_pos (Finset.mem_univ _)]
  · rw [tallyAt_apply]
    by_cases h : σ d = c
    · rw [if_pos h]
      by_cases h' : sm' = sm
      · rw [if_pos h', if_pos ⟨by rw [h, h'], rfl⟩]
      · rw [if_neg h', if_neg fun e => h' (congrArg Prod.snd e.1)]
    · rw [if_neg h, if_neg fun e => h (congrArg (fun g : GSem nD τ sig => g.1.1) e.1).symm]

theorem owed_sum (c : Dev nD) (sm : SemLoc sig) :
    (∑ d : Dev nD, O₀ d ((c : Thread nD τ), sm) ())
      = ((((if sm = .dma (dS 39) then yN else 0) + (if sm = .dma (dS 38) then lN else 0)) + ∑ h : Fin 8, if sm = .dma (dS (28 + h.val)) then oN else 0)
          + if sm = .reg barrier0 then 1 else 0) + if sm = .reg barrier0 then 1 else 0 := by
  unfold O₀ owedAt owedO
  rw [geS_zero]
  simp only [Pi.add_apply, Finsupp.add_apply, Finset.sum_apply, Finsupp.finset_sum_apply, Finset.sum_add_distrib]
  rw [Finset.sum_comm]
  refine congrArg₂ (· + ·) (congrArg₂ (· + ·) (congrArg₂ (· + ·) (congrArg₂ (· + ·) ?_ ?_) (Finset.sum_congr rfl fun h _ => ?_)) ?_) ?_
  · exact tally_sum swapY _ _ _ c
  · exact tally_sum swapX _ _ _ c
  · exact tally_sum swapX _ _ _ c
  · exact tally_sum swapY _ _ _ c
  · exact tally_sum swapX _ _ _ c

theorem launch_cred (c : Dev nD) (sm : SemLoc sig) (k : ℕ) (h : (∑ d : Dev nD, O₀ d ((c : Thread nD τ), sm) ()) = k) :
    tallyOn ((c : Thread nD τ), sm) (launchCredit (Pipeline.owing O₀) 0 ((c : Thread nD τ), sm)) = (tallyAt ((c : Thread nD τ), sm) () k : CellTallies nD τ sig Unit) := by
  unfold tallyAt
  refine congrArg _ (Finsupp.ext fun u => ?_)
  cases u
  rw [Pipeline.launchCredit_owing, h, Finsupp.single_eq_same]

/-- The semaphores that hold credit. -/
abbrev csm : Fin 11 → SemLoc sig := fun k => if k.val = 0 then .reg barrier0 else if k.val < 9 then .dma (dS (27 + k.val)) else .dma (dS (29 + k.val))
theorem csm_inj : Function.Injective csm := by
  have h : ∀ k k' : Fin 11, csm k = csm k' → k = k' := by decide +kernel
  exact fun k k' => h k k'
def cAmt : Fin 11 → ℕ := fun k => if k.val = 0 then 2 else if k.val < 9 then oN else if k.val = 9 then lN else yN
theorem csm_tests : ∀ k : Fin 11, (csm k = .reg barrier0 ↔ k.val = 0) ∧ (csm k = .dma (dS 39) ↔ k.val = 10) ∧ (csm k = .dma (dS 38) ↔ k.val = 9)
    ∧ ∀ h : Fin 8, (csm k = .dma (dS (28 + h.val)) ↔ k.val = h.val + 1) := by decide +kernel
theorem cAmt_eq (c : Dev nD) (k : Fin 11) : (∑ d : Dev nD, O₀ d ((c : Thread nD τ), csm k) ()) = cAmt k := by
  obtain ⟨h0, h39, h38, hh⟩ := csm_tests k
  rw [owed_sum]
  simp only [h0, h39, h38, hh]
  rw [Fin.sum_univ_eight]
  fin_cases k <;> simp [cAmt]

theorem creds_of (c : Dev nD) : (Pipeline.launchCred O₀ c : sProp 𝕄) ⊢ creds c := by
  unfold Pipeline.launchCred
  refine (bigSep_subset (Finset.subset_univ (Finset.univ.map ⟨csm, csm_inj⟩))).trans ?_
  rw [bigSep_map]
  refine (Entails.of_eq (bigSep_congr fun k _ => congrArg cred (launch_cred c (csm k) (cAmt k) (cAmt_eq c k)))).trans ?_
  rw [bigSep_fin11]
  unfold creds
  rw [bigSep_fin8]
  iintro ⟨A0, A1, A2, A3, A4, A5, A6, A7, A8, A9, A10⟩
  isplitl [A0]; · iexact A0
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [A9]; · iexact A9
  iexact A10

/-! ## The semaphores -/

theorem scoped_filter : (Finset.univ.filter fun sm : SemLoc sig => sm.isScoped .tc) = Finset.univ.map ⟨fun n : Fin 40 => SemLoc.dma (sig := sig) n, fun _ _ e => SemLoc.dma.inj e⟩ := by decide +kernel
theorem unscoped_filter : (Finset.univ.filter fun sm : SemLoc sig => ¬ sm.isScoped .tc) = {SemLoc.reg barrier0} := by decide +kernel

theorem scoped_eq (c : Dev nD) : (scopedSems0 (c : Thread nD τ) : sProp 𝕄) = iprop(semVal ((c : Thread nD τ), SemLoc.dma (dS 0)) 0 ∗ semVal ((c : Thread nD τ), SemLoc.dma (dS 1)) 0 ∗ semVal ((c : Thread nD τ), SemLoc.dma (dS 2)) 0 ∗ semVal ((c : Thread nD τ), SemLoc.dma (dS 3)) 0 ∗ semVal ((c : Thread nD τ), SemLoc.dma (dS 4)) 0 ∗ semVal ((c : Thread nD τ), SemLoc.dma (dS 5)) 0 ∗ semVal ((c : Thread nD τ), SemLoc.dma (dS 6)) 0 ∗ semVal ((c : Thread nD τ), SemLoc.dma (dS 7)) 0 ∗ semVal ((c : Thread nD τ), SemLoc.dma (dS 8)) 0 ∗ semVal ((c : Thread nD τ), SemLoc.dma (dS 9)) 0 ∗ semVal ((c : Thread nD τ), SemLoc.dma (dS 10)) 0 ∗ semVal ((c : Thread nD τ), SemLoc.dma (dS 11)) 0 ∗ semVal ((c : Thread nD τ), SemLoc.dma (dS 12)) 0 ∗ semVal ((c : Thread nD τ), SemLoc.dma (dS 13)) 0 ∗ semVal ((c : Thread nD τ), SemLoc.dma (dS 14)) 0 ∗ semVal ((c : Thread nD τ), SemLoc.dma (dS 15)) 0 ∗ semVal ((c : Thread nD τ), SemLoc.dma (dS 16)) 0 ∗ semVal ((c : Thread nD τ), SemLoc.dma (dS 17)) 0 ∗ semVal ((c : Thread nD τ), SemLoc.dma (dS 18)) 0 ∗ semVal ((c : Thread nD τ), SemLoc.dma (dS 19)) 0 ∗ semVal ((c : Thread nD τ), SemLoc.dma (dS 20)) 0 ∗ semVal ((c : Thread nD τ), SemLoc.dma (dS 21)) 0 ∗ semVal ((c : Thread nD τ), SemLoc.dma (dS 22)) 0 ∗ semVal ((c : Thread nD τ), SemLoc.dma (dS 23)) 0 ∗ semVal ((c : Thread nD τ), SemLoc.dma (dS 24)) 0 ∗ semVal ((c : Thread nD τ), SemLoc.dma (dS 25)) 0 ∗ semVal ((c : Thread nD τ), SemLoc.dma (dS 26)) 0 ∗ semVal ((c : Thread nD τ), SemLoc.dma (dS 27)) 0 ∗ semVal ((c : Thread nD τ), SemLoc.dma (dS 28)) 0 ∗ semVal ((c : Thread nD τ), SemLoc.dma (dS 29)) 0 ∗ semVal ((c : Thread nD τ), SemLoc.dma (dS 30)) 0 ∗ semVal ((c : Thread nD τ), SemLoc.dma (dS 31)) 0 ∗ semVal ((c : Thread nD τ), SemLoc.dma (dS 32)) 0 ∗ semVal ((c : Thread nD τ), SemLoc.dma (dS 33)) 0 ∗ semVal ((c : Thread nD τ), SemLoc.dma (dS 34)) 0 ∗ semVal ((c : Thread nD τ), SemLoc.dma (dS 35)) 0 ∗ semVal ((c : Thread nD τ), SemLoc.dma (dS 36)) 0 ∗ semVal ((c : Thread nD τ), SemLoc.dma (dS 37)) 0 ∗ semVal ((c : Thread nD τ), SemLoc.dma (dS 38)) 0 ∗ semVal ((c : Thread nD τ), SemLoc.dma (dS 39)) 0) := by
  unfold scopedSems0
  rw [show scopedCells sig (c : Thread nD τ) = _ from scopedCells_tc c, bigSep_map, scoped_filter, bigSep_map]
  exact bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide) _
theorem unscoped_eq (c : Dev nD) : (unscopedSems0 c : sProp 𝕄) = semVal (barCell c) 0 := by
  unfold unscopedSems0
  rw [unscoped_filter, bigSep_singleton]
/-- The semaphores of a device's own copies, at zero. -/
def own20 (c : Dev nD) : sProp 𝕄 := iprop(semVal ((c : Thread nD τ), SemLoc.dma (dS 0)) 0 ∗ semVal ((c : Thread nD τ), SemLoc.dma (dS 1)) 0 ∗ semVal ((c : Thread nD τ), SemLoc.dma (dS 2)) 0 ∗ semVal ((c : Thread nD τ), SemLoc.dma (dS 3)) 0 ∗ semVal ((c : Thread nD τ), SemLoc.dma (dS 4)) 0 ∗ semVal ((c : Thread nD τ), SemLoc.dma (dS 5)) 0 ∗ semVal ((c : Thread nD τ), SemLoc.dma (dS 6)) 0 ∗ semVal ((c : Thread nD τ), SemLoc.dma (dS 7)) 0 ∗ semVal ((c : Thread nD τ), SemLoc.dma (dS 8)) 0 ∗ semVal ((c : Thread nD τ), SemLoc.dma (dS 9)) 0 ∗ semVal ((c : Thread nD τ), SemLoc.dma (dS 10)) 0 ∗ semVal ((c : Thread nD τ), SemLoc.dma (dS 11)) 0 ∗ semVal ((c : Thread nD τ), SemLoc.dma (dS 12)) 0 ∗ semVal ((c : Thread nD τ), SemLoc.dma (dS 13)) 0 ∗ semVal ((c : Thread nD τ), SemLoc.dma (dS 14)) 0 ∗ semVal ((c : Thread nD τ), SemLoc.dma (dS 15)) 0 ∗ semVal ((c : Thread nD τ), SemLoc.dma (dS 16)) 0 ∗ semVal ((c : Thread nD τ), SemLoc.dma (dS 17)) 0 ∗ semVal ((c : Thread nD τ), SemLoc.dma (dS 18)) 0 ∗ semVal ((c : Thread nD τ), SemLoc.dma (dS 19)) 0)
theorem sems_in (c : Dev nD) : iprop(scopedSems0 (c : Thread nD τ) ∗ unscopedSems0 c) ⊢ (iprop((bigSep Finset.univ fun k : Fin 21 => semVal (kcell (c, k)) 0) ∗ own20 c) : sProp 𝕄) := by
  rw [scoped_eq, unscoped_eq, bigSep_fin21]
  unfold own20
  iintro ⟨⟨S0, S1, S2, S3, S4, S5, S6, S7, S8, S9, S10, S11, S12, S13, S14, S15, S16, S17, S18, S19, S20, S21, S22, S23, S24, S25, S26, S27, S28, S29, S30, S31, S32, S33, S34, S35, S36, S37, S38, S39⟩, B⟩
  isplitl [B S20 S21 S22 S23 S24 S25 S26 S27 S28 S29 S30 S31 S32 S33 S34 S35 S36 S37 S38 S39]
  · isplitl [B]; · iexact B
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    iexact S39
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  iexact S19
theorem sems_out (c : Dev nD) : iprop((bigSep Finset.univ fun k : Fin 21 => semVal (kcell (c, k)) 0) ∗ own20 c) ⊢ (iprop(scopedSems0 (c : Thread nD τ) ∗ unscopedSems0 c) : sProp 𝕄) := by
  rw [scoped_eq, unscoped_eq, bigSep_fin21]
  unfold own20
  iintro ⟨⟨B, S20, S21, S22, S23, S24, S25, S26, S27, S28, S29, S30, S31, S32, S33, S34, S35, S36, S37, S38, S39⟩, S0, S1, S2, S3, S4, S5, S6, S7, S8, S9, S10, S11, S12, S13, S14, S15, S16, S17, S18, S19⟩
  isplitr [B]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    iexact S39
  iexact B

/-! ## The launch -/

theorem fund_rounds : BI.own (ER (initOf cells tokens)) ⊢ (|==> ((bigSep Finset.univ fun c : Dev nD => bigSep Finset.univ fun k : Fin 21 => roundState ER (sched m) (kcell (c, k)) 0)
    ∗ (bigSep Finset.univ fun ck : Dev nD × Fin 21 => reached ER (kcell ck) 0) ∗ (bigSep Finset.univ fun c : Dev nD => ats c)
    ∗ (bigSep Finset.univ fun c : Dev nD => payToks c)) : sProp 𝕄) := by
  have hc (Φ : GSem nD τ sig → sProp 𝕄) : bigSep cells Φ = bigSep Finset.univ fun ck : Dev nD × Fin 21 => Φ (kcell ck) := by
    unfold cells; rw [bigSep_map]; rfl
  have ht (Φ : GSem nD τ sig × ℕ × Bool → sProp 𝕄) : bigSep tokens Φ = bigSep Finset.univ fun c : Dev nD => bigSep Finset.univ fun k : Fin 22 => Φ (tokOf (c, k)) := by
    unfold tokens; rw [bigSep_map, bigSep_univ_prod]; rfl
  refine (Rounds.fund ER (sched m) cells tokens).trans (upd_mono (F := F) ?_)
  rw [hc, hc, hc, ht, bigSep_univ_prod (fun ck : Dev nD × Fin 21 => (roundState ER (sched m) (kcell ck) 0 : sProp 𝕄)), bigSep_univ_prod (fun ck : Dev nD × Fin 21 => atPos ER (kcell ck) 0 ∅ 0)]
  iintro ⟨Hst, Hr, Hat, Htok⟩
  isplitl [Hst]; · iexact Hst
  isplitl [Hr]; · iexact Hr
  isplitl [Hat]
  · iapply (big_mono fun c => ats_of c) $$ Hat
  iapply toks_around
  iapply (big_mono fun c => toks_of c) $$ Htok

theorem alloc_all : iprop((bigSep Finset.univ fun c : Dev nD => bigSep Finset.univ fun k : Fin 21 => semVal (kcell (c, k)) 0)
      ∗ (bigSep Finset.univ fun c : Dev nD => bigSep Finset.univ fun k : Fin 21 => roundState ER (sched m) (kcell (c, k)) 0))
    ⊢ (|={Set.univ}=> ∃ K : Dev nD × Fin 21 → ℕ, bigSep Finset.univ fun ck : Dev nD × Fin 21 => cellInv ER (sched m) (K ck) (kcell ck) : sProp 𝕄) := by
  rw [← bigSep_univ_prod (fun ck : Dev nD × Fin 21 => (semVal (kcell ck) 0 : sProp 𝕄)), ← bigSep_univ_prod (fun ck : Dev nD × Fin 21 => (roundState ER (sched m) (kcell ck) 0 : sProp 𝕄)), ← bigSep_sep']
  exact ((bigSep_mono fun ck _ => (Rounds.body_intro ER (sched m) (kcell ck)).trans inv_alloc).trans (bigSep_fupd _ _)).trans
    (BI.fupd_mono (BI.bigSep_exists_pi Finset.univ (fun (ck : Dev nD × Fin 21) (κ : ℕ) => (cellInv ER (sched m) κ (kcell ck) : sProp 𝕄))))

theorem levels_all : (bigSep Finset.univ fun c : Dev nD => levels0 (Ix := Unit) (Val := Elt F) (Name := ℕ) (U := UU) (Lvl := ℕ) (τ := τ) (sig := sig) c)
    ⊢ (|==> levAts L lv : sProp 𝕄) := by
  refine (bigSep_mono fun (c : Dev nD) _ => lev_assign_cells (c : Thread nD τ) L lv).trans <| (BI.bigSep_bupd _ _).trans <| upd_mono (F := F) ?_
  have hnone (t : Thread nD τ) (ht : t.2 ≠ .tc) : (coreLevAts t L lv : sProp 𝕄) = BI.emp := by
    unfold coreLevAts
    refine (bigSep_congr fun sm _ => ?_).trans (BI.bigSep_emp_const (Finset.univ : Finset (SemLoc sig)))
    rw [L_of_ne (t, sm) ht, BI.bigSep_empty]
  have hrest : (bigSep Finset.univ fun d : Dev nD => bigSep (Finset.univ.erase Proc.tc) fun p => (coreLevAts ((d, p) : Thread nD τ) L lv : sProp 𝕄)) = BI.emp :=
    (bigSep_congr fun d _ => (bigSep_congr fun p hp => hnone (d, p) (Finset.ne_of_mem_erase hp)).trans (BI.bigSep_emp_const _)).trans (BI.bigSep_emp_const _)
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hrest, bigSep_sep']
  iintro ⟨-, H⟩
  isplitl [H]; · iexact H
  iempintro

theorem bigSep_with {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ := by
  iintro ⟨HR, H⟩
  ihave HR' := (big_persistent S R) $$ HR
  iapply (big_mono h)
  iapply (Entails.of_eq (bigSep_sep' S (fun _ => R) Φ).symm)
  isplitl [HR']; · iexact HR'
  iexact H

/-- What a device starts from. -/
def startR (c : Dev nD) : sProp 𝕄 :=
  iprop(scopedBufs (c : Thread nD τ) ∗ unscopedBufs c (fun b => m ((c : Thread nD τ).loc b)) ∗ own20 c ∗ owes (c : Thread nD τ) (O₀ c) ∅ ∗ creds c ∗ ats c ∗ payToks c)
def startP (K : Dev nD × Fin 21 → ℕ) (c : Dev nD) : sProp 𝕄 := iprop((records m K ∗ levAts L lv) ∗ startR m c)

theorem core_start (g : Dev nD → PrngReg) (c : Dev nD) :
    coreInit (Ix := Unit) (Name := ℕ) (U := UU) (Lvl := ℕ) (Pipeline.owing O₀) 0 (⟨m, fun _ => 0, g⟩ : MemSt nD τ sig (Elt F)) (c : Thread nD τ)
      ⊢ iprop((bigSep Finset.univ fun k : Fin 21 => semVal (kcell (c, k)) 0) ∗ levels0 c ∗ (scopedBufs (c : Thread nD τ)
          ∗ unscopedBufs c (fun b => m ((c : Thread nD τ).loc b)) ∗ own20 c ∗ owes (c : Thread nD τ) (O₀ c) ∅ ∗ creds c)) := by
  refine (Pipeline.coreInit_boundary_owing O₀ m g c).trans ?_
  unfold boundary
  iintro ⟨⟨Hb, Hs, -⟩, Hub, Hus, HO, Hlv, -, Hcr⟩
  ihave H := (sems_in c) $$ [Hs Hus]
  · isplitl [Hs]; · iexact Hs
    iexact Hus
  icases H with ⟨Hk, Ho⟩
  ihave Hc := (creds_of c) $$ Hcr
  isplitl [Hk]; · iexact Hk
  isplitl [Hlv]; · iexact Hlv
  isplitl [Hb]; · iexact Hb
  isplitl [Hub]; · iexact Hub
  isplitl [Ho]; · iexact Ho
  isplitl [HO]; · iexact HO
  iexact Hc

theorem start_all (g : Dev nD → PrngReg) :
    iprop((bigSep Finset.univ fun c : Dev nD => coreInit (Ix := Unit) (Name := ℕ) (U := UU) (Lvl := ℕ) (Pipeline.owing O₀) 0 (⟨m, fun _ => 0, g⟩ : MemSt nD τ sig (Elt F)) (c : Thread nD τ))
        ∗ ownU u₀)
      ⊢ (|={Set.univ}=> ∃ K : Dev nD × Fin 21 → ℕ, bigSep Finset.univ (startP m K) ∗ emp : sProp 𝕄) := by
  iintro ⟨Hcores, Hu⟩
  ihave Hc := (big_mono (core_start m g)) $$ Hcores
  simp only [bigSep_sep']
  icases Hc with ⟨Hk, Hlv, Hrest⟩
  imod (levels_all (F := F)) $$ Hlv with #Hla
  ihave Hu1 := (Entails.of_eq (show (ownU u₀ : sProp 𝕄) = ownU (initOf cells tokens, (1 : Counters)) from rfl)) $$ Hu
  ihave Hu2 := (ownU_pair (initOf cells tokens) (1 : Counters)) $$ Hu1
  icases Hu2 with ⟨HX, -⟩
  imod (fund_rounds m) $$ HX with ⟨Hst, #HR, Hat, Htok⟩
  imod (alloc_all m) $$ [Hk Hst] with ⟨%K, #HI⟩
  · isplitl [Hk]; · iexact Hk
    iexact Hst
  imodintro
  iexists K
  isplitl
  · iapply (bigSep_with (R := iprop(records m K ∗ levAts L lv)) (Φ := startR m) fun c => BIBase.Entails.rfl)
    isplitr
    · isplitl
      · unfold records
        isplitl; · iexact HI
        iexact HR
      · iexact Hla
    unfold startR
    simp only [bigSep_sep']
    icases Hrest with ⟨Hb, Hub, Ho, HO, Hc⟩
    isplitl [Hb]; · iexact Hb
    isplitl [Hub]; · iexact Hub
    isplitl [Ho]; · iexact Ho
    isplitl [HO]; · iexact HO
    isplitl [Hc]; · iexact Hc
    isplitl [Hat]; · iexact Hat
    iexact Htok
  · iempintro

end Cert.Paged
-- ==== Proof.Hold.lean ====
/-
  A device's buffers: what the kernel's run takes them apart into, and how it puts them together again.
-/
module

public import proofs.«01_k».proof.Proof.Start

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

variable (K : Dev nD × Fin 21 → ℕ)

theorem bufs_eq (c : Dev nD) : (scopedBufs (c : Thread nD τ) : sProp 𝕄) = iprop((∃ f : Buf (Elt F) (qL c), (qL c) ↦{fullShare} f) ∗ (∃ f : Buf (Elt F) (btL c), (btL c) ↦{fullShare} f) ∗ (∃ f : Buf (Elt F) (lnL c), (lnL c) ↦{fullShare} f) ∗ (∃ f : Buf (Elt F) (ouL c), (ouL c) ↦{fullShare} f) ∗ (∃ f : Buf (Elt F) (lwL c), (lwL c) ↦{fullShare} f) ∗ (∃ f : Buf (Elt F) (oaL c), (oaL c) ↦{fullShare} f) ∗ (∃ f : Buf (Elt F) (laL c), (laL c) ↦{fullShare} f) ∗ (∃ f : Buf (Elt F) (orL c), (orL c) ↦{fullShare} f) ∗ (∃ f : Buf (Elt F) (lrL c), (lrL c) ↦{fullShare} f) ∗ (∃ f : Buf (Elt F) (kLoc c), (kLoc c) ↦{fullShare} f) ∗ (∃ f : Buf (Elt F) (vLoc c), (vLoc c) ↦{fullShare} f)) := by
  rw [show (scopedBufs (c : Thread nD τ) : sProp 𝕄) = _ from scopedBufs_tc c,
    bigSep_eq_bigSepL_of_eq [cc0_stg0_0, cc0_stg1_0, cc0_stg2_0, cc0_stg3_0, cc0_scratch0, cc0_scratch1, cc0_scratch2, cc0_scratch3, cc0_scratch4, cc0_scratch5, cc0_scratch6] (by decide) (by decide)]
  rfl
theorem args_eq (c : Dev nD) : (unscopedBufs c (fun b => m ((c : Thread nD τ).loc b)) : sProp 𝕄)
    = iprop(((a0L c) ↦{fullShare} (m (a0L c))) ∗ ((kHbm c) ↦{fullShare} (kArg m c)) ∗ ((vHbm c) ↦{fullShare} (vArg m c)) ∗ ((a3L c) ↦{fullShare} (m (a3L c)))
      ∗ ((a4L c) ↦{fullShare} (m (a4L c))) ∗ ((v1L c) ↦{fullShare} (m (v1L c)))) := by
  unfold unscopedBufs
  rw [bigSep_eq_bigSepL_of_eq [main_arg0, main_arg1, main_arg2, main_arg3, main_arg4, main_v1] (by decide) (by decide)]
  rfl

/-! ## The slots' chunks -/

theorem pieces_univ : (Finset.univ : Finset S2x256x32x128.Idx) = Finset.univ.biUnion fun p : Fin 8 => pieceS (p.val / 4) (p.val % 4) := by
  ext x
  have h0 : (x 0).val < 2 := (x 0).isLt
  have h1 : (x 1).val < 256 := (x 1).isLt
  simp only [Finset.mem_univ, true_iff, Finset.mem_biUnion, true_and]
  exact ⟨⟨4 * (x 0).val + (x 1).val / 64, by omega⟩, mem_pieceS.mpr ⟨by show _ = (4 * (x 0).val + (x 1).val / 64) / 4; omega, by show _ = (4 * (x 0).val + (x 1).val / 64) % 4; omega⟩⟩
theorem pieces_disjoint : ∀ p ∈ (Finset.univ : Finset (Fin 8)), ∀ p' ∈ (Finset.univ : Finset (Fin 8)), p ≠ p' → Disjoint (pieceS (p.val / 4) (p.val % 4)) (pieceS (p'.val / 4) (p'.val % 4)) := by
  intro p _ p' _ hne
  rw [Finset.disjoint_left]
  intro x h h'
  rw [mem_pieceS] at h h'
  exact hne (Fin.ext (by omega))

abbrev leafNo (s : Fin 2) (j : Fin 4) : Fin (2 ^ 3) := ⟨4 * s.val + j.val, by have := s.isLt; have := j.isLt; omega⟩
theorem bigSep_pow {M : Type} [URA M] (Φ : Fin (2 ^ 3) → sProp M) : bigSep Finset.univ Φ = iprop(Φ (leafNo 0 0) ∗ Φ (leafNo 0 1) ∗ Φ (leafNo 0 2) ∗ Φ (leafNo 0 3) ∗ Φ (leafNo 1 0) ∗ Φ (leafNo 1 1) ∗ Φ (leafNo 1 2) ∗ Φ (leafNo 1 3)) :=
  bigSep_univ_eq_bigSepL [(leafNo 0 0), (leafNo 0 1), (leafNo 0 2), (leafNo 0 3), (leafNo 1 0), (leafNo 1 1), (leafNo 1 2), (leafNo 1 3)] (by decide) (by decide) Φ

theorem k_eight (c : Dev nD) (f : Buf (Elt F) (kLoc c)) : ((kLoc c) ↦{fullShare} f : sProp 𝕄) = iprop(((kLoc c) ↦[pieceS 0 0]{fullShare} f) ∗ ((kLoc c) ↦[pieceS 0 1]{fullShare} f) ∗ ((kLoc c) ↦[pieceS 0 2]{fullShare} f) ∗ ((kLoc c) ↦[pieceS 0 3]{fullShare} f) ∗ ((kLoc c) ↦[pieceS 1 0]{fullShare} f) ∗ ((kLoc c) ↦[pieceS 1 1]{fullShare} f) ∗ ((kLoc c) ↦[pieceS 1 2]{fullShare} f) ∗ ((kLoc c) ↦[pieceS 1 3]{fullShare} f)) := by
  refine (congrArg (fun S => ((kLoc c) ↦[S]{fullShare} f : sProp 𝕄)) pieces_univ).trans ?_
  rw [pointsTo_biUnion _ _ pieces_disjoint, bigSep_fin8]
  rfl
theorem k_back (c : Dev nD) : iprop((∃ f : Buf (Elt F) (kLoc c), (kLoc c) ↦[pieceS 0 0]{fullShare} f) ∗ (∃ f : Buf (Elt F) (kLoc c), (kLoc c) ↦[pieceS 0 1]{fullShare} f) ∗ (∃ f : Buf (Elt F) (kLoc c), (kLoc c) ↦[pieceS 0 2]{fullShare} f) ∗ (∃ f : Buf (Elt F) (kLoc c), (kLoc c) ↦[pieceS 0 3]{fullShare} f) ∗ (∃ f : Buf (Elt F) (kLoc c), (kLoc c) ↦[pieceS 1 0]{fullShare} f) ∗ (∃ f : Buf (Elt F) (kLoc c), (kLoc c) ↦[pieceS 1 1]{fullShare} f) ∗ (∃ f : Buf (Elt F) (kLoc c), (kLoc c) ↦[pieceS 1 2]{fullShare} f) ∗ (∃ f : Buf (Elt F) (kLoc c), (kLoc c) ↦[pieceS 1 3]{fullShare} f))
    ⊢ (iprop(∃ f : Buf (Elt F) (kLoc c), (kLoc c) ↦{fullShare} f) : sProp 𝕄) := by
  iintro ⟨⟨%f0, P0⟩, ⟨%f1, P1⟩, ⟨%f2, P2⟩, ⟨%f3, P3⟩, ⟨%f4, P4⟩, ⟨%f5, P5⟩, ⟨%f6, P6⟩, ⟨%f7, P7⟩⟩
  ihave H := (pointsTo_biUnion_join (ℓ := kLoc c) (q := fullShare) (Finset.univ : Finset (Fin 8)) (fun p => pieceS (p.val / 4) (p.val % 4)) ![f0, f1, f2, f3, f4, f5, f6, f7] f0 pieces_disjoint) $$ [P0 P1 P2 P3 P4 P5 P6 P7]
  · rw [bigSep_fin8]
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  icases H with ⟨%g, -, H⟩
  iexists g
  iapply (Entails.of_eq (congrArg (fun S => ((kLoc c) ↦[S]{fullShare} g : sProp 𝕄)) pieces_univ.symm)) $$ H
theorem k_leaves (c : Dev nD) : ((kHbm c) ↦{fullShare} (kArg m c) : sProp 𝕄) = iprop(((kHbm c) ↦{kvq 0 0} (kArg m c)) ∗ ((kHbm c) ↦{kvq 0 1} (kArg m c)) ∗ ((kHbm c) ↦{kvq 0 2} (kArg m c)) ∗ ((kHbm c) ↦{kvq 0 3} (kArg m c)) ∗ ((kHbm c) ↦{kvq 1 0} (kArg m c)) ∗ ((kHbm c) ↦{kvq 1 1} (kArg m c)) ∗ ((kHbm c) ↦{kvq 1 2} (kArg m c)) ∗ ((kHbm c) ↦{kvq 1 3} (kArg m c))) := by
  rw [ShareLeaves.pointsTo_leaves (ℓ := kHbm c) Finset.univ (kArg m c) 3 fullShare, bigSep_pow]
theorem k_chan_in (c : Dev nD) : iprop((semVal ((c : Thread nD τ), SemLoc.dma (dS 4)) 0 ∗ semVal ((c : Thread nD τ), SemLoc.dma (dS 5)) 0 ∗ semVal ((c : Thread nD τ), SemLoc.dma (dS 6)) 0 ∗ semVal ((c : Thread nD τ), SemLoc.dma (dS 7)) 0 ∗ semVal ((c : Thread nD τ), SemLoc.dma (dS 8)) 0 ∗ semVal ((c : Thread nD τ), SemLoc.dma (dS 9)) 0 ∗ semVal ((c : Thread nD τ), SemLoc.dma (dS 10)) 0 ∗ semVal ((c : Thread nD τ), SemLoc.dma (dS 11)) 0) ∗ (∃ f : Buf (Elt F) (kLoc c), (kLoc c) ↦{fullShare} f) ∗ ((kHbm c) ↦{fullShare} (kArg m c)))
    ⊢ (iprop(kIdle m c 0 0 ∗ kIdle m c 0 1 ∗ kIdle m c 0 2 ∗ kIdle m c 0 3 ∗ kIdle m c 1 0 ∗ kIdle m c 1 1 ∗ kIdle m c 1 2 ∗ kIdle m c 1 3) : sProp 𝕄) := by
  iintro ⟨⟨S0, S1, S2, S3, S4, S5, S6, S7⟩, ⟨%f, HP⟩, HH⟩
  ihave HP := (Entails.of_eq (k_eight c f)) $$ HP
  ihave HH := (Entails.of_eq (k_leaves m c)) $$ HH
  icases HP with ⟨P0, P1, P2, P3, P4, P5, P6, P7⟩
  icases HH with ⟨H0, H1, H2, H3, H4, H5, H6, H7⟩
  unfold kIdle
  isplitl [S0 P0 H0]
  · isplitl [S0]; · iexact S0
    isplitl [P0]; · iexists f; iexact P0
    iexact H0
  isplitl [S1 P1 H1]
  · isplitl [S1]; · iexact S1
    isplitl [P1]; · iexists f; iexact P1
    iexact H1
  isplitl [S2 P2 H2]
  · isplitl [S2]; · iexact S2
    isplitl [P2]; · iexists f; iexact P2
    iexact H2
  isplitl [S3 P3 H3]
  · isplitl [S3]; · iexact S3
    isplitl [P3]; · iexists f; iexact P3
    iexact H3
  isplitl [S4 P4 H4]
  · isplitl [S4]; · iexact S4
    isplitl [P4]; · iexists f; iexact P4
    iexact H4
  isplitl [S5 P5 H5]
  · isplitl [S5]; · iexact S5
    isplitl [P5]; · iexists f; iexact P5
    iexact H5
  isplitl [S6 P6 H6]
  · isplitl [S6]; · iexact S6
    isplitl [P6]; · iexists f; iexact P6
    iexact H6
  isplitl [S7]; · iexact S7
  isplitl [P7]; · iexists f; iexact P7
  iexact H7
theorem k_chan_out (c : Dev nD) : (iprop(kIdle m c 0 0 ∗ kIdle m c 0 1 ∗ kIdle m c 0 2 ∗ kIdle m c 0 3 ∗ kIdle m c 1 0 ∗ kIdle m c 1 1 ∗ kIdle m c 1 2 ∗ kIdle m c 1 3) : sProp 𝕄)
    ⊢ iprop((semVal ((c : Thread nD τ), SemLoc.dma (dS 4)) 0 ∗ semVal ((c : Thread nD τ), SemLoc.dma (dS 5)) 0 ∗ semVal ((c : Thread nD τ), SemLoc.dma (dS 6)) 0 ∗ semVal ((c : Thread nD τ), SemLoc.dma (dS 7)) 0 ∗ semVal ((c : Thread nD τ), SemLoc.dma (dS 8)) 0 ∗ semVal ((c : Thread nD τ), SemLoc.dma (dS 9)) 0 ∗ semVal ((c : Thread nD τ), SemLoc.dma (dS 10)) 0 ∗ semVal ((c : Thread nD τ), SemLoc.dma (dS 11)) 0) ∗ (∃ f : Buf (Elt F) (kLoc c), (kLoc c) ↦{fullShare} f) ∗ ((kHbm c) ↦{fullShare} (kArg m c))) := by
  unfold kIdle
  iintro ⟨⟨S0, P0, H0⟩, ⟨S1, P1, H1⟩, ⟨S2, P2, H2⟩, ⟨S3, P3, H3⟩, ⟨S4, P4, H4⟩, ⟨S5, P5, H5⟩, ⟨S6, P6, H6⟩, ⟨S7, P7, H7⟩⟩
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [P0 P1 P2 P3 P4 P5 P6 P7]
  · iapply (k_back c)
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  iapply (Entails.of_eq (k_leaves m c).symm)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem v_eight (c : Dev nD) (f : Buf (Elt F) (vLoc c)) : ((vLoc c) ↦{fullShare} f : sProp 𝕄) = iprop(((vLoc c) ↦[pieceS 0 0]{fullShare} f) ∗ ((vLoc c) ↦[pieceS 0 1]{fullShare} f) ∗ ((vLoc c) ↦[pieceS 0 2]{fullShare} f) ∗ ((vLoc c) ↦[pieceS 0 3]{fullShare} f) ∗ ((vLoc c) ↦[pieceS 1 0]{fullShare} f) ∗ ((vLoc c) ↦[pieceS 1 1]{fullShare} f) ∗ ((vLoc c) ↦[pieceS 1 2]{fullShare} f) ∗ ((vLoc c) ↦[pieceS 1 3]{fullShare} f)) := by
  refine (congrArg (fun S => ((vLoc c) ↦[S]{fullShare} f : sProp 𝕄)) pieces_univ).trans ?_
  rw [pointsTo_biUnion _ _ pieces_disjoint, bigSep_fin8]
  rfl
theorem v_back (c : Dev nD) : iprop((∃ f : Buf (Elt F) (vLoc c), (vLoc c) ↦[pieceS 0 0]{fullShare} f) ∗ (∃ f : Buf (Elt F) (vLoc c), (vLoc c) ↦[pieceS 0 1]{fullShare} f) ∗ (∃ f : Buf (Elt F) (vLoc c), (vLoc c) ↦[pieceS 0 2]{fullShare} f) ∗ (∃ f : Buf (Elt F) (vLoc c), (vLoc c) ↦[pieceS 0 3]{fullShare} f) ∗ (∃ f : Buf (Elt F) (vLoc c), (vLoc c) ↦[pieceS 1 0]{fullShare} f) ∗ (∃ f : Buf (Elt F) (vLoc c), (vLoc c) ↦[pieceS 1 1]{fullShare} f) ∗ (∃ f : Buf (Elt F) (vLoc c), (vLoc c) ↦[pieceS 1 2]{fullShare} f) ∗ (∃ f : Buf (Elt F) (vLoc c), (vLoc c) ↦[pieceS 1 3]{fullShare} f))
    ⊢ (iprop(∃ f : Buf (Elt F) (vLoc c), (vLoc c) ↦{fullShare} f) : sProp 𝕄) := by
  iintro ⟨⟨%f0, P0⟩, ⟨%f1, P1⟩, ⟨%f2, P2⟩, ⟨%f3, P3⟩, ⟨%f4, P4⟩, ⟨%f5, P5⟩, ⟨%f6, P6⟩, ⟨%f7, P7⟩⟩
  ihave H := (pointsTo_biUnion_join (ℓ := vLoc c) (q := fullShare) (Finset.univ : Finset (Fin 8)) (fun p => pieceS (p.val / 4) (p.val % 4)) ![f0, f1, f2, f3, f4, f5, f6, f7] f0 pieces_disjoint) $$ [P0 P1 P2 P3 P4 P5 P6 P7]
  · rw [bigSep_fin8]
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  icases H with ⟨%g, -, H⟩
  iexists g
  iapply (Entails.of_eq (congrArg (fun S => ((vLoc c) ↦[S]{fullShare} g : sProp 𝕄)) pieces_univ.symm)) $$ H
theorem v_leaves (c : Dev nD) : ((vHbm c) ↦{fullShare} (vArg m c) : sProp 𝕄) = iprop(((vHbm c) ↦{kvq 0 0} (vArg m c)) ∗ ((vHbm c) ↦{kvq 0 1} (vArg m c)) ∗ ((vHbm c) ↦{kvq 0 2} (vArg m c)) ∗ ((vHbm c) ↦{kvq 0 3} (vArg m c)) ∗ ((vHbm c) ↦{kvq 1 0} (vArg m c)) ∗ ((vHbm c) ↦{kvq 1 1} (vArg m c)) ∗ ((vHbm c) ↦{kvq 1 2} (vArg m c)) ∗ ((vHbm c) ↦{kvq 1 3} (vArg m c))) := by
  rw [ShareLeaves.pointsTo_leaves (ℓ := vHbm c) Finset.univ (vArg m c) 3 fullShare, bigSep_pow]
theorem v_chan_in (c : Dev nD) : iprop((semVal ((c : Thread nD τ), SemLoc.dma (dS 12)) 0 ∗ semVal ((c : Thread nD τ), SemLoc.dma (dS 13)) 0 ∗ semVal ((c : Thread nD τ), SemLoc.dma (dS 14)) 0 ∗ semVal ((c : Thread nD τ), SemLoc.dma (dS 15)) 0 ∗ semVal ((c : Thread nD τ), SemLoc.dma (dS 16)) 0 ∗ semVal ((c : Thread nD τ), SemLoc.dma (dS 17)) 0 ∗ semVal ((c : Thread nD τ), SemLoc.dma (dS 18)) 0 ∗ semVal ((c : Thread nD τ), SemLoc.dma (dS 19)) 0) ∗ (∃ f : Buf (Elt F) (vLoc c), (vLoc c) ↦{fullShare} f) ∗ ((vHbm c) ↦{fullShare} (vArg m c)))
    ⊢ (iprop(vIdle m c 0 0 ∗ vIdle m c 0 1 ∗ vIdle m c 0 2 ∗ vIdle m c 0 3 ∗ vIdle m c 1 0 ∗ vIdle m c 1 1 ∗ vIdle m c 1 2 ∗ vIdle m c 1 3) : sProp 𝕄) := by
  iintro ⟨⟨S0, S1, S2, S3, S4, S5, S6, S7⟩, ⟨%f, HP⟩, HH⟩
  ihave HP := (Entails.of_eq (v_eight c f)) $$ HP
  ihave HH := (Entails.of_eq (v_leaves m c)) $$ HH
  icases HP with ⟨P0, P1, P2, P3, P4, P5, P6, P7⟩
  icases HH with ⟨H0, H1, H2, H3, H4, H5, H6, H7⟩
  unfold vIdle
  isplitl [S0 P0 H0]
  · isplitl [S0]; · iexact S0
    isplitl [P0]; · iexists f; iexact P0
    iexact H0
  isplitl [S1 P1 H1]
  · isplitl [S1]; · iexact S1
    isplitl [P1]; · iexists f; iexact P1
    iexact H1
  isplitl [S2 P2 H2]
  · isplitl [S2]; · iexact S2
    isplitl [P2]; · iexists f; iexact P2
    iexact H2
  isplitl [S3 P3 H3]
  · isplitl [S3]; · iexact S3
    isplitl [P3]; · iexists f; iexact P3
    iexact H3
  isplitl [S4 P4 H4]
  · isplitl [S4]; · iexact S4
    isplitl [P4]; · iexists f; iexact P4
    iexact H4
  isplitl [S5 P5 H5]
  · isplitl [S5]; · iexact S5
    isplitl [P5]; · iexists f; iexact P5
    iexact H5
  isplitl [S6 P6 H6]
  · isplitl [S6]; · iexact S6
    isplitl [P6]; · iexists f; iexact P6
    iexact H6
  isplitl [S7]; · iexact S7
  isplitl [P7]; · iexists f; iexact P7
  iexact H7
theorem v_chan_out (c : Dev nD) : (iprop(vIdle m c 0 0 ∗ vIdle m c 0 1 ∗ vIdle m c 0 2 ∗ vIdle m c 0 3 ∗ vIdle m c 1 0 ∗ vIdle m c 1 1 ∗ vIdle m c 1 2 ∗ vIdle m c 1 3) : sProp 𝕄)
    ⊢ iprop((semVal ((c : Thread nD τ), SemLoc.dma (dS 12)) 0 ∗ semVal ((c : Thread nD τ), SemLoc.dma (dS 13)) 0 ∗ semVal ((c : Thread nD τ), SemLoc.dma (dS 14)) 0 ∗ semVal ((c : Thread nD τ), SemLoc.dma (dS 15)) 0 ∗ semVal ((c : Thread nD τ), SemLoc.dma (dS 16)) 0 ∗ semVal ((c : Thread nD τ), SemLoc.dma (dS 17)) 0 ∗ semVal ((c : Thread nD τ), SemLoc.dma (dS 18)) 0 ∗ semVal ((c : Thread nD τ), SemLoc.dma (dS 19)) 0) ∗ (∃ f : Buf (Elt F) (vLoc c), (vLoc c) ↦{fullShare} f) ∗ ((vHbm c) ↦{fullShare} (vArg m c))) := by
  unfold vIdle
  iintro ⟨⟨S0, P0, H0⟩, ⟨S1, P1, H1⟩, ⟨S2, P2, H2⟩, ⟨S3, P3, H3⟩, ⟨S4, P4, H4⟩, ⟨S5, P5, H5⟩, ⟨S6, P6, H6⟩, ⟨S7, P7, H7⟩⟩
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [P0 P1 P2 P3 P4 P5 P6 P7]
  · iapply (v_back c)
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  iapply (Entails.of_eq (v_leaves m c).symm)
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The start -/

theorem region_in (c : Dev nD) : startR m c ⊢ preR m c := by
  unfold startR
  rw [bufs_eq, args_eq]
  unfold own20 creds ats payToks
  rw [bigSep_fin8, bigSep_fin8, bigSep_fin8]
  iintro ⟨⟨Hq, Hbt, Hln, ⟨%fo, Hou⟩, Hlw, Hoa, Hla, Hor, Hlr, Hkb, Hvb⟩, ⟨Ha0, Hk, Hv, Ha3, Ha4, Hv1⟩, ⟨S0, S1, S2, S3, S4, S5, S6, S7, S8, S9, S10, S11, S12, S13, S14, S15, S16, S17, S18, S19⟩, HO,
    ⟨Cb, ⟨C28, C29, C30, C31, C32, C33, C34, C35⟩, C38, C39⟩,
    ⟨Ab, ⟨A20, A21, A22, A23, A24, A25, A26, A27⟩, ⟨A28, A29, A30, A31, A32, A33, A34, A35⟩, A36, A37, A38, A39⟩, ⟨Tb, Tb', T20, T28, T36, T37, T38, T39⟩⟩
  ihave Hk := (k_chan_in m c) $$ [S4 S5 S6 S7 S8 S9 S10 S11 Hkb Hk]
  · isplitl [S4 S5 S6 S7 S8 S9 S10 S11]
    · isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    isplitl [Hkb]; · iexact Hkb
    iexact Hk
  ihave Hv := (v_chan_in m c) $$ [S12 S13 S14 S15 S16 S17 S18 S19 Hvb Hv]
  · isplitl [S12 S13 S14 S15 S16 S17 S18 S19]
    · isplitl [S12]; · iexact S12
      isplitl [S13]; · iexact S13
      isplitl [S14]; · iexact S14
      isplitl [S15]; · iexact S15
      isplitl [S16]; · iexact S16
      isplitl [S17]; · iexact S17
      isplitl [S18]; · iexact S18
      iexact S19
    isplitl [Hvb]; · iexact Hvb
    iexact Hv
  icases Hk with ⟨K0, K1, K2, K3, K4, K5, K6, K7⟩
  icases Hv with ⟨V0, V1, V2, V3, V4, V5, V6, V7⟩
  ihave Hou := (Entails.of_eq (ou_halves c fo)) $$ Hou
  icases Hou with ⟨Hou1, Hou2⟩
  unfold preR preA ST ARG v1Any chanIdle barIn barPayX barPayY tail0 pend duties
  rw [peerX_peerX, peerY_peerY, peerY_mod, big_sep]
  isplitr [S0 S1 S2 S3 Ha0 Ha3 Ha4 Hv1]
  · isplitl [K0 K1 K2 K3 V0 V1 V2 V3]
    · isplitl [K0]; · iexact K0
      isplitl [K1]; · iexact K1
      isplitl [K2]; · iexact K2
      isplitl [K3]; · iexact K3
      isplitl [V0]; · iexact V0
      isplitl [V1]; · iexact V1
      isplitl [V2]; · iexact V2
      iexact V3
    isplitl [K4 K5 K6 K7 V4 V5 V6 V7]
    · isplitl [K4]; · iexact K4
      isplitl [K5]; · iexact K5
      isplitl [K6]; · iexact K6
      isplitl [K7]; · iexact K7
      isplitl [V4]; · iexact V4
      isplitl [V5]; · iexact V5
      isplitl [V6]; · iexact V6
      iexact V7
    isplitl [HO Tb Tb' Hor Hlr Hou2 Cb Ab]
    · isplitl [HO]; · iexists _; iexact HO
      isplitl [Tb]; · iexact Tb
      isplitl [Tb']; · iexact Tb'
      isplitl [Hor Hlr]
      · isplitl [Hor]; · iexact Hor
        iexact Hlr
      isplitl [Hou2]; · iexists fo; iexact Hou2
      isplitl [Cb]; · iexact Cb
      iexact Ab
    isplitl [Hq]; · iexact Hq
    isplitl [Hbt]; · iexact Hbt
    isplitl [Hln]; · iexact Hln
    isplitl [Hlw]; · iexact Hlw
    isplitl [Hoa]; · iexact Hoa
    isplitl [Hla]; · iexact Hla
    isplitl [T20 T28]
    · isplitl [T20]; · iexact T20
      iexact T28
    isplitl [T36]; · iexact T36
    isplitl [T38]; · iexact T38
    isplitl [A36]; · iexact A36
    isplitl [C38 A38]
    · isplitl [C38]; · iexact C38
      iexact A38
    isplitl [Hou1]; · iexists fo; iexact Hou1
    isplitl [T37]; · iexact T37
    isplitl [T39]; · iexact T39
    isplitl [A37]; · iexact A37
    isplitl [C39 A39]
    · isplitl [C39]; · iexact C39
      iexact A39
    isplitl [A20 A21 A22 A23 A24 A25 A26 A27]
    · isplitl [A20]; · iexact A20
      isplitl [A21]; · iexact A21
      isplitl [A22]; · iexact A22
      isplitl [A23]; · iexact A23
      isplitl [A24]; · iexact A24
      isplitl [A25]; · iexact A25
      isplitl [A26]; · iexact A26
      iexact A27
    isplitl [C28 A28]
    · isplitl [C28]; · iexact C28
      iexact A28
    isplitl [C29 A29]
    · isplitl [C29]; · iexact C29
      iexact A29
    isplitl [C30 A30]
    · isplitl [C30]; · iexact C30
      iexact A30
    isplitl [C31 A31]
    · isplitl [C31]; · iexact C31
      iexact A31
    isplitl [C32 A32]
    · isplitl [C32]; · iexact C32
      iexact A32
    isplitl [C33 A33]
    · isplitl [C33]; · iexact C33
      iexact A33
    isplitl [C34 A34]
    · isplitl [C34]; · iexact C34
      iexact A34
    isplitl [C35]; · iexact C35
    iexact A35
  isplitl [S0 S1 S2 S3]
  · isplitl [S0]; · iexact S0
    isplitl [S1]; · iexact S1
    isplitl [S2]; · iexact S2
    iexact S3
  isplitl [Ha0 Ha3 Ha4]
  · isplitl [Ha0]; · iexact Ha0
    isplitl [Ha3]; · iexact Ha3
    iexact Ha4
  iexists _; iexact Hv1

/-! ## The end -/

/-- What a device still holds at the end. -/
def keep (c : Dev nD) : sProp 𝕄 := iprop(((a0L c) ↦{fullShare} (m (a0L c))) ∗ ((kHbm c) ↦{fullShare} (kArg m c)) ∗ ((vHbm c) ↦{fullShare} (vArg m c)) ∗ ((a3L c) ↦{fullShare} (m (a3L c)))
    ∗ ((a4L c) ↦{fullShare} (m (a4L c))) ∗ ((v1L c) ↦{fullShare} (RES m c)))

theorem close_all (c : Dev nD) : iprop(records m K ∗ bigSep Finset.univ fun k : Fin 21 => atPos ER (kcell (c, k)) 1 ∅ 0)
    ⊢ (|={Set.univ}=> bigSep Finset.univ fun k : Fin 21 => semVal (kcell (c, k)) 0 : sProp 𝕄) := by
  refine (bigSep_with (R := records m K) (Ψ := fun k : Fin 21 => iprop(|={Set.univ}=> semVal (kcell (c, k)) 0)) fun k => ?_).trans (bigSep_fupd _ _)
  iintro ⟨HR, Hat⟩
  ihave HR := (records_at m K (c, k)) $$ HR
  icases HR with ⟨HI, -⟩
  iapply (Rounds.cell_close ER (sched m) (Set.mem_univ (K (c, k))) (fun h => h) (R := 1) (duties_later m (kcell (c, k))))
  isplitl [HI]; · iexact HI
  iexact Hat

theorem region_out (c : Dev nD) : iprop(records m K ∗ finR m c)
    ⊢ (|={Set.univ}=> (scopedSems0 (c : Thread nD τ) ∗ unscopedSems0 c ∗ scopedBufs (c : Thread nD τ) ∗ keep m c ∗ ∃ W, owes (c : Thread nD τ) 0 W) : sProp 𝕄) := by
  unfold finR fin' ST ARG chanIdle sums blocks at1 keep
  iintro ⟨HR, ⟨⟨K0, K1, K2, K3, V0, V1, V2, V3⟩, ⟨K4, K5, K6, K7, V4, V5, V6, V7⟩, HO, Hq, Hlw, ⟨Hoa, Hla, Hor, Hlr⟩, Hou, ⟨Hbt, Hln⟩, Ab,
    ⟨⟨A20, A21, A22, A23, A24, A25, A26, A27⟩, ⟨A28, A29, A30, A31, A32, A33, A34, A35⟩, A36, A37, A38⟩, A39⟩, ⟨S0, S1, S2, S3⟩, ⟨Ha0, Ha3, Ha4⟩, Hv1⟩
  ihave Hk := (k_chan_out m c) $$ [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  ihave Hv := (v_chan_out m c) $$ [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  icases Hk with ⟨⟨S4, S5, S6, S7, S8, S9, S10, S11⟩, Hkb, Hk⟩
  icases Hv with ⟨⟨S12, S13, S14, S15, S16, S17, S18, S19⟩, Hvb, Hv⟩
  imod (close_all m K c) $$ [HR Ab A20 A21 A22 A23 A24 A25 A26 A27 A28 A29 A30 A31 A32 A33 A34 A35 A36 A37 A38 A39] with HS
  · isplitl [HR]; · iexact HR
    rw [bigSep_fin21]
    isplitl [Ab]; · iexact Ab
    isplitl [A20]; · iexact A20
    isplitl [A21]; · iexact A21
    isplitl [A22]; · iexact A22
    isplitl [A23]; · iexact A23
    isplitl [A24]; · iexact A24
    isplitl [A25]; · iexact A25
    isplitl [A26]; · iexact A26
    isplitl [A27]; · iexact A27
    isplitl [A28]; · iexact A28
    isplitl [A29]; · iexact A29
    isplitl [A30]; · iexact A30
    isplitl [A31]; · iexact A31
    isplitl [A32]; · iexact A32
    isplitl [A33]; · iexact A33
    isplitl [A34]; · iexact A34
    isplitl [A35]; · iexact A35
    isplitl [A36]; · iexact A36
    isplitl [A37]; · iexact A37
    isplitl [A38]; · iexact A38
    iexact A39
  ihave HS := (sems_out c) $$ [HS S0 S1 S2 S3 S4 S5 S6 S7 S8 S9 S10 S11 S12 S13 S14 S15 S16 S17 S18 S19]
  · isplitl [HS]; · iexact HS
    unfold own20
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    iexact S19
  icases HS with ⟨HS, HU⟩
  imodintro
  isplitl [HS]; · iexact HS
  isplitl [HU]; · iexact HU
  isplitl [Hq Hbt Hln Hou Hlw Hoa Hla Hor Hlr Hkb Hvb]
  · rw [bufs_eq]
    isplitl [Hq]; · iexists _; iexact Hq
    isplitl [Hbt]; · iexists _; iexact Hbt
    isplitl [Hln]; · iexists _; iexact Hln
    isplitl [Hou]; · iexists _; iexact Hou
    isplitl [Hlw]; · iexists _; iexact Hlw
    isplitl [Hoa]; · iexists _; iexact Hoa
    isplitl [Hla]; · iexists _; iexact Hla
    isplitl [Hor]; · iexists _; iexact Hor
    isplitl [Hlr]; · iexists _; iexact Hlr
    isplitl [Hkb]; · iexact Hkb
    iexact Hvb
  isplitr [HO]
  · isplitl [Ha0]; · iexact Ha0
    isplitl [Hk]; · iexact Hk
    isplitl [Hv]; · iexact Hv
    isplitl [Ha3]; · iexact Ha3
    isplitl [Ha4]; · iexact Ha4
    iexact Hv1
  iexact HO

end Cert.Paged
-- ==== Proof.Run.lean ====
/-
  The run: every fair execution ends, with the arguments as they were, the result in place on each device and the semaphores at zero.
-/
module

public import proofs.«01_k».proof.Proof.Hold
public import Idealize.ShloMosaic.Lib.Pipeline.CollectiveSegs
public import Idealize.ShloMosaic.Lib.Pipeline.Quiescent

@[expose] public section

set_option maxRecDepth 16384

noncomputable section

namespace Cert.Paged

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx (ix2 ix3 ix4 eq_ix2 eq_ix3 eq_ix4)

variable {F : FTy → Type} [FloatOps F] [Named F]

local notation "𝕄" => MT nD τ sig Unit (Elt F) ℕ UU ℕ

variable (m : (ℓ : Loc nD τ sig) → Buf (Elt F) ℓ)

variable (K : Dev nD × Fin 21 → ℕ)

/-- The region of the configuration is the call of its loop. -/
theorem runAt_eq (a : PA F) :
    (cfg0.runAt (P := Fin 1) (A := fun p => (pcfgs (F := F) p).Adm) 0 a : ProgM F) = Prog.op (.call (Pipeline.pipe (0 : Fin 1)) (a, (0 : ℕ))) fun _ => Prog.ret ⟨⟩ := by
  unfold Pipeline.Cfg.runAt
  rw [if_neg (by decide +kernel), dif_neg (by decide +kernel)]

/-- The pipeline's region: an assumption that always holds, and the loop. -/
theorem prun_eq :
    (Pipeline.prun (pcfgs (F := F)) 0 : ProgM F) = Prog.op (.assume True instDecidableTrue) fun _ => Prog.op (.call (Pipeline.pipe (0 : Fin 1)) ((cfg0.toPCfg_adm : PA F), (0 : ℕ))) fun _ => Prog.ret ⟨⟩ := by
  rw [← runAt_eq]
  rfl

/-- The loop called at point `ℓ`, run to its end. -/
theorem core_loop (a : PA F) (c : Dev nD) (n ℓ : ℕ) (h : ℓ + n = 9) (Q : PUnit.{1} → sProp 𝕄) :
    iprop((records m K ∗ levAts L lv) ∗ LI m c ℓ ∗ (finR m c -∗ |={Set.univ}=> Q ⟨⟩))
      ⊢ wp frame (wpE (defs (F := F)) 𝕍₀ (c : Thread nD τ) (some (Sum.inr (n + 1)))) Set.univ (Prog.op (.call (Pipeline.pipe (0 : Fin 1)) (a, ℓ)) fun _ => Prog.ret ⟨⟩ : ProgM F) Q := by
  iintro ⟨#HR, Hi, Hk⟩
  iapply (wp_call 𝕍₀ (c : Thread nD τ) (some (Sum.inr (n + 1))) Set.univ (ℓ := Pipeline.pipe (0 : Fin 1)) (a := (a, ℓ)) (k := fun _ => Prog.ret ⟨⟩) (Q := Q) (Sum.inr n)
      (fun v hv => by cases hv; exact Sum.Lex.inr (by omega)))
  iapply (show wp frame (wpE (defs (F := F)) 𝕍₀ (c : Thread nD τ) (some (Sum.inr n))) Set.univ (cfg0.iter (P := Fin 1) (A := fun p => (pcfgs (F := F) p).Adm) 0 a ℓ)
        (fun x => wp frame (wpE (defs (F := F)) 𝕍₀ (c : Thread nD τ) (some (Sum.inr (n + 1)))) Set.univ (Prog.ret ⟨⟩) Q) ⊢ _ from .rfl)
  iapply (wp_loop m K a c n ℓ h _)
  isplitr; · iexact HR
  isplitl [Hi]; · iexact Hi
  iintro Hf
  rw [wp_ret]
  iapply Hk
  iexact Hf

/-- The region as `@main` enters it: the loop of nine points from its start. -/
theorem core_region (c : Dev nD) (Q : PUnit.{1} → sProp 𝕄) :
    iprop((records m K ∗ levAts L lv) ∗ preR m c ∗ (finR m c -∗ |={Set.univ}=> Q ⟨⟩))
      ⊢ wp frame (wpE (defs (F := F)) 𝕍₀ (c : Thread nD τ) (some (Sum.inr 10))) Set.univ (Pipeline.prun (pcfgs (F := F)) 0) Q := by
  rw [prun_eq]
  generalize (cfg0.toPCfg_adm : PA F) = a
  iintro ⟨#HR, Hi, Hk⟩
  iapply (wp_assume 𝕍₀ (c : Thread nD τ) (some (Sum.inr 10)) Set.univ trivial)
  iapply (core_loop m K a c 9 0 rfl Q)
  isplitr; · iexact HR
  isplitl [Hi]
  · unfold LI
    rw [if_pos (by omega)]
    iexact Hi
  iexact Hk

/-- What a core ends with. -/
def fin (c : Dev nD) : sProp 𝕄 :=
  iprop((scopedSems0 (c : Thread nD τ) ∗ unscopedSems0 c) ∗ keep m c)

/-- `@main` is the region's call. -/
theorem main_eq (c : Dev nD) : (main (F := F) c : ProgM F) = Prog.op (.customCall (Pipeline.entry (0 : Fin 1)) ()) fun _ => Prog.ret ⟨⟩ := rfl

/-- What the call's continuation asks for. -/
def exitQ (c : Dev nD) : PUnit.{1} → sProp 𝕄 := fun _ =>
  kernelExitSpec (c : Thread nD τ) fun _ => wp frame (wpE (defs (F := F)) 𝕍₀ (c : Thread nD τ) none) Set.univ (Prog.ret ⟨⟩ : ProgM F) (fun _ => post (liftTc (fin m) BI.emp) (c : Thread nD τ))

/-- The call of the region. -/
theorem core_call (c : Dev nD) :
    (scopedBufs (c : Thread nD τ) : sProp 𝕄) ⊢ iprop((scopedBufs (c : Thread nD τ) -∗ wp frame (wpE (defs (F := F)) 𝕍₀ (c : Thread nD τ) (some (Sum.inr 10))) Set.univ (Pipeline.prun (pcfgs (F := F)) 0) (exitQ m c))
      -∗ wp frame (wpE (defs (F := F)) 𝕍₀ (c : Thread nD τ) none) Set.univ (main c) (fun _ => post (liftTc (fin m) BI.emp) (c : Thread nD τ))) := by
  rw [main_eq]
  exact wp_customCall 𝕍₀ (c : Thread nD τ) none Set.univ (ℓ := Pipeline.entry (0 : Fin 1)) (a := ()) (k := fun _ => (Prog.ret ⟨⟩ : ProgM F)) (Q := fun _ => post (liftTc (fin m) BI.emp) (c : Thread nD τ)) (Sum.inr 10) (fun u h => nomatch h)

theorem exit_ok (c : Dev nD) :
    iprop(records m K ∗ finR m c) ⊢ (|={Set.univ}=> exitQ m c ⟨⟩ : sProp 𝕄) := by
  unfold exitQ
  iintro H
  imod (region_out m K c) $$ H with ⟨Hs, Hu, Hb, Hkp, HW⟩
  imodintro
  rw [kernelExitSpec_apply]
  isplitl [Hs]; · iexact Hs
  iintro Hs
  isplitl [Hb]; · iexact Hb
  iintro -
  rw [wp_ret]
  imodintro
  unfold post; simp only [liftTc_tc]
  isplitr [HW]
  · unfold fin
    isplitl [Hs Hu]
    · isplitl [Hs]; · iexact Hs
      iexact Hu
    iexact Hkp
  iexact HW

/-- A core's run of `@main`. -/
theorem core_run (c : Dev nD) :
    startP m K c ⊢ wp frame (wpE (defs (F := F)) 𝕍₀ (c : Thread nD τ) none) Set.univ (main c) (fun _ => post (liftTc (fin m) BI.emp) (c : Thread nD τ)) := by
  unfold startP startR
  iintro ⟨#HR, Hb, Hrest⟩
  iapply (core_call m c) $$ Hb
  iintro Hb
  iapply (core_region m K c (exitQ m c))
  isplitr; · iexact HR
  isplitl [Hb Hrest]
  · iapply (region_in m c)
    unfold startR
    isplitl [Hb]; · iexact Hb
    iexact Hrest
  iintro Hf
  icases HR with ⟨#HR1, -⟩
  iapply (exit_ok m K c)
  isplitr; · iexact HR1
  iexact Hf

/-- One whole buffer read at a final state. -/
theorem read_one (ℓ : Loc nD τ sig) (v : Buf (Elt F) ℓ) (s' : Phys nD τ sig (Elt F)) :
    iprop((ℓ ↦{fullShare} v) ∗ SI s') ⊢ (iprop(⌜s'.mem.mem ℓ = v⌝ ∗ SI s') : sProp 𝕄) := by
  iintro ⟨H, HSI⟩
  ihave Hr := (pointsTo_read_all ({0} : Finset (Fin 1)) (fun _ => ℓ) (fun _ => v) s' fullShare) $$ [H HSI]
  · isplitl [H]
    · rw [bigSep_singleton]; iexact H
    iexact HSI
  icases Hr with ⟨%h, HSI⟩
  isplitr
  · ipureintro; exact h 0 (Finset.mem_singleton_self _)
  iexact HSI

/-- What a final state shows of device `c`. -/
def Ends (c : Dev nD) (g : (ℓ : Loc nD τ sig) → Buf (Elt F) ℓ) : Prop :=
  g (a0L c) = m (a0L c) ∧ g (kHbm c) = m (kHbm c) ∧ g (vHbm c) = m (vHbm c) ∧ g (a3L c) = m (a3L c) ∧ g (a4L c) = m (a4L c) ∧ g (v1L c) = RES m c

theorem keep_read (c : Dev nD) (s' : Phys nD τ sig (Elt F)) :
    iprop(keep m c ∗ SI s') ⊢ (iprop(⌜Ends m c s'.mem.mem⌝ ∗ SI s') : sProp 𝕄) := by
  unfold keep
  iintro ⟨⟨H0, H1, H2, H3, H4, H5⟩, HSI⟩
  ihave Hr := (read_one (a0L c) _ s') $$ [H0 HSI]
  · isplitl [H0]; · iexact H0
    iexact HSI
  icases Hr with ⟨%h0, HSI⟩
  ihave Hr := (read_one (kHbm c) _ s') $$ [H1 HSI]
  · isplitl [H1]; · iexact H1
    iexact HSI
  icases Hr with ⟨%h1, HSI⟩
  ihave Hr := (read_one (vHbm c) _ s') $$ [H2 HSI]
  · isplitl [H2]; · iexact H2
    iexact HSI
  icases Hr with ⟨%h2, HSI⟩
  ihave Hr := (read_one (a3L c) _ s') $$ [H3 HSI]
  · isplitl [H3]; · iexact H3
    iexact HSI
  icases Hr with ⟨%h3, HSI⟩
  ihave Hr := (read_one (a4L c) _ s') $$ [H4 HSI]
  · isplitl [H4]; · iexact H4
    iexact HSI
  icases Hr with ⟨%h4, HSI⟩
  ihave Hr := (read_one (v1L c) _ s') $$ [H5 HSI]
  · isplitl [H5]; · iexact H5
    iexact HSI
  icases Hr with ⟨%h5, HSI⟩
  isplitr
  · ipureintro; exact ⟨h0, h1, h2, h3, h4, h5⟩
  iexact HSI

/-- Every semaphore of a core reads zero at a final state. -/
theorem sems_read (c : Dev nD) (s' : Phys nD τ sig (Elt F)) :
    iprop((scopedSems0 (c : Thread nD τ) ∗ unscopedSems0 c) ∗ SI s') ⊢ (<pers> ⌜∀ sm, s'.mem.sem ((c : Thread nD τ), sm) = 0⌝ : sProp 𝕄) :=
  (tcSems_read c s').trans Laws.persistently_pure.2

theorem core_read (c : Dev nD) (s' : Phys nD τ sig (Elt F)) :
    iprop(fin m c ∗ SI s') ⊢ (|={Set.univ}=> iprop(⌜Ends m c s'.mem.mem ∧ ∀ sm, s'.mem.sem ((c : Thread nD τ), sm) = 0⌝ ∗ SI s') : sProp 𝕄) := by
  unfold fin
  iintro ⟨⟨Hs, Hk⟩, HSI⟩
  ihave %hz := (sems_read c s') $$ [Hs HSI]
  · isplitl [Hs] <;> iassumption
  ihave Hr := (keep_read m c s') $$ [Hk HSI]
  · isplitl [Hk] <;> iassumption
  icases Hr with ⟨%h, HSI⟩
  imodintro
  isplitr
  · ipureintro; exact ⟨h, hz⟩
  iexact HSI

/-- Every fair execution of the program ends, each device's arguments as they were and its result in place, with every
    semaphore at zero. -/
theorem run_main (g) :
    Idealize.ShloMosaic.θ_run (defs (F := F)) (onTc main) ⟨m, fun _ => 0, g⟩
      (fun r => (∀ c, Ends m c r.2.mem) ∧ r.2.sem = fun _ => 0) := by
  classical
  refine (θ_run (defs (F := F)) _ _).mono
    (Q := fun r => (∀ c, Ends m c r.2.mem ∧ ∀ sm, r.2.sem ((c : Thread nD τ), sm) = 0) ∧ ∀ g' : GSem nD τ sig, g'.1.2 ≠ .tc → r.2.sem g' = 0) (fun r hr => ?_)
    (adequate_tpu (defs (F := F)) _ _ _ (reflect_intro_fupd_tc_sems (X := Dev nD × Fin 21 → ℕ) 𝕍₀ (Pipeline.owing O₀) 0 (noBookings fun _ => le_rfl)
      (Pipeline.owing_of_ne O₀) u₀ (startP m) (fun _ => fin m) (fun _ => iprop(emp)) Set.univ ?_ (fun K c => ?_) fun _ => ?_))
  · refine ⟨fun c => (hr.1 c).1, funext fun ⟨⟨c, pr⟩, sm⟩ => ?_⟩
    by_cases h : pr = .tc
    · subst h; exact (hr.1 c).2 sm
    · exact hr.2 _ h
  · exact start_all m g
  · exact core_run m K c
  · iintro ⟨H, -, Hsc⟩ %s' HSI
    ihave %hsc := (scSems_read_zero m g s') $$ [Hsc HSI]
    · isplitl [Hsc] <;> iassumption
    imod (posts_fupd Finset.univ (core_read m) s') $$ [H HSI] with %h
    · isplitl [H] <;> iassumption
    imodintro
    ipureintro
    exact ⟨fun c => h c (Finset.mem_univ c), hsc⟩

end Cert.Paged
-- ==== Proof.Twin.lean ====
/-
  The kernel as printed, on bit patterns: it is the idealized program read with its one named constant at the bits the
  constant was printed from, so its run is that program's run.
-/
module

public import proofs.«01_k».proof.Proof.Run
public import proofs.«01_k».proof.Kernel
public import proofs.«01_k».proof.Proof.Gen.Kernel
public import Idealize.ShloMosaic.PureOps.BitExact

@[expose] public section

noncomputable section

namespace Cert.Paged

open Idealize.ShloMosaic Idealize.ShloMosaic.TcCoe Idealize.SL.Sem

/-- On bit patterns a named constant is the constant it was printed from. -/
local instance namedBits : Named Bits where
  named _ _ φ bits := FloatOps.ofBits φ bits

theorem body_bits : (Cert.Kernel.cc0_body (F := Bits)) = Cert.KernelIdeal.cc0_body (F := Bits) := rfl

theorem defs₀_bits : (Cert.Kernel.defs₀ (F := Bits)) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl

theorem defs_bits : (Cert.Kernel.defs (F := Bits)) = Cert.KernelIdeal.defs (F := Bits) :=
  congrArg (Pipeline.defs (Cert.Kernel.pcfgs (F := Bits))) defs₀_bits

theorem main_bits : (Cert.Kernel.main (F := Bits)) = Cert.KernelIdeal.main (F := Bits) := rfl

/-- The kernel's run on bit patterns. -/
theorem run_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => (∀ c, Ends (F := Bits) m c r.2.mem) ∧ r.2.sem = fun _ => 0) :=
  by
  rw [defs_bits]
  exact run_main (F := Bits) m g

end Cert.Paged

end
-- ==== Proof.Soft.lean ====
/-
  Softmax over the slots of a page table, against sums over the pages weighted by how often a page occurs.
-/
module

public import Idealize.ShloMosaic.PureOps.Ideal

@[expose] public section

noncomputable section

namespace Cert.Paged

open Finset

variable {ι J π : Type} [Fintype ι] [Fintype J] [Fintype π] [DecidableEq π] (ok : ι → Prop) [DecidablePred ok] (pg : ι → π)

/-- How many of the slots in use hold page `p`. -/
def cnt (p : π) : ℕ := (univ.filter fun s => ok s ∧ pg s = p).card

/-- A sum over the slots in use is a sum over the pages, each as often as it occurs. -/
theorem sum_slots {M : Type} [AddCommMonoid M] (g : π → M) : (∑ p, cnt ok pg p • g p) = ∑ s, if ok s then g (pg s) else 0 := by
  rw [← Finset.sum_filter, ← Finset.sum_fiberwise (univ.filter ok) pg fun s => g (pg s)]
  refine Finset.sum_congr rfl fun p _ => ?_
  rw [Finset.sum_congr rfl (g := fun _ => g p) (fun s hs => by rw [(Finset.mem_filter.1 hs).2]), Finset.sum_const, Finset.filter_filter]
  rfl

/-- A number of copies of a weight, times a value, is that number of copies of the product. -/
theorem copies_mul (n : ℕ) (r : ℝ) (hr : 0 ≤ r) (x : EReal) : (((n : ℝ) * r : ℝ) : EReal) * x = n • ((r : EReal) * x) := by
  induction n with
  | zero => simp
  | succ n ih =>
    have e : (((n + 1 : ℕ) : ℝ) * r) = (n : ℝ) * r + r := by push_cast; ring
    rw [e, EReal.coe_add, EReal.right_distrib_of_nonneg (EReal.coe_nonneg.2 (mul_nonneg (Nat.cast_nonneg n) hr)) (EReal.coe_nonneg.2 hr), ih, succ_nsmul]

/-- A real that is not negative goes into a sum. -/
theorem sum_mul_real {κ : Type} (s : Finset κ) (f : κ → EReal) (r : ℝ) (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, mul_comm, EReal.left_distrib_of_nonneg_of_ne_top (EReal.coe_nonneg.2 hr) (EReal.coe_ne_top r),
      mul_comm (r : EReal) (f a), mul_comm (r : EReal), ih]

variable (sc : π → J → ℝ) (v : π → J → EReal)

/-- The sum of the pages' weights. -/
def tot : ℝ := ∑ p, ∑ j, (cnt ok pg p : ℝ) * Real.exp (sc p j)
/-- The weight of a slot's key relative to `M`. -/
def wgt (M : ℝ) (s : ι) (j : J) : ℝ := if ok s then Real.exp (sc (pg s) j - M) else 0

theorem tot_nonneg : 0 ≤ tot ok pg sc :=
  Finset.sum_nonneg fun _ _ => Finset.sum_nonneg fun _ _ => mul_nonneg (Nat.cast_nonneg _) (Real.exp_pos _).le

theorem tot_pos [Nonempty J] (h : ∃ s, ok s) : 0 < tot ok pg sc := by
  obtain ⟨s, hs⟩ := h
  refine Finset.sum_pos' (fun _ _ => Finset.sum_nonneg fun _ _ => mul_nonneg (Nat.cast_nonneg _) (Real.exp_pos _).le) ⟨pg s, mem_univ _, ?_⟩
  refine Finset.sum_pos (fun j _ => mul_pos (Nat.cast_pos.2 (Finset.card_pos.2 ⟨s, ?_⟩)) (Real.exp_pos _)) Finset.univ_nonempty
  simp [hs]

/-- The slots' weights relative to `M` sum to the pages' weights, scaled. -/
theorem sum_wgt (M : ℝ) : (∑ s, ∑ j, wgt ok pg sc M s j) = tot ok pg sc * Real.exp (-M) := by
  have e : ∀ p, (∑ j, (cnt ok pg p : ℝ) * Real.exp (sc p j)) = cnt ok pg p • ∑ j, Real.exp (sc p j) := fun p => by
    rw [← Finset.mul_sum, nsmul_eq_mul]
  unfold tot
  rw [Finset.sum_congr rfl fun p _ => e p, sum_slots, Finset.sum_mul]
  refine Finset.sum_congr rfl fun s _ => ?_
  unfold wgt
  split
  · rw [Finset.sum_mul]
    refine Finset.sum_congr rfl fun j _ => ?_
    rw [sub_eq_add_neg, Real.exp_add]
  · simp

/-- The weighted sum over the pages, divided by the sum of the weights, is the softmax over the slots. -/
theorem soft (M : ℝ) :
    (∑ p, ∑ j, (((cnt ok pg p : ℝ) * Real.exp (sc p j) : ℝ) : EReal) * v p j) * ((1 / tot ok pg sc : ℝ) : EReal)
      = ∑ s, ∑ j, ((wgt ok pg sc M s j / (∑ s, ∑ j, wgt ok pg sc M s j) : ℝ) : EReal) * v (pg s) j := by
  have hL : 0 ≤ 1 / tot ok pg sc := div_nonneg zero_le_one (tot_nonneg ok pg sc)
  rw [sum_mul_real _ _ _ hL]
  have e : ∀ p, (∑ j, (((cnt ok pg p : ℝ) * Real.exp (sc p j) : ℝ) : EReal) * v p j) * ((1 / tot ok pg sc : ℝ) : EReal)
      = cnt ok pg p • ∑ j, ((Real.exp (sc p j) / tot ok pg sc : ℝ) : EReal) * v p j := fun p => by
    rw [sum_mul_real _ _ _ hL, Finset.smul_sum]
    refine Finset.sum_congr rfl fun j _ => ?_
    rw [← copies_mul _ _ (div_nonneg (Real.exp_pos _).le (tot_nonneg ok pg sc)), mul_right_comm, ← EReal.coe_mul]
    congr 2
    ring
  rw [Finset.sum_congr rfl fun p _ => e p, sum_slots, sum_wgt]
  refine Finset.sum_congr rfl fun s _ => ?_
  by_cases h : ok s
  · rw [if_pos h]
    refine Finset.sum_congr rfl fun j _ => ?_
    congr 2
    unfold wgt
    rw [if_pos h, sub_eq_add_neg, Real.exp_add, mul_div_mul_right _ _ (Real.exp_pos _).ne']
  · rw [if_neg h]
    refine (Finset.sum_eq_zero fun j _ => ?_).symm
    unfold wgt
    rw [if_neg h, zero_div, EReal.coe_zero, zero_mul]

/-- A sum of reals, read among the extended reals. -/
theorem coe_sum1 {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem coe_sum2 {κ : Type} [Fintype κ] (f : κ → J → ℝ) : ((∑ k, ∑ j, f k j : ℝ) : EReal) = ∑ k, ∑ j, (f k j : EReal) := by
  rw [coe_sum1]
  exact Finset.sum_congr rfl fun k _ => coe_sum1 _ _

end Cert.Paged

end
-- ==== Proof.Att.lean ====
/-
  What the program computes, as one formula of the arguments: attention over a page table's slots, the pages weighted by
  how often they occur.
-/
module

public import proofs.«01_k».proof.Proof.Soft
public import Idealize.ShloMosaic.PureOps
public import Idealize.ShloMosaic.Lib.Pointwise

@[expose] public section

noncomputable section

namespace Cert.Paged

open Idealize.ShloMosaic Finset

/-- Slot `s` of row `b` lies within the row's length. -/
def used (ln : (⟨2, ![32, 1]⟩ : Shape).Idx → BitVec 32) (b : Fin 32) (s : Fin 256) : Prop :=
  IntOp.cmpi .slt (BitVec.ofNat 32 s.val) (ln (ix2 b (0 : Fin 1))) = 1#1

instance (ln : (⟨2, ![32, 1]⟩ : Shape).Idx → BitVec 32) (b : Fin 32) : DecidablePred (used ln b) := fun _ => by unfold used; infer_instance

/-- The page of slot `s` of row `b`, brought into range. -/
def page (bt : (⟨2, ![32, 256]⟩ : Shape).Idx → BitVec 32) (b : Fin 32) (s : Fin 256) : Fin 512 :=
  ⟨min (bt (ix2 b s)).toInt.toNat 511, by omega⟩

/-- The factor of the products. -/
def scl : ℝ := (Ideal.ofBits .f32 0x3DB504F3#32).toReal

theorem scl_eq : Ideal.ofBits .f32 0x3DB504F3#32 = (scl : EReal) := by
  have h : ∃ r : ℝ, Ideal.ofBits .f32 0x3DB504F3#32 = (r : EReal) := by
    simp only [Ideal.ofBits, Ideal.ieee]
    norm_num
    exact ⟨_, rfl⟩
  obtain ⟨r, hr⟩ := h
  unfold scl
  rw [hr, EReal.toReal_coe]

theorem minus_inf : Ideal.ofBits .f32 0xFF800000#32 = (⊥ : EReal) := by
  simp [Ideal.ofBits, Ideal.ieee]

theorem plus_inf : Ideal.ofBits .f32 0x7F800000#32 = (⊤ : EReal) := by
  simp [Ideal.ofBits, Ideal.ieee]

/-- The kernel's lower bound on a logarithm's argument is at most one. -/
theorem tiny_le : Ideal.ofBits .f32 0x02081CEA#32 ≤ ((1 : ℝ) : EReal) := by
  simp only [Ideal.ofBits, Ideal.ieee]
  rw [if_neg (by decide), if_neg (by decide), if_neg (by decide)]
  refine EReal.coe_le_coe_iff.2 ?_
  have e : (BitVec.extractLsb' 23 8 34086122#32).toNat = 4 := by decide
  rw [e]
  norm_num

variable (Qr : (⟨4, ![32, 1, 16, 128]⟩ : Shape).Idx → ℝ) (Kr : (⟨4, ![512, 32, 16, 128]⟩ : Shape).Idx → ℝ)
  (Vg : (⟨4, ![512, 32, 16, 128]⟩ : Shape).Idx → EReal) (bt : (⟨2, ![32, 256]⟩ : Shape).Idx → BitVec 32)
  (ln : (⟨2, ![32, 1]⟩ : Shape).Idx → BitVec 32)

/-- The score of row `b`'s query of head `h` at key `j` of page `p`. -/
def score (b : Fin 32) (h : Fin 16) (p : Fin 512) (j : Fin 32) : ℝ :=
  (∑ d : Fin 128, Qr (ix4 b (0 : Fin 1) h d) * Kr (ix4 p j h d)) * scl

/-- The result at row `b`, head `h` and coordinate `d`. -/
def ATT (b : Fin 32) (h : Fin 16) (d : Fin 128) : EReal :=
  (∑ p, ∑ j, (((cnt (used ln b) (page bt b) p : ℝ) * Real.exp (score Qr Kr b h p j) : ℝ) : EReal) * Vg (ix4 p j h d))
    * ((1 / tot (used ln b) (page bt b) (score Qr Kr b h) : ℝ) : EReal)

end Cert.Paged

end
-- ==== Proof.KVal.lean ====
/-
  What the kernel computes, read at an index.
-/
module

public import proofs.«01_k».proof.Proof.Att
public import proofs.«01_k».proof.Proof.Proto

@[expose] public section

noncomputable section

namespace Cert.Paged

open Cert.KernelIdeal Cert.KernelIdeal.Gen
open Idealize.ShloMosaic Idealize.ShloMosaic.TcCoe Finset

/-! ## Words -/

theorem eq_word (a b : BitVec 32) : IntOp.cmpi .eq a b = if a = b then 1#1 else 0#1 := by
  unfold IntOp.cmpi
  by_cases h : a = b
  · subst h; simp
  · rw [if_neg h]
    show BitVec.ofBool (a == b) = 0#1
    rw [beq_eq_false_iff_ne.2 h]
    rfl

theorem and_bit (b c : BitVec 1) : IntOp.andi b c = if b = 1#1 ∧ c = 1#1 then 1#1 else 0#1 := by
  revert b c; decide

theorem real_bit (p : Prop) [Decidable p] :
    (FloatOps.sitofp (F := Ideal) .f32 (BitVec.setWidth 32 (if p then 1#1 else 0#1)) : EReal) = if p then 1 else 0 := by
  split
  · show (((BitVec.setWidth 32 1#1).toInt : ℝ) : EReal) = 1
    have e : (BitVec.setWidth 32 1#1).toInt = 1 := by decide
    rw [e]; simp
  · show (((BitVec.setWidth 32 0#1).toInt : ℝ) : EReal) = 0
    have e : (BitVec.setWidth 32 0#1).toInt = 0 := by decide
    rw [e]; simp

theorem ofNat_inj (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

theorem base_word : ∀ c : Dev nD, Scalar.muli (Scalar.remsi (Scalar.divsi c.word 2#32) 2#32) 256#32 = BitVec.ofNat 32 (256 * (c.val / 2)) := by
  decide

theorem page_word : ∀ x : Fin 8192, (Scalar.select
      (IntOp.andi
        (IntOp.cmpi .ne
          (IntOp.subi (BitVec.setWidth 32 (IntOp.cmpi .sgt (BitVec.ofNat 32 x.val) 0#32))
            (BitVec.setWidth 32 (IntOp.cmpi .slt (BitVec.ofNat 32 x.val) 0#32)))
          (Scalar.subi (Scalar.extui (Scalar.cmpi .sgt 32#32 0#32))
            (Scalar.extui (Scalar.cmpi .slt 32#32 0#32))))
        (IntOp.cmpi .ne (IntOp.remsi ArithUnit.vector (BitVec.ofNat 32 x.val) 32#32) 0#32))
      (IntOp.subi (IntOp.divsi ArithUnit.vector (BitVec.ofNat 32 x.val) 32#32) 1#32)
      (IntOp.divsi ArithUnit.vector (BitVec.ofNat 32 x.val) 32#32) : BitVec 32) = BitVec.ofNat 32 (x.val / 32) := by
  decide +kernel

theorem mask_eq : (Named.named κ "mask" 3463342888#32 : Ideal .f32) = (⊥ : EReal) := rfl

/-! ## Sums -/

/-- A sum over the keys of a device is one over its pages and their keys. -/
theorem sum_keys (f : Fin 256 → Fin 32 → EReal) :
    (∑ x : Fin 8192, f ⟨x.val / 32, by omega⟩ ⟨x.val % 32, by omega⟩) = ∑ p, ∑ j, f p j := by
  rw [← Fintype.sum_prod_type']
  exact Fintype.sum_equiv (finProdFinEquiv (m := 256) (n := 32)).symm _ _ fun x => rfl

/-- The page `p` of device `c`. -/
def pgOf (c : Dev nD) (p : Fin 256) : Fin 512 := ⟨256 * (c.val / 2) + p.val, by have h : c.val < 4 := c.isLt; omega⟩

/-- The pages are those of a device and those of its peer along the first axis. -/
theorem sum_pages (c : Dev nD) (g : Fin 512 → EReal) : (∑ p, g (pgOf c p)) + ∑ p, g (pgOf (peerX c) p) = ∑ p, g p := by
  have e : ∑ p, g p = (∑ p : Fin 256, g ⟨p.val, by omega⟩) + ∑ p : Fin 256, g ⟨256 + p.val, by omega⟩ := Fin.sum_univ_add (a := 256) (b := 256) g
  rw [e]
  have hv : (peerX c).val = (c.val + 2) % 4 := rfl
  have h4 : c.val < 4 := c.isLt
  by_cases h : c.val / 2 = 0
  · congr 1 <;> refine sum_congr rfl fun p _ => congrArg g (Fin.ext ?_) <;> simp only [pgOf] <;> omega
  · rw [add_comm]
    congr 1 <;> refine sum_congr rfl fun p _ => congrArg g (Fin.ext ?_) <;> simp only [pgOf] <;> omega

/-! ## The kernel's values -/

variable (m : (ℓ : Loc nD τ sig) → Buf (Elt Ideal) ℓ)
variable (Qr : (⟨4, ![32, 1, 16, 128]⟩ : Shape).Idx → ℝ) (Kr : (⟨4, ![512, 32, 16, 128]⟩ : Shape).Idx → ℝ)
  (Vg : (⟨4, ![512, 32, 16, 128]⟩ : Shape).Idx → EReal) (bt : (⟨2, ![32, 256]⟩ : Shape).Idx → BitVec 32)
  (ln : (⟨2, ![32, 1]⟩ : Shape).Idx → BitVec 32)

/-- The devices hold these arguments: the first two real, each used slot's page in range, each row with a slot in use. -/
structure Holds : Prop where
  q : ∀ c i, qC m c i = (Qr i : EReal)
  k : ∀ c (p : Fin 256) (j : Fin 32) (h : Fin 16) (d : Fin 128), kArg m c (ix4 p j h d) = (Kr (ix4 (pgOf c p) j h d) : EReal)
  v : ∀ c (p : Fin 256) (j : Fin 32) (h : Fin 16) (d : Fin 128), vArg m c (ix4 p j h d) = Vg (ix4 (pgOf c p) j h d)
  tab : ∀ c, btC m c = bt
  len : ∀ c, lnC m c = ln
  there : ∀ b s, used ln b s → bt (ix2 b s) = BitVec.ofNat 32 (page bt b s).val
  some : ∀ b, ∃ s, used ln b s

variable {m Qr Kr Vg bt ln}

/-- How often a device's page is named, counted in reals. -/
theorem count_eq (H : Holds m Qr Kr Vg bt ln) (c : Dev nD) (b : Fin 32) (p : Fin 256) :
    (∑ s : Fin 256, (FloatOps.sitofp (F := Ideal) .f32 (BitVec.setWidth 32 (IntOp.andi
      (IntOp.cmpi .eq (bt (ix2 b s)) (IntOp.addi (BitVec.ofNat 32 p.val) (Scalar.muli (Scalar.remsi (Scalar.divsi c.word 2#32) 2#32) 256#32)))
      (IntOp.cmpi .slt (BitVec.ofNat 32 s.val) (ln (ix2 b (0 : Fin 1)))))) : EReal)) = ((cnt (used ln b) (page bt b) (pgOf c p) : ℝ) : EReal) := by
  have e : ∀ s : Fin 256, (FloatOps.sitofp (F := Ideal) .f32 (BitVec.setWidth 32 (IntOp.andi
      (IntOp.cmpi .eq (bt (ix2 b s)) (IntOp.addi (BitVec.ofNat 32 p.val) (Scalar.muli (Scalar.remsi (Scalar.divsi c.word 2#32) 2#32) 256#32)))
      (IntOp.cmpi .slt (BitVec.ofNat 32 s.val) (ln (ix2 b (0 : Fin 1)))))) : EReal) = (((if used ln b s ∧ page bt b s = pgOf c p then 1 else 0 : ℝ)) : EReal) := by
    intro s
    rw [and_bit, real_bit, base_word]
    have hc : (IntOp.cmpi .eq (bt (ix2 b s)) (IntOp.addi (BitVec.ofNat 32 p.val) (BitVec.ofNat 32 (256 * (c.val / 2)))) = 1#1
        ∧ IntOp.cmpi .slt (BitVec.ofNat 32 s.val) (ln (ix2 b (0 : Fin 1))) = 1#1) ↔ (used ln b s ∧ page bt b s = pgOf c p) := by
      rw [and_comm]
      refine and_congr_right fun hu => ?_
      have h4 : c.val < 4 := c.isLt
      have hp := p.isLt
      have hg := (page bt b s).isLt
      rw [H.there b s hu, eq_word]
      have ha : IntOp.addi (BitVec.ofNat 32 p.val) (BitVec.ofNat 32 (256 * (c.val / 2))) = BitVec.ofNat 32 (p.val + 256 * (c.val / 2)) := by
        unfold IntOp.addi
        rw [BitVec.ofNat_add]
      rw [ha]
      have hi := ofNat_inj (page bt b s).val (p.val + 256 * (c.val / 2)) (by omega) (by omega)
      have hj : page bt b s = pgOf c p ↔ (page bt b s).val = p.val + 256 * (c.val / 2) := by
        rw [Fin.ext_iff]
        simp only [pgOf]
        omega
      rw [hj, ← hi]
      split
      · simp_all
      · simp_all
    by_cases h : used ln b s ∧ page bt b s = pgOf c p
    · rw [if_pos h, if_pos (hc.2 h)]; rfl
    · rw [if_neg h, if_neg fun h' => h (hc.1 h')]; rfl
  rw [sum_congr rfl fun s _ => e s, ← coe_sum1]
  unfold cnt
  rw [Finset.sum_boole]

/-- The weight of a key, in logarithms. -/
theorem LW_at (H : Holds m Qr Kr Vg bt ln) (c : Dev nD) (b : Fin 32) (x : Fin 8192) : LW m c (ix2 b x)
    = if cnt (used ln b) (page bt b) (pgOf c ⟨x.val / 32, by omega⟩) = 0 then (⊥ : EReal)
      else (Real.log (cnt (used ln b) (page bt b) (pgOf c ⟨x.val / 32, by omega⟩)) : EReal) := by
  unfold LW
  rw [H.tab c, H.len c]
  have e : ∀ p : Fin 256, (if 0 < ((cnt (used ln b) (page bt b) (pgOf c p) : ℝ) : EReal) then
        Ideal.log (max ((cnt (used ln b) (page bt b) (pgOf c p) : ℝ) : EReal) (Ideal.ofBits .f32 34086122#32)) else (Named.named κ "mask" 3463342888#32 : Ideal .f32))
      = if cnt (used ln b) (page bt b) (pgOf c p) = 0 then (⊥ : EReal) else (Real.log (cnt (used ln b) (page bt b) (pgOf c p)) : EReal) := by
    intro p
    generalize cnt (used ln b) (page bt b) (pgOf c p) = n
    by_cases hn : n = 0
    · subst hn
      simp [mask_eq]
    · have h1 : (1 : ℝ) ≤ n := by exact_mod_cast Nat.one_le_iff_ne_zero.2 hn
      rw [if_neg hn, if_pos (by exact_mod_cast (by linarith : (0 : ℝ) < n)), max_eq_left (tiny_le.trans (EReal.coe_le_coe_iff.2 h1)), Ideal.log_coe, if_neg (by linarith)]
  pointwise [k0_pay19, k0_pay4, k0_pay1, k0_pay2, k0_pay3]
  simp only [count_eq H, page_word]
  simp only [e, eq_word, real_bit]
  rw [sum_eq_single (⟨x.val / 32, by omega⟩ : Fin 256)]
  · rw [if_pos rfl, mul_one]
  · intro p _ hp
    have hne : ¬ BitVec.ofNat 32 (x.val / 32) = BitVec.ofNat 32 p.val := by
      intro h
      rw [ofNat_inj _ _ (by omega) (by omega)] at h
      exact hp (Fin.ext h.symm)
    rw [if_neg hne, mul_zero]
  · intro h; exact absurd (mem_univ _) h

theorem vQ_at (c : Dev nD) (h : Fin 8) (b : Fin 32) (d : Fin 128) :
    vQ m c (ci h) (ix4 b (0 : Fin 1) (0 : Fin 1) d) = qC m c (ix4 b (0 : Fin 1) (⟨head c h.val, by unfold head; omega⟩ : Fin 16) d) := by
  unfold vQ
  rw [View.readAt_apply]
  refine congrArg (qC m c) (funext fun a => Fin.ext ?_)
  have e := off29_eq (ci h) c
  rw [hd_ci] at e
  fin_cases a
  · show k0_off29 (ci h) c 0 + 1 * b.val = b.val
    rw [e]; simp
  · show k0_off29 (ci h) c 1 + 1 * 0 = 0
    rw [e]; simp
  · show k0_off29 (ci h) c 2 + 1 * 0 = head c h.val
    rw [e]; simp
  · show k0_off29 (ci h) c 3 + 1 * d.val = d.val
    rw [e]; simp

/-- A head's page keys, as a step reads them. -/
theorem slot_at (X : S256x32x16x128.Idx → EReal) (n : ℕ) (hn : n < 16) (h : Fin 8) (p : Fin 256) (j : Fin 32) (d : Fin 128) :
    (kB : Memref sig .tc .vmem S2x256x32x128 .f32).view.readAt (Elt Ideal) (Rect.unit (s := S2x256x32x128) (k0_off30 (ci h)) S1x256x32x128.size (k0_off30_inb (ci h))).toLoadRect
      (slotOf (F := Ideal) X n) (ix4 (0 : Fin 1) p j d) = X (ix4 p j (⟨n, hn⟩ : Fin 16) d) := by
  rw [View.readAt_apply]
  have e := off30_eq (ci h)
  refine congrArg X (funext fun a => Fin.ext ?_)
  fin_cases a
  · show k0_off30 (ci h) 1 + 1 * p.val = p.val
    rw [e]; simp
  · show k0_off30 (ci h) 2 + 1 * j.val = j.val
    rw [e]; simp
  · exact Nat.mod_eq_of_lt hn
  · show k0_off30 (ci h) 3 + 1 * d.val = d.val
    rw [e]; simp

/-- The weight of a key. -/
theorem pay20_at (q : Vec Ideal S32x1x1x128 .f32) (k : Vec Ideal S1x256x32x128 .f32) (w : Vec Ideal S32x8192 .f32) (b : Fin 32) (x : Fin 8192) :
    k0_pay20 (F := Ideal) q k w (ix2 b x) = Ideal.exp ((∑ d : Fin 128, q (ix4 b (0 : Fin 1) (0 : Fin 1) d) * (scl : EReal)
      * k (ix4 (0 : Fin 1) (⟨x.val / 32, by omega⟩ : Fin 256) (⟨x.val % 32, by omega⟩ : Fin 32) d)) + w (ix2 b x)) := by
  pointwise [k0_pay20]
  simp only [scl_eq]

theorem weight_eq (H : Holds m Qr Kr Vg bt ln) (c : Dev nD) (h : Fin 8) (b : Fin 32) (x : Fin 8192) :
    k0_pay20 (F := Ideal) (vQ m c (ci h)) (vK m c (ci h)) (LW m c) (ix2 b x)
      = (((cnt (used ln b) (page bt b) (pgOf c ⟨x.val / 32, by omega⟩) : ℝ)
        * Real.exp (score Qr Kr b ⟨head c h.val, by unfold head; omega⟩ (pgOf c ⟨x.val / 32, by omega⟩) ⟨x.val % 32, by omega⟩) : ℝ) : EReal) := by
  have hk : ∀ (p : Fin 256) (j : Fin 32) (d : Fin 128), vK m c (ci h) (ix4 (0 : Fin 1) p j d) = (Kr (ix4 (pgOf c p) j (⟨head c h.val, by unfold head; omega⟩ : Fin 16) d) : EReal) := by
    intro p j d
    unfold vK kAt
    rw [hd_ci, slot_at _ _ (by unfold head; omega), H.k]
  rw [pay20_at, LW_at H]
  simp only [vQ_at, hk, H.q]
  have hs : (∑ d : Fin 128, (Qr (ix4 b (0 : Fin 1) (⟨head c h.val, by unfold head; omega⟩ : Fin 16) d) : EReal) * (scl : EReal)
      * (Kr (ix4 (pgOf c ⟨x.val / 32, by omega⟩) (⟨x.val % 32, by omega⟩ : Fin 32) (⟨head c h.val, by unfold head; omega⟩ : Fin 16) d) : EReal))
      = (score Qr Kr b ⟨head c h.val, by unfold head; omega⟩ (pgOf c ⟨x.val / 32, by omega⟩) ⟨x.val % 32, by omega⟩ : EReal) := by
    unfold score
    rw [Finset.sum_mul, coe_sum1]
    refine sum_congr rfl fun d _ => ?_
    rw [← EReal.coe_mul, ← EReal.coe_mul]
    congr 1
    ring
  rw [hs]
  generalize cnt (used ln b) (page bt b) (pgOf c ⟨x.val / 32, by omega⟩) = n
  generalize score Qr Kr b ⟨head c h.val, by unfold head; omega⟩ (pgOf c ⟨x.val / 32, by omega⟩) ⟨x.val % 32, by omega⟩ = r
  by_cases hn : n = 0
  · subst hn
    rw [if_pos rfl, EReal.add_bot, Ideal.exp_bot]
    simp
  · have h1 : (0 : ℝ) < n := by exact_mod_cast Nat.pos_of_ne_zero hn
    rw [if_neg hn, ← EReal.coe_add, Ideal.exp_coe, Real.exp_add, Real.exp_log h1, mul_comm]

/-- A step's partial output. -/
theorem OA_at (H : Holds m Qr Kr Vg bt ln) (c : Dev nD) (h : Fin 8) (b : Fin 32) (d : Fin 128) : OA m c (ix3 h b d)
    = ∑ p : Fin 256, ∑ j : Fin 32, (((cnt (used ln b) (page bt b) (pgOf c p) : ℝ)
        * Real.exp (score Qr Kr b ⟨head c h.val, by unfold head; omega⟩ (pgOf c p) j) : ℝ) : EReal)
        * Vg (ix4 (pgOf c p) j (⟨head c h.val, by unfold head; omega⟩ : Fin 16) d) := by
  have hv : ∀ (p : Fin 256) (j : Fin 32) (d : Fin 128), vV m c (ci h) (ix4 (0 : Fin 1) p j d) = Vg (ix4 (pgOf c p) j (⟨head c h.val, by unfold head; omega⟩ : Fin 16) d) := by
    intro p j d
    unfold vV vAt
    rw [hd_ci, ← H.v]
    exact slot_at _ _ (by unfold head; omega) h p j d
  have e : OA m c (ix3 h b d) = k0_pay21 (F := Ideal) (vQ m c (ci h)) (vK m c (ci h)) (vV m c (ci h)) (LW m c) (ix3 (0 : Fin 1) b d) := rfl
  rw [e, ← sum_keys]
  have e2 : k0_pay21 (F := Ideal) (vQ m c (ci h)) (vK m c (ci h)) (vV m c (ci h)) (LW m c) (ix3 (0 : Fin 1) b d)
      = ∑ x : Fin 8192, k0_pay20 (F := Ideal) (vQ m c (ci h)) (vK m c (ci h)) (LW m c) (ix2 b x) * vV m c (ci h) (ix4 (0 : Fin 1) (⟨x.val / 32, by omega⟩ : Fin 256) (⟨x.val % 32, by omega⟩ : Fin 32) d) := by
    generalize vQ m c (ci h) = q
    generalize vK m c (ci h) = k
    generalize vV m c (ci h) = v
    generalize LW m c = w
    pointwise [k0_pay21]
  rw [e2]
  simp only [weight_eq H, hv]

/-- A step's partial sum. -/
theorem LA_at (H : Holds m Qr Kr Vg bt ln) (c : Dev nD) (h : Fin 8) (b : Fin 32) : LA m c (ix3 h b (0 : Fin 1))
    = ∑ p : Fin 256, ∑ j : Fin 32, (((cnt (used ln b) (page bt b) (pgOf c p) : ℝ)
        * Real.exp (score Qr Kr b ⟨head c h.val, by unfold head; omega⟩ (pgOf c p) j) : ℝ) : EReal) := by
  have e : LA m c (ix3 h b (0 : Fin 1)) = k0_pay22 (F := Ideal) (vQ m c (ci h)) (vK m c (ci h)) (LW m c) (ix3 (0 : Fin 1) b (0 : Fin 1)) := rfl
  rw [e, ← sum_keys]
  have e2 : k0_pay22 (F := Ideal) (vQ m c (ci h)) (vK m c (ci h)) (LW m c) (ix3 (0 : Fin 1) b (0 : Fin 1))
      = ∑ x : Fin 8192, k0_pay20 (F := Ideal) (vQ m c (ci h)) (vK m c (ci h)) (LW m c) (ix2 b x) := by
    generalize vQ m c (ci h) = q
    generalize vK m c (ci h) = k
    generalize LW m c = w
    pointwise [k0_pay22]
  rw [e2]
  simp only [weight_eq H]

/-- The payloads of the last step, head by head. -/
theorem finPay_at (c : Dev nD) (k : Fin 8) (b : Fin 32) (d : Fin 128) : finPay m c k (ix2 b d)
    = (OA m c (ix3 k b d) + OA m (peerX c) (ix3 k b d)) * Ideal.div 1 (LA m c (ix3 k b (0 : Fin 1)) + LA m (peerX c) (ix3 k b (0 : Fin 1))) := by
  unfold finPay
  generalize OA m c = o
  generalize OA m (peerX c) = o'
  generalize LA m c = l
  generalize LA m (peerX c) = l'
  fin_cases k
  · pointwise [k0_pay7, k0_pay5, k0_pay6]
  · pointwise [k0_pay8, k0_pay5, k0_pay6]
  · pointwise [k0_pay11, k0_pay9, k0_pay10, k0_pay5, k0_pay6]
  · pointwise [k0_pay12, k0_pay5, k0_pay6]
  · pointwise [k0_pay13, k0_pay5, k0_pay6]
  · pointwise [k0_pay14, k0_pay5, k0_pay6]
  · pointwise [k0_pay15, k0_pay5, k0_pay6]
  · pointwise [k0_pay18, k0_pay16, k0_pay17, k0_pay5, k0_pay6]

/-- What a device stores for the head of its step `h`. -/
theorem finPay_eq (H : Holds m Qr Kr Vg bt ln) (c : Dev nD) (h : Fin 8) (b : Fin 32) (d : Fin 128) :
    finPay m c h (ix2 b d) = ATT Qr Kr Vg bt ln b ⟨head c h.val, by unfold head; omega⟩ d := by
  have hx : head (peerX c) h.val = head c h.val := by unfold head; rw [peerX_mod]
  rw [finPay_at, OA_at H, OA_at H, LA_at H, LA_at H]
  simp only [hx]
  generalize hg : (⟨head c h.val, by unfold head; omega⟩ : Fin 16) = g
  rw [sum_pages c fun p => ∑ j : Fin 32, (((cnt (used ln b) (page bt b) p : ℝ) * Real.exp (score Qr Kr b g p j) : ℝ) : EReal) * Vg (ix4 p j g d),
    sum_pages c fun p => ∑ j : Fin 32, (((cnt (used ln b) (page bt b) p : ℝ) * Real.exp (score Qr Kr b g p j) : ℝ) : EReal), ← coe_sum2]
  unfold ATT
  have ht := (tot_pos (used ln b) (page bt b) (score Qr Kr b g) (H.some b)).ne'
  congr 1
  rw [show (∑ p, ∑ j, (cnt (used ln b) (page bt b) p : ℝ) * Real.exp (score Qr Kr b g p j)) = tot (used ln b) (page bt b) (score Qr Kr b g) from rfl,
    Ideal.div_coe ht, one_mul]

/-- The kernel's result. -/
theorem RES_eq (H : Holds m Qr Kr Vg bt ln) (c : Dev nD) (b : Fin 32) (x : Fin 2048) :
    RES m c (ix2 b x) = ATT Qr Kr Vg bt ln b ⟨x.val / 128, by omega⟩ ⟨x.val % 128, by omega⟩ := by
  have hO : ∀ c : Dev nD, x.val / 1024 = c.val % 2 → OUT m c (ix2 b x) = ATT Qr Kr Vg bt ln b ⟨x.val / 128, by omega⟩ ⟨x.val % 128, by omega⟩ := by
    intro c hc
    have e : OUT m c (ix2 b x) = finPay m c ⟨x.val % 1024 / 128, by omega⟩ (ix2 b (⟨x.val % 128, by omega⟩ : Fin 128)) := rfl
    rw [e, finPay_eq H]
    congr 1
    refine Fin.ext ?_
    show head c (x.val % 1024 / 128) = x.val / 128
    unfold head
    omega
  unfold RES
  show (if x.val / 1024 = c.val % 2 then _ else _) = _
  split
  · next h => exact hO c h
  · next h => exact hO (peerY c) (by rw [peerY_mod]; omega)

end Cert.Paged

end
-- ==== Proof.RVal.lean ====
/-
  What the reference computes, read at an index.
-/
module

public import proofs.«01_k».proof.Proof.Att
public import proofs.«01_k».proof.Proof.Gen.ReferenceIdeal.Run

@[expose] public section

noncomputable section

namespace Cert.Paged.Ref

open Cert.ReferenceIdeal Cert.ReferenceIdeal.Facts₀
open Idealize.ShloMosaic Finset

variable (Q : S32x1x16x128.Idx → EReal) (K V : S512x32x16x128.Idx → EReal) (bt : S32x256.Idx → BitVec 32) (ln : S32x1.Idx → BitVec 32)

/-- The pages of an array that the table names. -/
def rG (K : S512x32x16x128.Idx → EReal) : S32x256x32x16x128.Idx → EReal :=
  Host.gather gather_S512x32x16x128_S32x256x1_S32x256x32x16x128_234_0_n_n_0_2_13216128 K (broadcastInDim S32x256x1 ![0, 1] bcast_S32x256_S32x256x1_0_1 bt)

/-- The slots in use. -/
def rOk : S32x1x256x1.Idx → BitVec 1 :=
  broadcastInDim S32x1x256x1 ![0, 2] bcast_S32x256_S32x1x256x1_0_2 (cmpi .slt (broadcastInDim S32x256 ![0, 1] bcast_S1x256_S32x256_0_1 (broadcastInDim S1x256 ![1] bcast_S256_S1x256_1 (iotaInDim S256 32 0))) (broadcastInDim S32x256 ![0, 1] bcast_S32x1_S32x256_0_1 ln))

/-- The masked scores. -/
def rS : FVec Ideal S32x16x256x32 .f32 :=
  select (broadcastInDim S32x16x256x32 ![0, 1, 2, 3] bcast_S32x1x256x1_S32x16x256x32_0_1_2_3 (rOk ln))
    (mulf (F := Ideal) (Host.dotGeneral (F := Ideal) (φ₁ := .f32) (φ₂ := .f32) dot_S32x16x128_S32x256x32x16x128_S32x16x256x32_2_4_n_12_01_03 none (shapeCast (α := EReal) S32x16x128 Q shapeCasts_S32x1x16x128_S32x16x128) (rG bt K))
      (broadcastInDim S32x16x256x32 ![] bcast_S_S32x16x256x32 (constant (F := Ideal) S_ .f32 0x3DB504F3#32)))
    (broadcastInDim S32x16x256x32 ![] bcast_S_S32x16x256x32 (id (constant (F := Ideal) S_ .f32 0xFF800000#32)))

/-- A row's and head's greatest score. -/
def rM (S : FVec Ideal S32x16x256x32 .f32) : FVec Ideal S32x16 .f32 :=
  Host.reduce FloatOps.maximumf S (constant (F := Ideal) S_ .f32 0xFF800000#32) reducesTo_S32x16x256x32_S32x16_d2_3 h_S_

/-- The exponentials. -/
def rE (S : FVec Ideal S32x16x256x32 .f32) : FVec Ideal S32x16x256x32 .f32 :=
  Host.exp (F := Ideal) (subf (F := Ideal) S (broadcastInDim S32x16x256x32 ![0, 1, 2, 3] bcast_S32x16x1x1_S32x16x256x32_0_1_2_3 (broadcastInDim S32x16x1x1 ![0, 1] bcast_S32x16_S32x16x1x1_0_1 (rM S))))

/-- The softmax. -/
def rP (E : FVec Ideal S32x16x256x32 .f32) : FVec Ideal S32x16x256x32 .f32 :=
  Host.divf (F := Ideal) E (broadcastInDim S32x16x256x32 ![0, 1, 2, 3] bcast_S32x16x1x1_S32x16x256x32_0_1_2_3 (broadcastInDim S32x16x1x1 ![0, 1] bcast_S32x16_S32x16x1x1_0_1
    (Host.reduceAdd (F := Ideal) E (constant (F := Ideal) S_ .f32 0x00000000#32) reducesTo_S32x16x256x32_S32x16_d2_3 h_S_)))

/-- The result. -/
def rOut (P : FVec Ideal S32x16x256x32 .f32) (G : S32x256x32x16x128.Idx → EReal) : FVec Ideal S32x2048 .f32 :=
  shapeCast S32x2048 (Host.dotGeneral (F := Ideal) (φ₁ := .f32) (φ₂ := .f32) dot_S32x16x256x32_S32x256x32x16x128_S32x16x128_32_21_n_4_01_03 none P G) shapeCasts_S32x16x128_S32x2048

theorem res_eq (m : (ℓ : Loc nD τ sig) → Buf (Elt Ideal) ℓ) (c : Dev nD) :
    Cert.ReferenceIdeal.Value.res_main_v23 m c = rOut (rP (rE (rS (m ((c.tc : Thread nD τ).loc main_arg0)) (m ((c.tc : Thread nD τ).loc main_arg1)) (m ((c.tc : Thread nD τ).loc main_arg3)) (m ((c.tc : Thread nD τ).loc main_arg4)))))
      (rG (m ((c.tc : Thread nD τ).loc main_arg3)) (m ((c.tc : Thread nD τ).loc main_arg2))) := rfl

theorem rG_at (b : Fin 32) (s : Fin 256) (j : Fin 32) (h : Fin 16) (d : Fin 128) :
    rG bt K (ix5 b s j h d) = K (ix4 (page bt b s) j h d) := by
  unfold rG Host.gather
  refine congrArg K (funext fun a => Fin.ext ?_)
  have hb : ∀ a', GatherDims.batchCoord gather_S512x32x16x128_S32x256x1_S32x256x32x16x128_234_0_n_n_0_2_13216128 (ix5 b s j h d) a' = 0 :=
    fun a' => GatherDims.batchCoord_eq_zero _ _ _ (by show a' ∉ []; exact List.not_mem_nil)
  unfold GatherDims.operandIdx
  simp only [hb, Nat.add_zero]
  match a with
  | ⟨0, _⟩ =>
    rw [GatherDims.offCoord_eq_zero _ _ _ (by decide +revert)]
    unfold GatherDims.start
    rw [dif_pos (by decide +revert)]
    show min (bt _).toInt.toNat 511 = min (bt _).toInt.toNat 511
    congr 4
    funext x
    fin_cases x <;> rfl
  | ⟨1, _⟩ =>
    unfold GatherDims.start GatherDims.offCoord
    rw [dif_neg (by decide +revert), dif_pos (by decide +revert), Nat.zero_add]
    rfl
  | ⟨2, _⟩ =>
    unfold GatherDims.start GatherDims.offCoord
    rw [dif_neg (by decide +revert), dif_pos (by decide +revert), Nat.zero_add]
    rfl
  | ⟨3, _⟩ =>
    unfold GatherDims.start GatherDims.offCoord
    rw [dif_neg (by decide +revert), dif_pos (by decide +revert), Nat.zero_add]
    rfl

theorem rOk_at (b : Fin 32) (s : Fin 256) : rOk ln (ix4 b (0 : Fin 1) s (0 : Fin 1)) = IntOp.cmpi .slt (BitVec.ofNat 32 s.val) (ln (ix2 b (0 : Fin 1))) := by
  unfold rOk
  pointwise

theorem rS_at (b : Fin 32) (h : Fin 16) (s : Fin 256) (j : Fin 32) : rS Q K bt ln (ix4 b h s j)
    = if used ln b s then (∑ d : Fin 128, Q (ix4 b (0 : Fin 1) h d) * K (ix4 (page bt b s) j h d)) * (scl : EReal) else ⊥ := by
  unfold rS
  pointwise
  simp only [rG_at, rOk_at, scl_eq, minus_inf]
  rfl

theorem rE_at (S : FVec Ideal S32x16x256x32 .f32) (b : Fin 32) (h : Fin 16) (s : Fin 256) (j : Fin 32) :
    rE S (ix4 b h s j) = Ideal.exp (S (ix4 b h s j) - rM S (ix2 b h)) := by
  unfold rE
  pointwise

theorem rP_at (E : FVec Ideal S32x16x256x32 .f32) (b : Fin 32) (h : Fin 16) (s : Fin 256) (j : Fin 32) :
    rP E (ix4 b h s j) = Ideal.div (E (ix4 b h s j)) (∑ s, ∑ j, E (ix4 b h s j)) := by
  unfold rP
  pointwise

theorem rOut_at (P : FVec Ideal S32x16x256x32 .f32) (G : S32x256x32x16x128.Idx → EReal) (b : Fin 32) (x : Fin 2048) :
    rOut P G (ix2 b x) = ∑ s, ∑ j, P (ix4 b (⟨x.val / 128, by omega⟩ : Fin 16) s j) * G (ix5 b s j (⟨x.val / 128, by omega⟩ : Fin 16) (⟨x.val % 128, by omega⟩ : Fin 128)) := by
  unfold rOut
  pointwise
  exact sum_comm

theorem rM_real (S : FVec Ideal S32x16x256x32 .f32) (b : Fin 32) (h : Fin 16) (ok : Fin 256 → Prop) [DecidablePred ok] (f : Fin 256 → Fin 32 → ℝ)
    (hS : ∀ s j, S (ix4 b h s j) = if ok s then (f s j : EReal) else ⊥) (hex : ∃ s, ok s) : ∃ M : ℝ, rM S (ix2 b h) = (M : EReal) := by
  have hd : ∀ (b' : Fin 32) (h' : Fin 16) (s : Fin 256) (j : Fin 32), reducesTo_S32x16x256x32_S32x16_d2_3.drop (ix4 b' h' s j) = ix2 b' h' := by
    intro b' h' s j
    funext a
    fin_cases a <;> rfl
  have e : rM S (ix2 b h) = (univ.filter fun i => reducesTo_S32x16x256x32_S32x16_d2_3.drop i = ix2 b h).fold max ⊥ S := by
    rw [← minus_inf]
    exact Host.reduce_eq_fold (max : EReal → EReal → EReal) S _ _ _ _
  have h1 : rM S (ix2 b h) < ⊤ := by
    rw [e]
    refine (Finset.fold_max_lt _).2 ⟨bot_lt_top, fun i hi => ?_⟩
    have hi' := (mem_filter.1 hi).2
    obtain ⟨b', h', s, j, rfl⟩ : ∃ (b' : Fin 32) (h' : Fin 16) (s : Fin 256) (j : Fin 32), i = ix4 b' h' s j := ⟨_, _, _, _, Idealize.ShloMosaic.eq_ix4 i⟩
    rw [hd] at hi'
    have h0 : b' = b := congrFun hi' 0
    have h1 : h' = h := congrFun hi' 1
    rw [h0, h1, hS]
    split
    · exact EReal.coe_lt_top _
    · exact bot_lt_top
  have h2 : ⊥ < rM S (ix2 b h) := by
    rw [e]
    obtain ⟨s, hs⟩ := hex
    refine (Finset.lt_fold_max _).2 (Or.inr ⟨ix4 b h s (0 : Fin 32), mem_filter.2 ⟨mem_univ _, hd _ _ _ _⟩, ?_⟩)
    rw [hS, if_pos hs]
    exact EReal.bot_lt_coe _
  exact ⟨(rM S (ix2 b h)).toReal, (EReal.coe_toReal h1.ne h2.ne').symm⟩

/-- The reference's result. -/
theorem out_eq (Qr : S32x1x16x128.Idx → ℝ) (Kr : S512x32x16x128.Idx → ℝ) (b : Fin 32) (x : Fin 2048) (hex : ∃ s, used ln b s) :
    rOut (rP (rE (rS (fun i => (Qr i : EReal)) (fun i => (Kr i : EReal)) bt ln))) (rG bt V) (ix2 b x)
      = ATT Qr Kr V bt ln b ⟨x.val / 128, by omega⟩ ⟨x.val % 128, by omega⟩ := by
  have hS : ∀ h s j, rS (fun i => (Qr i : EReal)) (fun i => (Kr i : EReal)) bt ln (ix4 b h s j)
      = if used ln b s then (score Qr Kr b h (page bt b s) j : EReal) else ⊥ := by
    intro h s j
    rw [rS_at]
    refine if_congr Iff.rfl ?_ rfl
    unfold score
    rw [EReal.coe_mul, coe_sum1]
    exact congrArg (· * (scl : EReal)) (sum_congr rfl fun d _ => (EReal.coe_mul _ _).symm)
  rw [rOut_at]
  generalize hh : (⟨x.val / 128, by omega⟩ : Fin 16) = h
  generalize (⟨x.val % 128, by omega⟩ : Fin 128) = d
  obtain ⟨M, hM⟩ := rM_real _ b h (used ln b) (fun s j => score Qr Kr b h (page bt b s) j) (hS h) hex
  have hE : ∀ s j, rE (rS (fun i => (Qr i : EReal)) (fun i => (Kr i : EReal)) bt ln) (ix4 b h s j)
      = (wgt (used ln b) (page bt b) (score Qr Kr b h) M s j : EReal) := by
    intro s j
    rw [rE_at, hM, hS]
    unfold wgt
    split
    · rw [← EReal.coe_sub, Ideal.exp_coe]
    · rw [EReal.bot_sub, Ideal.exp_bot, EReal.coe_zero]
  have hz : (∑ s, ∑ j, wgt (used ln b) (page bt b) (score Qr Kr b h) M s j) ≠ 0 := by
    rw [sum_wgt]
    exact mul_ne_zero (tot_pos _ _ _ hex).ne' (Real.exp_pos _).ne'
  have hP : ∀ s j, rP (rE (rS (fun i => (Qr i : EReal)) (fun i => (Kr i : EReal)) bt ln)) (ix4 b h s j)
      = ((wgt (used ln b) (page bt b) (score Qr Kr b h) M s j / (∑ s, ∑ j, wgt (used ln b) (page bt b) (score Qr Kr b h) M s j) : ℝ) : EReal) := by
    intro s j
    rw [rP_at]
    simp only [hE]
    rw [← coe_sum2, Ideal.div_coe hz, ← EReal.coe_mul, mul_one_div]
  simp only [hP, rG_at]
  exact (soft (used ln b) (page bt b) (score Qr Kr b h) (fun p j => V (ix4 p j h d)) M).symm

end Cert.Paged.Ref

end
-- ==== Proof.Pre.lean ====
/-
  What the precondition says of the arguments.
-/
module

public import proofs.«01_k».proof.Pre_pages_given_KernelIdeal
public import proofs.«01_k».proof.Proof.Att
public import Idealize.ShloMosaic.Lib.ReduceAll
public import Idealize.ShloMosaic.Lib.StableHlo.Predicate

@[expose] public section

noncomputable section

namespace Cert.Paged

open Idealize.ShloMosaic Cert.Pre_pages_given_KernelIdeal

instance : Subsingleton S_.Idx := ⟨fun _ _ => funext fun x => x.elim0⟩

theorem andi_one (x y : IVec S_ 1) (i : S_.Idx) (h : andi x y i = 1#1) : x i = 1#1 ∧ y i = 1#1 := by
  have e : ∀ a b : BitVec 1, a &&& b = 1#1 → a = 1#1 ∧ b = 1#1 := by decide
  exact e _ _ h

theorem facts_pre : Facts := by
  constructor <;> decide

theorem finite_of (x : EReal) (h : Ideal.cmp .olt (max x (-x)) (Ideal.ofBits .f32 0x7F800000#32) = 1#1) : ∃ r : ℝ, x = (r : EReal) := by
  have h' : max x (-x) < ⊤ := by
    rw [plus_inf] at h
    by_contra hn
    have e : Ideal.cmp .olt (max x (-x)) ⊤ = BitVec.ofBool (decide (max x (-x) < ⊤)) := rfl
    rw [e, decide_eq_false hn] at h
    exact absurd h (by decide)
  have h1 : x ≠ ⊤ := (lt_of_le_of_lt (le_max_left _ _) h').ne
  have h2 : x ≠ ⊥ := by
    rintro rfl
    exact absurd (lt_of_le_of_lt (le_max_right _ _) h') (by simp)
  exact ⟨x.toReal, (EReal.coe_toReal h1 h2).symm⟩

theorem slot_of_length (l : BitVec 32) (h : IntOp.cmpi .sge l 1#32 = 1#1) : IntOp.cmpi .slt 0#32 l = 1#1 := by
  have e1 : IntOp.cmpi .sge l 1#32 = BitVec.ofBool ((1#32).sle l) := rfl
  have e2 : IntOp.cmpi .slt 0#32 l = BitVec.ofBool ((0#32).slt l) := rfl
  rw [e1] at h
  have h' : (1#32).sle l = true := by
    cases hc : (1#32).sle l
    · rw [hc] at h; exact absurd h (by decide)
    · rfl
  rw [BitVec.sle_iff_toInt_le] at h'
  have h1 : (1#32).toInt = 1 := by decide
  have h0 : (0#32).toInt = 0 := by decide
  rw [e2, BitVec.slt_iff_toInt_lt.2 (by omega)]
  rfl

theorem page_of_bits (w : BitVec 32) (h : IntOp.andi (IntOp.cmpi .sge w 0#32) (IntOp.cmpi .slt w 512#32) = 1#1) :
    w = BitVec.ofNat 32 (min w.toInt.toNat 511) := by
  have e : ∀ a b : Bool, BitVec.ofBool a &&& BitVec.ofBool b = 1#1 → a = true ∧ b = true := by decide
  obtain ⟨h1, h2⟩ := e ((0#32).sle w) (w.slt 512#32) h
  rw [BitVec.sle_iff_toInt_le] at h1
  rw [BitVec.slt_iff_toInt_lt] at h2
  have h0 : (0#32).toInt = 0 := by decide
  have h5 : (512#32).toInt = 512 := by decide
  rw [Nat.min_eq_left (by omega)]
  apply BitVec.eq_of_toInt_eq
  have e3 : (BitVec.ofNat 32 w.toInt.toNat).toInt = (w.toInt.toNat : ℤ) := StableHlo.Predicate.toInt_ofNat_small _ (by omega)
  rw [e3]
  omega

variable [Facts] (A0 : FVec Ideal S32x1x16x128 .f32) (A1 A2 : FVec Ideal S256x32x16x128 .f32) (bt : IVec S32x256 32) (ln : IVec S32x1 32)

theorem pre_read (h : fn (F := Ideal) A0 A1 A2 bt ln = fun _ => 1#1) :
    (∀ i, ∃ r : ℝ, A0 i = (r : EReal)) ∧ (∀ i, ∃ r : ℝ, A1 i = (r : EReal)) ∧ (∀ b, ∃ s, used ln b s)
      ∧ ∀ b s, used ln b s → bt (ix2 b s) = BitVec.ofNat 32 (page bt b s).val := by
  have h0 := congrFun h ix0
  unfold fn fn_part1 at h0
  dsimp only at h0
  obtain ⟨h0, h4⟩ := andi_one _ _ _ h0
  obtain ⟨h0, h3⟩ := andi_one _ _ _ h0
  obtain ⟨h1, h2⟩ := andi_one _ _ _ h0
  have g1 := Host.reduce_andi_all _ _ _ _ _ h1
  have g2 := Host.reduce_andi_all _ _ _ _ _ h2
  have g3 := Host.reduce_andi_all _ _ _ _ _ h3
  have g4 := Host.reduce_andi_all _ _ _ _ _ h4
  clear h h0 h1 h2 h3 h4
  refine ⟨fun i => ?_, fun i => ?_, fun b => ?_, fun b s hu => ?_⟩
  · exact finite_of (A0 i) (g1 i)
  · exact finite_of (A1 i) (g2 i)
  · have g := g3 (ix2 b (0 : Fin 1))
    revert g
    pointwise
    intro g
    exact ⟨(0 : Fin 256), slot_of_length _ g⟩
  · have g := g4 (ix2 b s)
    revert g
    pointwise
    intro g
    have hu' : IntOp.cmpi .slt (BitVec.ofNat 32 s.val) (ln (ix2 b (0 : Fin 1))) = 1#1 := hu
    rw [hu'] at g
    have e : ∀ a : BitVec 1, IntOp.ori a (~~~1#1) = 1#1 → a = 1#1 := by decide
    exact page_of_bits _ (e _ g)

end Cert.Paged

end
-- ==== Proof.Alg.lean ====
/-
  The kernel's result is the reference's.
-/
module

public import proofs.«01_k».proof.Defs
public import proofs.«01_k».proof.Proof.KVal
public import proofs.«01_k».proof.Proof.RVal
public import proofs.«01_k».proof.Proof.Pre

@[expose] public section

noncomputable section

namespace Cert.Paged

open Cert.KernelIdeal Cert.KernelIdeal.Gen
open Idealize.ShloMosaic Idealize.ShloMosaic.TcCoe Finset

instance : Cert.Pre_pages_given_KernelIdeal.Facts := facts_pre

theorem mesh_row : ∀ c : Fin 4, ((Layout.meshBlock [2, 2] ![[0], [], [], []] c) 0).val = c.val / 2 := by decide

/-- A device's block of a paged array holds its pages. -/
theorem block_at (c : Dev nD) (X : (⟨4, ![512, 32, 16, 128]⟩ : Shape).Idx → EReal) (p : Fin 256) (j : Fin 32) (h : Fin 16) (d : Fin 128) :
    (Layout.blockN ⟨4, ![256, 32, 16, 128]⟩ ⟨4, ![512, 32, 16, 128]⟩ (Layout.meshBlock [2, 2] ![[0], [], [], []] c) X) (ix4 p j h d) = X (ix4 (pgOf c p) j h d) := by
  rw [Layout.blockN_apply]
  refine congrArg X (funext fun a => Fin.ext ?_)
  rw [Layout.TilesN.idx_val]
  fin_cases a
  · show ((Layout.meshBlock [2, 2] ![[0], [], [], []] c) 0).val * 256 + p.val = 256 * (c.val / 2) + p.val
    rw [mesh_row, mul_comm]
  · show 0 * 32 + j.val = j.val
    omega
  · show 0 * 16 + h.val = h.val
    omega
  · show 0 * 128 + d.val = d.val
    omega

variable (m : (ℓ : Loc Cert.KernelIdeal.nD Cert.KernelIdeal.τ Cert.KernelIdeal.sig) → Buf (Elt Ideal) ℓ)
  (Q : (⟨4, ![32, 1, 16, 128]⟩ : Shape).Idx → EReal) (K V : (⟨4, ![512, 32, 16, 128]⟩ : Shape).Idx → EReal)
  (bt : (⟨2, ![32, 256]⟩ : Shape).Idx → BitVec 32) (ln : (⟨2, ![32, 1]⟩ : Shape).Idx → BitVec 32)

theorem agree (hpre : Cert.Pre_KernelIdeal_pages_given_KernelIdeal m)
    (hl : ∀ c : Dev nD, qC m c = Q
      ∧ kArg m c = Layout.blockN ⟨4, ![256, 32, 16, 128]⟩ ⟨4, ![512, 32, 16, 128]⟩ (Layout.meshBlock [2, 2] ![[0], [], [], []] c) K
      ∧ vArg m c = Layout.blockN ⟨4, ![256, 32, 16, 128]⟩ ⟨4, ![512, 32, 16, 128]⟩ (Layout.meshBlock [2, 2] ![[0], [], [], []] c) V
      ∧ btC m c = bt ∧ lnC m c = ln) (c : Dev nD) :
    RES m c = Ref.rOut (Ref.rP (Ref.rE (Ref.rS Q K bt ln))) (Ref.rG bt V) := by
  have hr : ∀ c : Dev nD, (∀ i, ∃ r : ℝ, qC m c i = (r : EReal)) ∧ (∀ i, ∃ r : ℝ, kArg m c i = (r : EReal)) ∧ (∀ b, ∃ s, used (lnC m c) b s)
      ∧ ∀ b s, used (lnC m c) b s → btC m c (ix2 b s) = BitVec.ofNat 32 (page (btC m c) b s).val := fun c => pre_read _ _ _ _ _ (hpre c)
  have hQ : ∀ i, ∃ r : ℝ, Q i = (r : EReal) := fun i => by
    rw [← (hl 0).1]
    exact (hr 0).1 i
  have hK : ∀ i, ∃ r : ℝ, K i = (r : EReal) := by
    intro i
    obtain ⟨p, j, h, d, rfl⟩ : ∃ (p : Fin 512) (j : Fin 32) (h : Fin 16) (d : Fin 128), i = ix4 p j h d := ⟨_, _, _, _, Idealize.ShloMosaic.eq_ix4 i⟩
    obtain ⟨r, hr'⟩ := (hr (⟨2 * (p.val / 256), by show _ < 4; omega⟩ : Dev nD)).2.1 (ix4 (⟨p.val % 256, by omega⟩ : Fin 256) j h d)
    refine ⟨r, ?_⟩
    rw [(hl _).2.1, block_at] at hr'
    rw [← hr']
    congr 2
    refine Fin.ext ?_
    show p.val = 256 * (2 * (p.val / 256) / 2) + p.val % 256
    omega
  choose Qr hQr using hQ
  choose Kr hKr using hK
  obtain rfl : Q = fun i => (Qr i : EReal) := funext hQr
  obtain rfl : K = fun i => (Kr i : EReal) := funext hKr
  have h0 := hr 0
  rw [(hl 0).2.2.2.1, (hl 0).2.2.2.2] at h0
  have H : Holds m Qr Kr V bt ln :=
    { q := fun c i => congrFun (hl c).1 i
      k := fun c p j h d => by rw [(hl c).2.1, block_at]
      v := fun c p j h d => by rw [(hl c).2.2.1, block_at]
      tab := fun c => (hl c).2.2.2.1
      len := fun c => (hl c).2.2.2.2
      there := h0.2.2.2
      some := h0.2.2.1 }
  funext i
  obtain ⟨b, x, rfl⟩ : ∃ (b : Fin 32) (x : Fin 2048), i = ix2 b x := ⟨_, _, Idealize.ShloMosaic.eq_ix2 i⟩
  rw [RES_eq H, Ref.out_eq _ _ _ _ _ _ _ (h0.2.2.1 b)]

end Cert.Paged

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Twin
public import proofs.«01_k».proof.Proof.Alg
public import Idealize.ShloMosaic.Lib.Quiescent
public import Idealize.ShloMosaic.Adequacy
public import Idealize.ShloMosaic.Init

@[expose] public section

noncomputable section

namespace Cert.Proof

open Idealize.ShloMosaic Idealize.SL.Sem Cert.Paged

theorem frame_bits : Cert.quiescent_Kernel := fun m g _ =>
  (θ_run (Cert.Kernel.defs (F := Bits)) _ _).mono
    (fun _ h => ⟨fun c => ⟨(h.1 c).1, (h.1 c).2.1, (h.1 c).2.2.1, (h.1 c).2.2.2.1, (h.1 c).2.2.2.2.1⟩, h.2⟩) (run_bits m g)

theorem frame_ideal : Cert.quiescent_KernelIdeal := fun m g _ =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩) (run_main m g)

theorem frame_reference : Cert.quiescent_ReferenceIdeal := fun m g _ =>
  (θ_run (Cert.ReferenceIdeal.defs (F := Ideal)) _ _).mono
    (fun _ h => ⟨fun c => (h c).2, sem_eq_zero_of_no_sems rfl _⟩) (Cert.ReferenceIdeal.Value.run m g)

theorem mask_named : Cert.preserves_Kernel_KernelIdeal :=
  IdealRules.named_const.statement _ _ _ _ _ rfl

theorem facts_reference : Cert.Pre_pages_given_ReferenceIdeal.Facts := by
  constructor <;> decide

theorem attends : Cert.algebraic_KernelIdeal_ReferenceIdeal_pre_pages_given_KernelIdeal := fun m g m' g' hpre hl => by
  refine ⟨Cert.ReferenceIdeal.Value.res_main_v23 m' 0, ?_, ?_⟩
  · have hv : ∀ c, RES m c = Cert.ReferenceIdeal.Value.res_main_v23 m' 0 := fun c =>
      (agree m _ _ _ _ _ hpre hl c).trans (Ref.res_eq m' 0).symm
    exact (θ_run (Cert.KernelIdeal.defs (F := Ideal)) _ _).mono
      (fun _ h c => ⟨(h.1 c).2.2.2.2.2.trans (hv c), (h.1 c).1, (h.1 c).2.1, (h.1 c).2.2.1, (h.1 c).2.2.2.1, (h.1 c).2.2.2.2.1⟩) (run_main m g)
  · exact (θ_run (Cert.ReferenceIdeal.defs (F := Ideal)) _ _).mono (fun _ h => h 0) (Cert.ReferenceIdeal.Value.run m' g')

theorem claim : Cert.Claim :=
  ⟨Cert.Kernel.Gen.facts, Cert.KernelIdeal.Gen.facts, Cert.ReferenceIdeal.Gen.facts, facts_pre, facts_reference,
    frame_bits, frame_ideal, fun m g _ => frame_ideal m g trivial, frame_reference, fun m g _ => frame_reference m g trivial, mask_named, attends⟩

end Cert.Proof

end
